-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_pre [hPre_attn_pre : Cert.Pre_attn_pre.Facts] (m : (ℓ : Loc Cert.AttnIdeal.nD Cert.AttnIdeal.τ Cert.AttnIdeal.sig) → Buf (Elt Ideal) ℓ) : Prop :=
  ∀ c : Dev Cert.AttnIdeal.nD,
    (Cert.Pre_attn_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_attn_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_attn_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_attn_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.1 = (fun _ => 1#1)
    ∧ (Cert.Pre_attn_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_pre [hPre_attn_pre : Cert.Pre_attn_pre.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_pre.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_attn_pre.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_attn_pre.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_attn_pre.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.1 = (fun _ => 1#1)
    ∧ (Cert.Pre_attn_pre.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.2 = (fun _ => 1#1)

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_AttnCtx (m : (ℓ : Loc Cert.AttnCtx.nD Cert.AttnCtx.τ Cert.AttnCtx.sig) → Buf (Elt Bits) ℓ) : Prop :=
  True

def Pre_AttnCtxIdeal (m : (ℓ : Loc Cert.AttnCtxIdeal.nD Cert.AttnCtxIdeal.τ Cert.AttnCtxIdeal.sig) → Buf (Elt Ideal) ℓ) : Prop :=
  True

def Pre_AttnCtxIdeal_attn_ctx_pre [hPre_attn_ctx_pre : Cert.Pre_attn_ctx_pre.Facts] (m : (ℓ : Loc Cert.AttnCtxIdeal.nD Cert.AttnCtxIdeal.τ Cert.AttnCtxIdeal.sig) → Buf (Elt Ideal) ℓ) : Prop :=
  ∀ c : Dev Cert.AttnCtxIdeal.nD,
    (Cert.Pre_attn_ctx_pre.fn (F := Ideal) (m ((c.tc : Thread Cert.AttnCtxIdeal.nD Cert.AttnCtxIdeal.τ).loc Cert.AttnCtxIdeal.main_arg0)) (m ((c.tc : Thread Cert.AttnCtxIdeal.nD Cert.AttnCtxIdeal.τ).loc Cert.AttnCtxIdeal.main_arg1)) (m ((c.tc : Thread Cert.AttnCtxIdeal.nD Cert.AttnCtxIdeal.τ).loc Cert.AttnCtxIdeal.main_arg2)) (m ((c.tc : Thread Cert.AttnCtxIdeal.nD Cert.AttnCtxIdeal.τ).loc Cert.AttnCtxIdeal.main_arg3)) (m ((c.tc : Thread Cert.AttnCtxIdeal.nD Cert.AttnCtxIdeal.τ).loc Cert.AttnCtxIdeal.main_arg4))).1 = (fun _ => 1#1)
    ∧ (Cert.Pre_attn_ctx_pre.fn (F := Ideal) (m ((c.tc : Thread Cert.AttnCtxIdeal.nD Cert.AttnCtxIdeal.τ).loc Cert.AttnCtxIdeal.main_arg0)) (m ((c.tc : Thread Cert.AttnCtxIdeal.nD Cert.AttnCtxIdeal.τ).loc Cert.AttnCtxIdeal.main_arg1)) (m ((c.tc : Thread Cert.AttnCtxIdeal.nD Cert.AttnCtxIdeal.τ).loc Cert.AttnCtxIdeal.main_arg2)) (m ((c.tc : Thread Cert.AttnCtxIdeal.nD Cert.AttnCtxIdeal.τ).loc Cert.AttnCtxIdeal.main_arg3)) (m ((c.tc : Thread Cert.AttnCtxIdeal.nD Cert.AttnCtxIdeal.τ).loc Cert.AttnCtxIdeal.main_arg4))).2.1 = (fun _ => 1#1)
    ∧ (Cert.Pre_attn_ctx_pre.fn (F := Ideal) (m ((c.tc : Thread Cert.AttnCtxIdeal.nD Cert.AttnCtxIdeal.τ).loc Cert.AttnCtxIdeal.main_arg0)) (m ((c.tc : Thread Cert.AttnCtxIdeal.nD Cert.AttnCtxIdeal.τ).loc Cert.AttnCtxIdeal.main_arg1)) (m ((c.tc : Thread Cert.AttnCtxIdeal.nD Cert.AttnCtxIdeal.τ).loc Cert.AttnCtxIdeal.main_arg2)) (m ((c.tc : Thread Cert.AttnCtxIdeal.nD Cert.AttnCtxIdeal.τ).loc Cert.AttnCtxIdeal.main_arg3)) (m ((c.tc : Thread Cert.AttnCtxIdeal.nD Cert.AttnCtxIdeal.τ).loc Cert.AttnCtxIdeal.main_arg4))).2.2.1 = (fun _ => 1#1)
    ∧ (Cert.Pre_attn_ctx_pre.fn (F := Ideal) (m ((c.tc : Thread Cert.AttnCtxIdeal.nD Cert.AttnCtxIdeal.τ).loc Cert.AttnCtxIdeal.main_arg0)) (m ((c.tc : Thread Cert.AttnCtxIdeal.nD Cert.AttnCtxIdeal.τ).loc Cert.AttnCtxIdeal.main_arg1)) (m ((c.tc : Thread Cert.AttnCtxIdeal.nD Cert.AttnCtxIdeal.τ).loc Cert.AttnCtxIdeal.main_arg2)) (m ((c.tc : Thread Cert.AttnCtxIdeal.nD Cert.AttnCtxIdeal.τ).loc Cert.AttnCtxIdeal.main_arg3)) (m ((c.tc : Thread Cert.AttnCtxIdeal.nD Cert.AttnCtxIdeal.τ).loc Cert.AttnCtxIdeal.main_arg4))).2.2.2.1 = (fun _ => 1#1)
    ∧ (Cert.Pre_attn_ctx_pre.fn (F := Ideal) (m ((c.tc : Thread Cert.AttnCtxIdeal.nD Cert.AttnCtxIdeal.τ).loc Cert.AttnCtxIdeal.main_arg0)) (m ((c.tc : Thread Cert.AttnCtxIdeal.nD Cert.AttnCtxIdeal.τ).loc Cert.AttnCtxIdeal.main_arg1)) (m ((c.tc : Thread Cert.AttnCtxIdeal.nD Cert.AttnCtxIdeal.τ).loc Cert.AttnCtxIdeal.main_arg2)) (m ((c.tc : Thread Cert.AttnCtxIdeal.nD Cert.AttnCtxIdeal.τ).loc Cert.AttnCtxIdeal.main_arg3)) (m ((c.tc : Thread Cert.AttnCtxIdeal.nD Cert.AttnCtxIdeal.τ).loc Cert.AttnCtxIdeal.main_arg4))).2.2.2.2 = (fun _ => 1#1)

def Pre_AttnCtxRefIdeal (m : (ℓ : Loc Cert.AttnCtxRefIdeal.nD Cert.AttnCtxRefIdeal.τ Cert.AttnCtxRefIdeal.sig) → Buf (Elt Ideal) ℓ) : Prop :=
  True

def Pre_AttnCtxRefIdeal_attn_ctx_pre [hPre_attn_ctx_pre : Cert.Pre_attn_ctx_pre.Facts] (m : (ℓ : Loc Cert.AttnCtxRefIdeal.nD Cert.AttnCtxRefIdeal.τ Cert.AttnCtxRefIdeal.sig) → Buf (Elt Ideal) ℓ) : Prop :=
  ∀ c : Dev Cert.AttnCtxRefIdeal.nD,
    (Cert.Pre_attn_ctx_pre.fn (F := Ideal) (m ((c.tc : Thread Cert.AttnCtxRefIdeal.nD Cert.AttnCtxRefIdeal.τ).loc Cert.AttnCtxRefIdeal.main_arg0)) (m ((c.tc : Thread Cert.AttnCtxRefIdeal.nD Cert.AttnCtxRefIdeal.τ).loc Cert.AttnCtxRefIdeal.main_arg1)) (m ((c.tc : Thread Cert.AttnCtxRefIdeal.nD Cert.AttnCtxRefIdeal.τ).loc Cert.AttnCtxRefIdeal.main_arg2)) (m ((c.tc : Thread Cert.AttnCtxRefIdeal.nD Cert.AttnCtxRefIdeal.τ).loc Cert.AttnCtxRefIdeal.main_arg3)) (m ((c.tc : Thread Cert.AttnCtxRefIdeal.nD Cert.AttnCtxRefIdeal.τ).loc Cert.AttnCtxRefIdeal.main_arg4))).1 = (fun _ => 1#1)
    ∧ (Cert.Pre_attn_ctx_pre.fn (F := Ideal) (m ((c.tc : Thread Cert.AttnCtxRefIdeal.nD Cert.AttnCtxRefIdeal.τ).loc Cert.AttnCtxRefIdeal.main_arg0)) (m ((c.tc : Thread Cert.AttnCtxRefIdeal.nD Cert.AttnCtxRefIdeal.τ).loc Cert.AttnCtxRefIdeal.main_arg1)) (m ((c.tc : Thread Cert.AttnCtxRefIdeal.nD Cert.AttnCtxRefIdeal.τ).loc Cert.AttnCtxRefIdeal.main_arg2)) (m ((c.tc : Thread Cert.AttnCtxRefIdeal.nD Cert.AttnCtxRefIdeal.τ).loc Cert.AttnCtxRefIdeal.main_arg3)) (m ((c.tc : Thread Cert.AttnCtxRefIdeal.nD Cert.AttnCtxRefIdeal.τ).loc Cert.AttnCtxRefIdeal.main_arg4))).2.1 = (fun _ => 1#1)
    ∧ (Cert.Pre_attn_ctx_pre.fn (F := Ideal) (m ((c.tc : Thread Cert.AttnCtxRefIdeal.nD Cert.AttnCtxRefIdeal.τ).loc Cert.AttnCtxRefIdeal.main_arg0)) (m ((c.tc : Thread Cert.AttnCtxRefIdeal.nD Cert.AttnCtxRefIdeal.τ).loc Cert.AttnCtxRefIdeal.main_arg1)) (m ((c.tc : Thread Cert.AttnCtxRefIdeal.nD Cert.AttnCtxRefIdeal.τ).loc Cert.AttnCtxRefIdeal.main_arg2)) (m ((c.tc : Thread Cert.AttnCtxRefIdeal.nD Cert.AttnCtxRefIdeal.τ).loc Cert.AttnCtxRefIdeal.main_arg3)) (m ((c.tc : Thread Cert.AttnCtxRefIdeal.nD Cert.AttnCtxRefIdeal.τ).loc Cert.AttnCtxRefIdeal.main_arg4))).2.2.1 = (fun _ => 1#1)
    ∧ (Cert.Pre_attn_ctx_pre.fn (F := Ideal) (m ((c.tc : Thread Cert.AttnCtxRefIdeal.nD Cert.AttnCtxRefIdeal.τ).loc Cert.AttnCtxRefIdeal.main_arg0)) (m ((c.tc : Thread Cert.AttnCtxRefIdeal.nD Cert.AttnCtxRefIdeal.τ).loc Cert.AttnCtxRefIdeal.main_arg1)) (m ((c.tc : Thread Cert.AttnCtxRefIdeal.nD Cert.AttnCtxRefIdeal.τ).loc Cert.AttnCtxRefIdeal.main_arg2)) (m ((c.tc : Thread Cert.AttnCtxRefIdeal.nD Cert.AttnCtxRefIdeal.τ).loc Cert.AttnCtxRefIdeal.main_arg3)) (m ((c.tc : Thread Cert.AttnCtxRefIdeal.nD Cert.AttnCtxRefIdeal.τ).loc Cert.AttnCtxRefIdeal.main_arg4))).2.2.2.1 = (fun _ => 1#1)
    ∧ (Cert.Pre_attn_ctx_pre.fn (F := Ideal) (m ((c.tc : Thread Cert.AttnCtxRefIdeal.nD Cert.AttnCtxRefIdeal.τ).loc Cert.AttnCtxRefIdeal.main_arg0)) (m ((c.tc : Thread Cert.AttnCtxRefIdeal.nD Cert.AttnCtxRefIdeal.τ).loc Cert.AttnCtxRefIdeal.main_arg1)) (m ((c.tc : Thread Cert.AttnCtxRefIdeal.nD Cert.AttnCtxRefIdeal.τ).loc Cert.AttnCtxRefIdeal.main_arg2)) (m ((c.tc : Thread Cert.AttnCtxRefIdeal.nD Cert.AttnCtxRefIdeal.τ).loc Cert.AttnCtxRefIdeal.main_arg3)) (m ((c.tc : Thread Cert.AttnCtxRefIdeal.nD Cert.AttnCtxRefIdeal.τ).loc Cert.AttnCtxRefIdeal.main_arg4))).2.2.2.2 = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_pre [hAttnIdeal : Cert.AttnIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_pre m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_pre [hAttnRefIdeal : Cert.AttnRefIdeal.Facts] [hPre_attn_pre : Cert.Pre_attn_pre.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_pre m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2)
      ∧ r.2.mem ((c.tc : Thread Cert.MlpUp.nD Cert.MlpUp.τ).loc Cert.MlpUp.main_arg3) = m ((c.tc : Thread Cert.MlpUp.nD Cert.MlpUp.τ).loc Cert.MlpUp.main_arg3))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2)
      ∧ r.2.mem ((c.tc : Thread Cert.MlpUpIdeal.nD Cert.MlpUpIdeal.τ).loc Cert.MlpUpIdeal.main_arg3) = m ((c.tc : Thread Cert.MlpUpIdeal.nD Cert.MlpUpIdeal.τ).loc Cert.MlpUpIdeal.main_arg3))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2)
      ∧ r.2.mem ((c.tc : Thread Cert.MlpUpRefIdeal.nD Cert.MlpUpRefIdeal.τ).loc Cert.MlpUpRefIdeal.main_arg3) = m ((c.tc : Thread Cert.MlpUpRefIdeal.nD Cert.MlpUpRefIdeal.τ).loc Cert.MlpUpRefIdeal.main_arg3))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_AttnCtx [hAttnCtx : Cert.AttnCtx.Facts] : Prop :=
  ∀ (m : (ℓ : Loc Cert.AttnCtx.nD Cert.AttnCtx.τ Cert.AttnCtx.sig) → Buf (Elt Bits) ℓ) (g : Dev Cert.AttnCtx.nD → PrngReg), Pre_AttnCtx m →
    θ_run (Cert.AttnCtx.defs (F := Bits)) (onTc (τ := Cert.AttnCtx.τ) (Cert.AttnCtx.main (F := Bits))) ⟨m, fun _ => 0, g⟩ (fun r => (∀ c : Dev Cert.AttnCtx.nD,
      r.2.mem ((c.tc : Thread Cert.AttnCtx.nD Cert.AttnCtx.τ).loc Cert.AttnCtx.main_arg0) = m ((c.tc : Thread Cert.AttnCtx.nD Cert.AttnCtx.τ).loc Cert.AttnCtx.main_arg0)
      ∧ r.2.mem ((c.tc : Thread Cert.AttnCtx.nD Cert.AttnCtx.τ).loc Cert.AttnCtx.main_arg1) = m ((c.tc : Thread Cert.AttnCtx.nD Cert.AttnCtx.τ).loc Cert.AttnCtx.main_arg1)
      ∧ r.2.mem ((c.tc : Thread Cert.AttnCtx.nD Cert.AttnCtx.τ).loc Cert.AttnCtx.main_arg2) = m ((c.tc : Thread Cert.AttnCtx.nD Cert.AttnCtx.τ).loc Cert.AttnCtx.main_arg2)
      ∧ r.2.mem ((c.tc : Thread Cert.AttnCtx.nD Cert.AttnCtx.τ).loc Cert.AttnCtx.main_arg3) = m ((c.tc : Thread Cert.AttnCtx.nD Cert.AttnCtx.τ).loc Cert.AttnCtx.main_arg3)
      ∧ r.2.mem ((c.tc : Thread Cert.AttnCtx.nD Cert.AttnCtx.τ).loc Cert.AttnCtx.main_arg4) = m ((c.tc : Thread Cert.AttnCtx.nD Cert.AttnCtx.τ).loc Cert.AttnCtx.main_arg4))
      ∧ r.2.sem = fun _ => 0)

def quiescent_AttnCtxIdeal [hAttnCtxIdeal : Cert.AttnCtxIdeal.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
      ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
      ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2)
      ∧ r.2.mem ((c.tc : Thread Cert.AttnCtxIdeal.nD Cert.AttnCtxIdeal.τ).loc Cert.AttnCtxIdeal.main_arg3) = m ((c.tc : Thread Cert.AttnCtxIdeal.nD Cert.AttnCtxIdeal.τ).loc Cert.AttnCtxIdeal.main_arg3)
      ∧ r.2.mem ((c.tc : Thread Cert.AttnCtxIdeal.nD Cert.AttnCtxIdeal.τ).loc Cert.AttnCtxIdeal.main_arg4) = m ((c.tc : Thread Cert.AttnCtxIdeal.nD Cert.AttnCtxIdeal.τ).loc Cert.AttnCtxIdeal.main_arg4))
      ∧ r.2.sem = fun _ => 0)

def quiescent_AttnCtxIdeal_pre_attn_ctx_pre [hAttnCtxIdeal : Cert.AttnCtxIdeal.Facts] [hPre_attn_ctx_pre : Cert.Pre_attn_ctx_pre.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal_attn_ctx_pre m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
      ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
      ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2)
      ∧ r.2.mem ((c.tc : Thread Cert.AttnCtxIdeal.nD Cert.AttnCtxIdeal.τ).loc Cert.AttnCtxIdeal.main_arg3) = m ((c.tc : Thread Cert.AttnCtxIdeal.nD Cert.AttnCtxIdeal.τ).loc Cert.AttnCtxIdeal.main_arg3)
      ∧ r.2.mem ((c.tc : Thread Cert.AttnCtxIdeal.nD Cert.AttnCtxIdeal.τ).loc Cert.AttnCtxIdeal.main_arg4) = m ((c.tc : Thread Cert.AttnCtxIdeal.nD Cert.AttnCtxIdeal.τ).loc Cert.AttnCtxIdeal.main_arg4))
      ∧ r.2.sem = fun _ => 0)

def quiescent_AttnCtxRefIdeal [hAttnCtxRefIdeal : Cert.AttnCtxRefIdeal.Facts] : Prop :=
  ∀ (m : (ℓ : Loc Cert.AttnCtxRefIdeal.nD Cert.AttnCtxRefIdeal.τ Cert.AttnCtxRefIdeal.sig) → Buf (Elt Ideal) ℓ) (g : Dev Cert.AttnCtxRefIdeal.nD → PrngReg), Pre_AttnCtxRefIdeal m →
    θ_run (Cert.AttnCtxRefIdeal.defs (F := Ideal)) (onTc (τ := Cert.AttnCtxRefIdeal.τ) (Cert.AttnCtxRefIdeal.main (F := Ideal))) ⟨m, fun _ => 0, g⟩ (fun r => (∀ c : Dev Cert.AttnCtxRefIdeal.nD,
      r.2.mem ((c.tc : Thread Cert.AttnCtxRefIdeal.nD Cert.AttnCtxRefIdeal.τ).loc Cert.AttnCtxRefIdeal.main_arg0) = m ((c.tc : Thread Cert.AttnCtxRefIdeal.nD Cert.AttnCtxRefIdeal.τ).loc Cert.AttnCtxRefIdeal.main_arg0)
      ∧ r.2.mem ((c.tc : Thread Cert.AttnCtxRefIdeal.nD Cert.AttnCtxRefIdeal.τ).loc Cert.AttnCtxRefIdeal.main_arg1) = m ((c.tc : Thread Cert.AttnCtxRefIdeal.nD Cert.AttnCtxRefIdeal.τ).loc Cert.AttnCtxRefIdeal.main_arg1)
      ∧ r.2.mem ((c.tc : Thread Cert.AttnCtxRefIdeal.nD Cert.AttnCtxRefIdeal.τ).loc Cert.AttnCtxRefIdeal.main_arg2) = m ((c.tc : Thread Cert.AttnCtxRefIdeal.nD Cert.AttnCtxRefIdeal.τ).loc Cert.AttnCtxRefIdeal.main_arg2)
      ∧ r.2.mem ((c.tc : Thread Cert.AttnCtxRefIdeal.nD Cert.AttnCtxRefIdeal.τ).loc Cert.AttnCtxRefIdeal.main_arg3) = m ((c.tc : Thread Cert.AttnCtxRefIdeal.nD Cert.AttnCtxRefIdeal.τ).loc Cert.AttnCtxRefIdeal.main_arg3)
      ∧ r.2.mem ((c.tc : Thread Cert.AttnCtxRefIdeal.nD Cert.AttnCtxRefIdeal.τ).loc Cert.AttnCtxRefIdeal.main_arg4) = m ((c.tc : Thread Cert.AttnCtxRefIdeal.nD Cert.AttnCtxRefIdeal.τ).loc Cert.AttnCtxRefIdeal.main_arg4))
      ∧ r.2.sem = fun _ => 0)

def quiescent_AttnCtxRefIdeal_pre_attn_ctx_pre [hAttnCtxRefIdeal : Cert.AttnCtxRefIdeal.Facts] [hPre_attn_ctx_pre : Cert.Pre_attn_ctx_pre.Facts] : Prop :=
  ∀ (m : (ℓ : Loc Cert.AttnCtxRefIdeal.nD Cert.AttnCtxRefIdeal.τ Cert.AttnCtxRefIdeal.sig) → Buf (Elt Ideal) ℓ) (g : Dev Cert.AttnCtxRefIdeal.nD → PrngReg), Pre_AttnCtxRefIdeal_attn_ctx_pre m →
    θ_run (Cert.AttnCtxRefIdeal.defs (F := Ideal)) (onTc (τ := Cert.AttnCtxRefIdeal.τ) (Cert.AttnCtxRefIdeal.main (F := Ideal))) ⟨m, fun _ => 0, g⟩ (fun r => (∀ c : Dev Cert.AttnCtxRefIdeal.nD,
      r.2.mem ((c.tc : Thread Cert.AttnCtxRefIdeal.nD Cert.AttnCtxRefIdeal.τ).loc Cert.AttnCtxRefIdeal.main_arg0) = m ((c.tc : Thread Cert.AttnCtxRefIdeal.nD Cert.AttnCtxRefIdeal.τ).loc Cert.AttnCtxRefIdeal.main_arg0)
      ∧ r.2.mem ((c.tc : Thread Cert.AttnCtxRefIdeal.nD Cert.AttnCtxRefIdeal.τ).loc Cert.AttnCtxRefIdeal.main_arg1) = m ((c.tc : Thread Cert.AttnCtxRefIdeal.nD Cert.AttnCtxRefIdeal.τ).loc Cert.AttnCtxRefIdeal.main_arg1)
      ∧ r.2.mem ((c.tc : Thread Cert.AttnCtxRefIdeal.nD Cert.AttnCtxRefIdeal.τ).loc Cert.AttnCtxRefIdeal.main_arg2) = m ((c.tc : Thread Cert.AttnCtxRefIdeal.nD Cert.AttnCtxRefIdeal.τ).loc Cert.AttnCtxRefIdeal.main_arg2)
      ∧ r.2.mem ((c.tc : Thread Cert.AttnCtxRefIdeal.nD Cert.AttnCtxRefIdeal.τ).loc Cert.AttnCtxRefIdeal.main_arg3) = m ((c.tc : Thread Cert.AttnCtxRefIdeal.nD Cert.AttnCtxRefIdeal.τ).loc Cert.AttnCtxRefIdeal.main_arg3)
      ∧ r.2.mem ((c.tc : Thread Cert.AttnCtxRefIdeal.nD Cert.AttnCtxRefIdeal.τ).loc Cert.AttnCtxRefIdeal.main_arg4) = m ((c.tc : Thread Cert.AttnCtxRefIdeal.nD Cert.AttnCtxRefIdeal.τ).loc Cert.AttnCtxRefIdeal.main_arg4))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def preserves_Attn_AttnIdeal : Prop :=
  True

def algebraic_AttnIdeal_AttnRefIdeal_pre_attn_pre [hAttnIdeal : Cert.AttnIdeal.Facts] [hAttnRefIdeal : Cert.AttnRefIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_pre m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v60) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)
      ∧ m' ((c.tc : Thread Cert.MlpUpRefIdeal.nD Cert.MlpUpRefIdeal.τ).loc Cert.MlpUpRefIdeal.main_arg2) = m ((c.tc : Thread Cert.MlpUpIdeal.nD Cert.MlpUpIdeal.τ).loc Cert.MlpUpIdeal.main_arg2)
      ∧ m' ((c.tc : Thread Cert.MlpUpRefIdeal.nD Cert.MlpUpRefIdeal.τ).loc Cert.MlpUpRefIdeal.main_arg3) = m ((c.tc : Thread Cert.MlpUpIdeal.nD Cert.MlpUpIdeal.τ).loc Cert.MlpUpIdeal.main_arg3)) →
    ∃ (v0 : (c : Dev Cert.MlpUpIdeal.nD) → Buf (Elt Ideal) ((c.tc : Thread Cert.MlpUpIdeal.nD Cert.MlpUpIdeal.τ).loc Cert.MlpUpIdeal.main_v3)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v3) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2)
          ∧ r.2.mem ((c.tc : Thread Cert.MlpUpIdeal.nD Cert.MlpUpIdeal.τ).loc Cert.MlpUpIdeal.main_arg3) = m ((c.tc : Thread Cert.MlpUpIdeal.nD Cert.MlpUpIdeal.τ).loc Cert.MlpUpIdeal.main_arg3))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v59) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1)
          ∧ r.2.mem ((c.tc : Thread Cert.MlpUpRefIdeal.nD Cert.MlpUpRefIdeal.τ).loc Cert.MlpUpRefIdeal.main_arg2) = m' ((c.tc : Thread Cert.MlpUpRefIdeal.nD Cert.MlpUpRefIdeal.τ).loc Cert.MlpUpRefIdeal.main_arg2)
          ∧ r.2.mem ((c.tc : Thread Cert.MlpUpRefIdeal.nD Cert.MlpUpRefIdeal.τ).loc Cert.MlpUpRefIdeal.main_arg3) = m' ((c.tc : Thread Cert.MlpUpRefIdeal.nD Cert.MlpUpRefIdeal.τ).loc Cert.MlpUpRefIdeal.main_arg3))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v2)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v2) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v19) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v24) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v58_0)) (v1 : (c : Dev Cert.InProjIdeal.nD) → Buf (Elt Ideal) ((c.tc : Thread Cert.InProjIdeal.nD Cert.InProjIdeal.τ).loc Cert.InProjIdeal.main_v58_1)) (v2 : (c : Dev Cert.InProjIdeal.nD) → Buf (Elt Ideal) ((c.tc : Thread Cert.InProjIdeal.nD Cert.InProjIdeal.τ).loc Cert.InProjIdeal.main_v58_2)) (v3 : (c : Dev Cert.InProjIdeal.nD) → Buf (Elt Ideal) ((c.tc : Thread Cert.InProjIdeal.nD Cert.InProjIdeal.τ).loc Cert.InProjIdeal.main_v58_3)) (v4 : (c : Dev Cert.InProjIdeal.nD) → Buf (Elt Ideal) ((c.tc : Thread Cert.InProjIdeal.nD Cert.InProjIdeal.τ).loc Cert.InProjIdeal.main_v58_4)) (v5 : (c : Dev Cert.InProjIdeal.nD) → Buf (Elt Ideal) ((c.tc : Thread Cert.InProjIdeal.nD Cert.InProjIdeal.τ).loc Cert.InProjIdeal.main_v58_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v58_0) = v0 c
          ∧ r.2.mem ((c.tc : Thread Cert.InProjIdeal.nD Cert.InProjIdeal.τ).loc Cert.InProjIdeal.main_v58_1) = v1 c
          ∧ r.2.mem ((c.tc : Thread Cert.InProjIdeal.nD Cert.InProjIdeal.τ).loc Cert.InProjIdeal.main_v58_2) = v2 c
          ∧ r.2.mem ((c.tc : Thread Cert.InProjIdeal.nD Cert.InProjIdeal.τ).loc Cert.InProjIdeal.main_v58_3) = v3 c
          ∧ r.2.mem ((c.tc : Thread Cert.InProjIdeal.nD Cert.InProjIdeal.τ).loc Cert.InProjIdeal.main_v58_4) = v4 c
          ∧ r.2.mem ((c.tc : Thread Cert.InProjIdeal.nD Cert.InProjIdeal.τ).loc Cert.InProjIdeal.main_v58_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v219) = v0 c
          ∧ r.2.mem ((c.tc : Thread Cert.InProjRefIdeal.nD Cert.InProjRefIdeal.τ).loc Cert.InProjRefIdeal.main_v220) = v1 c
          ∧ r.2.mem ((c.tc : Thread Cert.InProjRefIdeal.nD Cert.InProjRefIdeal.τ).loc Cert.InProjRefIdeal.main_v221) = v2 c
          ∧ r.2.mem ((c.tc : Thread Cert.InProjRefIdeal.nD Cert.InProjRefIdeal.τ).loc Cert.InProjRefIdeal.main_v207) = v3 c
          ∧ r.2.mem ((c.tc : Thread Cert.InProjRefIdeal.nD Cert.InProjRefIdeal.τ).loc Cert.InProjRefIdeal.main_v210) = v4 c
          ∧ r.2.mem ((c.tc : Thread Cert.InProjRefIdeal.nD Cert.InProjRefIdeal.τ).loc Cert.InProjRefIdeal.main_v223) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_AttnCtx_AttnCtxIdeal : Prop :=
  True

def algebraic_AttnCtxIdeal_AttnCtxRefIdeal_pre_attn_ctx_pre [hAttnCtxIdeal : Cert.AttnCtxIdeal.Facts] [hAttnCtxRefIdeal : Cert.AttnCtxRefIdeal.Facts] [hPre_attn_ctx_pre : Cert.Pre_attn_ctx_pre.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg)
    (m' : (ℓ : Loc Cert.AttnCtxRefIdeal.nD Cert.AttnCtxRefIdeal.τ Cert.AttnCtxRefIdeal.sig) → Buf (Elt Ideal) ℓ) (g' : Dev Cert.AttnCtxRefIdeal.nD → PrngReg), Pre_AttnCtxIdeal_attn_ctx_pre m →
    (∀ c : Dev Cert.AttnCtxIdeal.nD,
      m' ((c.tc : Thread Cert.AttnCtxRefIdeal.nD Cert.AttnCtxRefIdeal.τ).loc Cert.AttnCtxRefIdeal.main_arg0) = m ((c.tc : Thread Cert.AttnCtxIdeal.nD Cert.AttnCtxIdeal.τ).loc Cert.AttnCtxIdeal.main_arg0)
      ∧ m' ((c.tc : Thread Cert.AttnCtxRefIdeal.nD Cert.AttnCtxRefIdeal.τ).loc Cert.AttnCtxRefIdeal.main_arg1) = m ((c.tc : Thread Cert.AttnCtxIdeal.nD Cert.AttnCtxIdeal.τ).loc Cert.AttnCtxIdeal.main_arg1)
      ∧ m' ((c.tc : Thread Cert.AttnCtxRefIdeal.nD Cert.AttnCtxRefIdeal.τ).loc Cert.AttnCtxRefIdeal.main_arg2) = m ((c.tc : Thread Cert.AttnCtxIdeal.nD Cert.AttnCtxIdeal.τ).loc Cert.AttnCtxIdeal.main_arg2)
      ∧ m' ((c.tc : Thread Cert.AttnCtxRefIdeal.nD Cert.AttnCtxRefIdeal.τ).loc Cert.AttnCtxRefIdeal.main_arg3) = m ((c.tc : Thread Cert.AttnCtxIdeal.nD Cert.AttnCtxIdeal.τ).loc Cert.AttnCtxIdeal.main_arg3)
      ∧ m' ((c.tc : Thread Cert.AttnCtxRefIdeal.nD Cert.AttnCtxRefIdeal.τ).loc Cert.AttnCtxRefIdeal.main_arg4) = m ((c.tc : Thread Cert.AttnCtxIdeal.nD Cert.AttnCtxIdeal.τ).loc Cert.AttnCtxIdeal.main_arg4)) →
    ∃ (v0 : (c : Dev Cert.AttnCtxIdeal.nD) → Buf (Elt Ideal) ((c.tc : Thread Cert.AttnCtxIdeal.nD Cert.AttnCtxIdeal.τ).loc Cert.AttnCtxIdeal.main_v4)),
      θ_run (Cert.AttnCtxIdeal.defs (F := Ideal)) (onTc (τ := Cert.AttnCtxIdeal.τ) (Cert.AttnCtxIdeal.main (F := Ideal))) ⟨m, fun _ => 0, g⟩ (fun r => ∀ c : Dev Cert.AttnCtxIdeal.nD,
          r.2.mem ((c.tc : Thread Cert.AttnCtxIdeal.nD Cert.AttnCtxIdeal.τ).loc Cert.AttnCtxIdeal.main_v4) = v0 c
          ∧ r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
          ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
          ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2)
          ∧ r.2.mem ((c.tc : Thread Cert.AttnCtxIdeal.nD Cert.AttnCtxIdeal.τ).loc Cert.AttnCtxIdeal.main_arg3) = m ((c.tc : Thread Cert.AttnCtxIdeal.nD Cert.AttnCtxIdeal.τ).loc Cert.AttnCtxIdeal.main_arg3)
          ∧ r.2.mem ((c.tc : Thread Cert.AttnCtxIdeal.nD Cert.AttnCtxIdeal.τ).loc Cert.AttnCtxIdeal.main_arg4) = m ((c.tc : Thread Cert.AttnCtxIdeal.nD Cert.AttnCtxIdeal.τ).loc Cert.AttnCtxIdeal.main_arg4))
      ∧ θ_run (Cert.AttnCtxRefIdeal.defs (F := Ideal)) (onTc (τ := Cert.AttnCtxRefIdeal.τ) (Cert.AttnCtxRefIdeal.main (F := Ideal))) ⟨m', fun _ => 0, g'⟩ (fun r => ∀ c : Dev Cert.AttnCtxRefIdeal.nD,
          r.2.mem ((c.tc : Thread Cert.AttnCtxRefIdeal.nD Cert.AttnCtxRefIdeal.τ).loc Cert.AttnCtxRefIdeal.main_v61) = v0 c
          ∧ r.2.mem ((c.tc : Thread Cert.AttnCtxRefIdeal.nD Cert.AttnCtxRefIdeal.τ).loc Cert.AttnCtxRefIdeal.main_arg0) = m' ((c.tc : Thread Cert.AttnCtxRefIdeal.nD Cert.AttnCtxRefIdeal.τ).loc Cert.AttnCtxRefIdeal.main_arg0)
          ∧ r.2.mem ((c.tc : Thread Cert.AttnCtxRefIdeal.nD Cert.AttnCtxRefIdeal.τ).loc Cert.AttnCtxRefIdeal.main_arg1) = m' ((c.tc : Thread Cert.AttnCtxRefIdeal.nD Cert.AttnCtxRefIdeal.τ).loc Cert.AttnCtxRefIdeal.main_arg1)
          ∧ r.2.mem ((c.tc : Thread Cert.AttnCtxRefIdeal.nD Cert.AttnCtxRefIdeal.τ).loc Cert.AttnCtxRefIdeal.main_arg2) = m' ((c.tc : Thread Cert.AttnCtxRefIdeal.nD Cert.AttnCtxRefIdeal.τ).loc Cert.AttnCtxRefIdeal.main_arg2)
          ∧ r.2.mem ((c.tc : Thread Cert.AttnCtxRefIdeal.nD Cert.AttnCtxRefIdeal.τ).loc Cert.AttnCtxRefIdeal.main_arg3) = m' ((c.tc : Thread Cert.AttnCtxRefIdeal.nD Cert.AttnCtxRefIdeal.τ).loc Cert.AttnCtxRefIdeal.main_arg3)
          ∧ r.2.mem ((c.tc : Thread Cert.AttnCtxRefIdeal.nD Cert.AttnCtxRefIdeal.τ).loc Cert.AttnCtxRefIdeal.main_arg4) = m' ((c.tc : Thread Cert.AttnCtxRefIdeal.nD Cert.AttnCtxRefIdeal.τ).loc Cert.AttnCtxRefIdeal.main_arg4))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v5) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def Claim : Prop :=
  ∃ (hAttn : Cert.Attn.Facts) (hAttnIdeal : Cert.AttnIdeal.Facts) (hAttnRefIdeal : Cert.AttnRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hAttnCtx : Cert.AttnCtx.Facts) (hAttnCtxIdeal : Cert.AttnCtxIdeal.Facts) (hAttnCtxRefIdeal : Cert.AttnCtxRefIdeal.Facts) (hModulation : Cert.Modulation.Facts) (hModulationIdeal : Cert.ModulationIdeal.Facts) (hModulationRefIdeal : Cert.ModulationRefIdeal.Facts) (hPre_attn_pre : Cert.Pre_attn_pre.Facts) (hPre_attn_ctx_pre : Cert.Pre_attn_ctx_pre.Facts),
    quiescent_Attn (hAttn := hAttn)
    ∧ quiescent_AttnIdeal (hAttnIdeal := hAttnIdeal)
    ∧ quiescent_AttnIdeal_pre_attn_pre (hAttnIdeal := hAttnIdeal) (hPre_attn_pre := hPre_attn_pre)
    ∧ quiescent_AttnRefIdeal (hAttnRefIdeal := hAttnRefIdeal)
    ∧ quiescent_AttnRefIdeal_pre_attn_pre (hAttnRefIdeal := hAttnRefIdeal) (hPre_attn_pre := hPre_attn_pre)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_AttnCtx (hAttnCtx := hAttnCtx)
    ∧ quiescent_AttnCtxIdeal (hAttnCtxIdeal := hAttnCtxIdeal)
    ∧ quiescent_AttnCtxIdeal_pre_attn_ctx_pre (hAttnCtxIdeal := hAttnCtxIdeal) (hPre_attn_ctx_pre := hPre_attn_ctx_pre)
    ∧ quiescent_AttnCtxRefIdeal (hAttnCtxRefIdeal := hAttnCtxRefIdeal)
    ∧ quiescent_AttnCtxRefIdeal_pre_attn_ctx_pre (hAttnCtxRefIdeal := hAttnCtxRefIdeal) (hPre_attn_ctx_pre := hPre_attn_ctx_pre)
    ∧ quiescent_Modulation (hModulation := hModulation)
    ∧ quiescent_ModulationIdeal (hModulationIdeal := hModulationIdeal)
    ∧ quiescent_ModulationRefIdeal (hModulationRefIdeal := hModulationRefIdeal)
    ∧ preserves_Attn_AttnIdeal
    ∧ algebraic_AttnIdeal_AttnRefIdeal_pre_attn_pre (hAttnIdeal := hAttnIdeal) (hAttnRefIdeal := hAttnRefIdeal) (hPre_attn_pre := hPre_attn_pre)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_AttnCtx_AttnCtxIdeal
    ∧ algebraic_AttnCtxIdeal_AttnCtxRefIdeal_pre_attn_ctx_pre (hAttnCtxIdeal := hAttnCtxIdeal) (hAttnCtxRefIdeal := hAttnCtxRefIdeal) (hPre_attn_ctx_pre := hPre_attn_ctx_pre)
    ∧ preserves_Modulation_ModulationIdeal
    ∧ algebraic_ModulationIdeal_ModulationRefIdeal (hModulationIdeal := hModulationIdeal) (hModulationRefIdeal := hModulationRefIdeal)
-- ==== Pre_attn_ctx_pre.lean ====
abbrev S8x4352x256 : Shape := ⟨3, ![8, 4352, 256]⟩
abbrev S8x512x4352 : Shape := ⟨3, ![8, 512, 4352]⟩
abbrev S4x32 : Shape := ⟨2, ![4, 32]⟩
abbrev S64 : Shape := ⟨1, ![64]⟩
abbrev S8x4x128x4352 : Shape := ⟨4, ![8, 4, 128, 4352]⟩
abbrev S8x4x1x256 : Shape := ⟨4, ![8, 4, 1, 256]⟩
abbrev S8x4x256 : Shape := ⟨3, ![8, 4, 256]⟩
abbrev S8x256x256 : Shape := ⟨3, ![8, 256, 256]⟩
abbrev S_ : Shape := ⟨0, ![]⟩
abbrev S8x512x256 : Shape := ⟨3, ![8, 512, 256]⟩

class Facts : Prop where
  shapeCasts_S8x512x4352_S8x4x128x4352 : S8x512x4352.ShapeCasts S8x4x128x4352
  slices_S8x4x128x4352_S8x4x1x256_0_0_64_4096 : S8x4x128x4352.Slices ![0, 0, 64, 4096] S8x4x1x256
  shapeCasts_S8x4x1x256_S8x4x256 : S8x4x1x256.ShapeCasts S8x4x256
  slices_S8x4352x256_S8x256x256_0_4096_0 : S8x4352x256.Slices ![0, 4096, 0] S8x256x256
  bcast_S_S8x256x256 : S_.BroadcastsInDim S8x256x256 (![] : Fin 0 → Fin S8x256x256.rank)
  slices_S8x512x4352_S8x512x256_0_0_4096 : S8x512x4352.Slices ![0, 0, 4096] S8x512x256
  bcast_S_S8x512x256 : S_.BroadcastsInDim S8x512x256 (![] : Fin 0 → Fin S8x512x256.rank)
  bcast_S_S4x32 : S_.BroadcastsInDim S4x32 (![] : Fin 0 → Fin S4x32.rank)
  bcast_S_S8x4x256 : S_.BroadcastsInDim S8x4x256 (![] : Fin 0 → Fin S8x4x256.rank)

variable [Facts]

def fn_part1 {F : FTy → Type} [FloatOps F] (main_v2 : FVec F S8x4x256 .bf16) (main_v6 : IVec S8x256x256 1) (main_v10 : IVec S8x256x256 1) (main_v14 : IVec S8x512x256 1) (main_v17 : IVec S4x32 1) (main_v18 : FVec F S8x4x256 .bf16) : IVec S8x256x256 1 × IVec S8x256x256 1 × IVec S8x512x256 1 × IVec S4x32 1 × IVec S8x4x256 1 :=
  let main_v19 : IVec S8x4x256 1 := cmpf .oeq main_v2 main_v18
  (main_v6, main_v10, main_v14, main_v17, main_v19)

def fn {F : FTy → Type} [FloatOps F] (main_arg0 : FVec F S8x4352x256 .bf16) (main_arg1 : FVec F S8x4352x256 .bf16) (main_arg2 : FVec F S8x512x4352 .bf16) (main_arg3 : FVec F S4x32 .f32) (main_arg4 : FVec F S64 .f32) : IVec S8x256x256 1 × IVec S8x256x256 1 × IVec S8x512x256 1 × IVec S4x32 1 × IVec S8x4x256 1 :=
  let main_v0 : FVec F S8x4x128x4352 .bf16 := shapeCast S8x4x128x4352 main_arg2 shapeCasts_S8x512x4352_S8x4x128x4352
  let main_v1 : FVec F S8x4x1x256 .bf16 := (extractStridedSlice S8x4x1x256 ![0, 0, 64, 4096] · slices_S8x4x128x4352_S8x4x1x256_0_0_64_4096) main_v0
  let main_v2 : FVec F S8x4x256 .bf16 := shapeCast S8x4x256 main_v1 shapeCasts_S8x4x1x256_S8x4x256
  let main_v3 : FVec F S8x256x256 .bf16 := (extractStridedSlice S8x256x256 ![0, 4096, 0] · slices_S8x4352x256_S8x256x256_0_4096_0) main_arg0
  let main_v4 : FVec F S8x256x256 .bf16 := Host.absf main_v3
  let main_cst : FVec F S_ .bf16 := constant S_ .bf16 0x7F80#16
  let main_v5 : FVec F S8x256x256 .bf16 := broadcastInDim S8x256x256 ![] bcast_S_S8x256x256 main_cst
  let main_v6 : IVec S8x256x256 1 := cmpf .olt main_v4 main_v5
  let main_v7 : FVec F S8x256x256 .bf16 := (extractStridedSlice S8x256x256 ![0, 4096, 0] · slices_S8x4352x256_S8x256x256_0_4096_0) main_arg1
  let main_v8 : FVec F S8x256x256 .bf16 := Host.absf main_v7
  let main_cst_0 : FVec F S_ .bf16 := constant S_ .bf16 0x7F80#16
  let main_v9 : FVec F S8x256x256 .bf16 := broadcastInDim S8x256x256 ![] bcast_S_S8x256x256 main_cst_0
  let main_v10 : IVec S8x256x256 1 := cmpf .olt main_v8 main_v9
  let main_v11 : FVec F S8x512x256 .bf16 := (extractStridedSlice S8x512x256 ![0, 0, 4096] · slices_S8x512x4352_S8x512x256_0_0_4096) main_arg2
  let main_v12 : FVec F S8x512x256 .bf16 := Host.absf main_v11
  let main_cst_1 : FVec F S_ .bf16 := constant S_ .bf16 0x7F80#16
  let main_v13 : FVec F S8x512x256 .bf16 := broadcastInDim S8x512x256 ![] bcast_S_S8x512x256 main_cst_1
  let main_v14 : IVec S8x512x256 1 := cmpf .olt main_v12 main_v13
  let main_v15 : FVec F S4x32 .f32 := Host.absf main_arg3
  let main_cst_2 : FVec F S_ .f32 := constant S_ .f32 0x7F800000#32
  let main_v16 : FVec F S4x32 .f32 := broadcastInDim S4x32 ![] bcast_S_S4x32 main_cst_2
  let main_v17 : IVec S4x32 1 := cmpf .olt main_v15 main_v16
  let main_cst_3 : FVec F S_ .bf16 := constant S_ .bf16 0x3F80#16
  let main_v18 : FVec F S8x4x256 .bf16 := broadcastInDim S8x4x256 ![] bcast_S_S8x4x256 main_cst_3
  fn_part1 (F := F) main_v2 main_v6 main_v10 main_v14 main_v17 main_v18
-- ==== Pre_attn_pre.lean ====
abbrev S8x4352x256 : Shape := ⟨3, ![8, 4352, 256]⟩
abbrev S8x512x4352 : Shape := ⟨3, ![8, 512, 4352]⟩
abbrev S4x32 : Shape := ⟨2, ![4, 32]⟩
abbrev S64 : Shape := ⟨1, ![64]⟩
abbrev S8x4x128x4352 : Shape := ⟨4, ![8, 4, 128, 4352]⟩
abbrev S8x4x1x4352 : Shape := ⟨4, ![8, 4, 1, 4352]⟩
abbrev S8x4x4352 : Shape := ⟨3, ![8, 4, 4352]⟩
abbrev S_ : Shape := ⟨0, ![]⟩

class Facts : Prop where
  shapeCasts_S8x512x4352_S8x4x128x4352 : S8x512x4352.ShapeCasts S8x4x128x4352
  slices_S8x4x128x4352_S8x4x1x4352_0_0_64_0 : S8x4x128x4352.Slices ![0, 0, 64, 0] S8x4x1x4352
  shapeCasts_S8x4x1x4352_S8x4x4352 : S8x4x1x4352.ShapeCasts S8x4x4352
  bcast_S_S8x4352x256 : S_.BroadcastsInDim S8x4352x256 (![] : Fin 0 → Fin S8x4352x256.rank)
  bcast_S_S8x512x4352 : S_.BroadcastsInDim S8x512x4352 (![] : Fin 0 → Fin S8x512x4352.rank)
  bcast_S_S4x32 : S_.BroadcastsInDim S4x32 (![] : Fin 0 → Fin S4x32.rank)
  bcast_S_S8x4x4352 : S_.BroadcastsInDim S8x4x4352 (![] : Fin 0 → Fin S8x4x4352.rank)

variable [Facts]

def fn {F : FTy → Type} [FloatOps F] (main_arg0 : FVec F S8x4352x256 .bf16) (main_arg1 : FVec F S8x4352x256 .bf16) (main_arg2 : FVec F S8x512x4352 .bf16) (main_arg3 : FVec F S4x32 .f32) (main_arg4 : FVec F S64 .f32) : IVec S8x4352x256 1 × IVec S8x4352x256 1 × IVec S8x512x4352 1 × IVec S4x32 1 × IVec S8x4x4352 1 :=
  let main_v0 : FVec F S8x4x128x4352 .bf16 := shapeCast S8x4x128x4352 main_arg2 shapeCasts_S8x512x4352_S8x4x128x4352
  let main_v1 : FVec F S8x4x1x4352 .bf16 := (extractStridedSlice S8x4x1x4352 ![0, 0, 64, 0] · slices_S8x4x128x4352_S8x4x1x4352_0_0_64_0) main_v0
  let main_v2 : FVec F S8x4x4352 .bf16 := shapeCast S8x4x4352 main_v1 shapeCasts_S8x4x1x4352_S8x4x4352
  let main_v3 : FVec F S8x4352x256 .bf16 := Host.absf main_arg0
  let main_cst : FVec F S_ .bf16 := constant S_ .bf16 0x7F80#16
  let main_v4 : FVec F S8x4352x256 .bf16 := broadcastInDim S8x4352x256 ![] bcast_S_S8x4352x256 main_cst
  let main_v5 : IVec S8x4352x256 1 := cmpf .olt main_v3 main_v4
  let main_v6 : FVec F S8x4352x256 .bf16 := Host.absf main_arg1
  let main_cst_0 : FVec F S_ .bf16 := constant S_ .bf16 0x7F80#16
  let main_v7 : FVec F S8x4352x256 .bf16 := broadcastInDim S8x4352x256 ![] bcast_S_S8x4352x256 main_cst_0
  let main_v8 : IVec S8x4352x256 1 := cmpf .olt main_v6 main_v7
  let main_v9 : FVec F S8x512x4352 .bf16 := Host.absf main_arg2
  let main_cst_1 : FVec F S_ .bf16 := constant S_ .bf16 0x7F80#16
  let main_v10 : FVec F S8x512x4352 .bf16 := broadcastInDim S8x512x4352 ![] bcast_S_S8x512x4352 main_cst_1
  let main_v11 : IVec S8x512x4352 1 := cmpf .olt main_v9 main_v10
  let main_v12 : FVec F S4x32 .f32 := Host.absf main_arg3
  let main_cst_2 : FVec F S_ .f32 := constant S_ .f32 0x7F800000#32
  let main_v13 : FVec F S4x32 .f32 := broadcastInDim S4x32 ![] bcast_S_S4x32 main_cst_2
  let main_v14 : IVec S4x32 1 := cmpf .olt main_v12 main_v13
  let main_cst_3 : FVec F S_ .bf16 := constant S_ .bf16 0x3F80#16
  let main_v15 : FVec F S8x4x4352 .bf16 := broadcastInDim S8x4x4352 ![] bcast_S_S8x4x4352 main_cst_3
  let main_v16 : IVec S8x4x4352 1 := cmpf .oeq main_v2 main_v15
  (main_v5, main_v8, main_v11, main_v14, main_v16)
-- ==== Attn.lean ====
abbrev S8x4352x256 : Shape := ⟨3, ![8, 4352, 256]⟩
abbrev S8x512x4352 : Shape := ⟨3, ![8, 512, 4352]⟩
abbrev S4x32 : Shape := ⟨2, ![4, 32]⟩
abbrev S64 : Shape := ⟨1, ![64]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S8x4096x256 : Shape := ⟨3, ![8, 4096, 256]⟩
abbrev S1x256x256 : Shape := ⟨3, ![1, 256, 256]⟩
abbrev S1x4352x256 : Shape := ⟨3, ![1, 4352, 256]⟩
abbrev S1x512x4352 : Shape := ⟨3, ![1, 512, 4352]⟩
abbrev S256x256 : Shape := ⟨2, ![256, 256]⟩
abbrev S4352x256 : Shape := ⟨2, ![4352, 256]⟩
abbrev S1x32 : Shape := ⟨2, ![1, 32]⟩
abbrev S1 : Shape := ⟨1, ![1]⟩
abbrev S1x1 : Shape := ⟨2, ![1, 1]⟩
abbrev S1x128x4352 : Shape := ⟨3, ![1, 128, 4352]⟩
abbrev S128x4352 : Shape := ⟨2, ![128, 4352]⟩
abbrev S128x256 : Shape := ⟨2, ![128, 256]⟩
abbrev S64x256 : Shape := ⟨2, ![64, 256]⟩

abbrev nBuf : Space → Nat
  | .hbm => 10
  | .vmem => 10
  | .smem => 0
  | _ => 0

abbrev bufTy : (tb : Table) → Fin (tcTables nBuf tb) → BufTy
  | .hbm, ⟨0, _⟩ => ⟨S8x4352x256, .bf16⟩
  | .hbm, ⟨1, _⟩ => ⟨S8x4352x256, .bf16⟩
  | .hbm, ⟨2, _⟩ => ⟨S8x512x4352, .bf16⟩
  | .hbm, ⟨3, _⟩ => ⟨S4x32, .f32⟩
  | .hbm, ⟨4, _⟩ => ⟨S64, .f32⟩
  | .hbm, ⟨5, _⟩ => ⟨S1x64, .f32⟩
  | .hbm, ⟨6, _⟩ => ⟨S4x64, .f32⟩
  | .hbm, ⟨7, _⟩ => ⟨S256, .f32⟩
  | .hbm, ⟨8, _⟩ => ⟨S1x256, .f32⟩
  | .hbm, ⟨9, _⟩ => ⟨S8x4096x256, .f32⟩
  | .local _ .vmem, ⟨0, _⟩ => ⟨S1x256x256, .bf16⟩
  | .local _ .vmem, ⟨1, _⟩ => ⟨S1x256x256, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x512x4352, .bf16⟩
  | .local _ .vmem, ⟨5, _⟩ => ⟨S1x512x4352, .bf16⟩
  | .local _ .vmem, ⟨6, _⟩ => ⟨S4x32, .f32⟩
  | .local _ .vmem, ⟨7, _⟩ => ⟨S1x256, .f32⟩
  | .local _ .vmem, ⟨8, _⟩ => ⟨S1x256x256, .f32⟩
  | .local _ .vmem, ⟨9, _⟩ => ⟨S1x256x256, .f32⟩
  | _, _ => ⟨S8x4352x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S8x4352x256 : Shape := ⟨3, ![8, 4352, 256]⟩
abbrev S8x512x4352 : Shape := ⟨3, ![8, 512, 4352]⟩
abbrev S4x32 : Shape := ⟨2, ![4, 32]⟩
abbrev S64 : Shape := ⟨1, ![64]⟩
abbrev S8x4352x4x2x32 : Shape := ⟨5, ![8, 4352, 4, 2, 32]⟩
abbrev S8x4096x4x2x32 : Shape := ⟨5, ![8, 4096, 4, 2, 32]⟩
abbrev S8x4x128x4352 : Shape := ⟨4, ![8, 4, 128, 4352]⟩
abbrev S8x4x64x4352 : Shape := ⟨4, ![8, 4, 64, 4352]⟩
abbrev S1x32 : Shape := ⟨2, ![1, 32]⟩
abbrev S32 : Shape := ⟨1, ![32]⟩
abbrev S_ : Shape := ⟨0, ![]⟩
abbrev S8x4x2x4096x4352 : Shape := ⟨5, ![8, 4, 2, 4096, 4352]⟩
abbrev S8x4x2x4096 : Shape := ⟨4, ![8, 4, 2, 4096]⟩
abbrev S8x4x2x4096x1 : Shape := ⟨5, ![8, 4, 2, 4096, 1]⟩
abbrev S8x4x1x4096x4352 : Shape := ⟨5, ![8, 4, 1, 4096, 4352]⟩
abbrev S8x4x4096x4352 : Shape := ⟨4, ![8, 4, 4096, 4352]⟩
abbrev S8x4x64x4096 : Shape := ⟨4, ![8, 4, 64, 4096]⟩
abbrev S8x4096x4x64 : Shape := ⟨4, ![8, 4096, 4, 64]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S8x4096x256 : Shape := ⟨3, ![8, 4096, 256]⟩

abbrev nBuf : Space → Nat
  | .hbm => 76
  | .vmem => 0
  | .smem => 0
  | _ => 0

abbrev bufTy : (tb : Table) → Fin (tcTables nBuf tb) → BufTy
  | .hbm, ⟨0, _⟩ => ⟨S8x4352x256, .bf16⟩
  | .hbm, ⟨1, _⟩ => ⟨S8x4352x256, .bf16⟩
  | .hbm, ⟨2, _⟩ => ⟨S8x512x4352, .bf16⟩
  | .hbm, ⟨3, _⟩ => ⟨S4x32, .f32⟩
  | .hbm, ⟨4, _⟩ => ⟨S64, .f32⟩
  | .hbm, ⟨5, _⟩ => ⟨S8x4352x256, .f32⟩
  | .hbm, ⟨6, _⟩ => ⟨S8x4352x4x2x32, .f32⟩
  | .hbm, ⟨7, _⟩ => ⟨S8x4096x4x2x32, .f32⟩
  | .hbm, ⟨8, _⟩ => ⟨S8x4352x256, .f32⟩
  | .hbm, ⟨9, _⟩ => ⟨S8x4352x4x2x32, .f32⟩
  | .hbm, ⟨10, _⟩ => ⟨S8x512x4352, .f32⟩
  | .hbm, ⟨11, _⟩ => ⟨S8x4x128x4352, .f32⟩
  | .hbm, ⟨12, _⟩ => ⟨S8x4x64x4352, .f32⟩
  | .hbm, ⟨13, _⟩ => ⟨S1x32, .f32⟩
  | .hbm, ⟨14, _⟩ => ⟨S32, .f32⟩
  | .hbm, ⟨15, _⟩ => ⟨S1x32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x32, .f32⟩
  | .hbm, ⟨22, _⟩ => ⟨S32, .f32⟩
  | .hbm, ⟨23, _⟩ => ⟨S1x32, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x4x2x4096x4352, .f32⟩
  | .hbm, ⟨33, _⟩ => ⟨S_, .f32⟩
  | .hbm, ⟨34, _⟩ => ⟨S8x4x2x4096, .f32⟩
  | .hbm, ⟨35, _⟩ => ⟨S_, .f32⟩
  | .hbm, ⟨36, _⟩ => ⟨S8x4x2x4096, .f32⟩
  | .hbm, ⟨37, _⟩ => ⟨S8x4x2x4096, .f32⟩
  | .hbm, ⟨38, _⟩ => ⟨S8x4x2x4096x1, .f32⟩
  | .hbm, ⟨39, _⟩ => ⟨S8x4x2x4096x4352, .f32⟩
  | .hbm, ⟨40, _⟩ => ⟨S8x4x2x4096x4352, .f32⟩
  | .hbm, ⟨41, _⟩ => ⟨S8x4x2x4096x4352, .f32⟩
  | .hbm, ⟨42, _⟩ => ⟨S_, .f32⟩
  | .hbm, ⟨43, _⟩ => ⟨S8x4x2x4096, .f32⟩
  | .hbm, ⟨44, _⟩ => ⟨S8x4x2x4096x1, .f32⟩
  | .hbm, ⟨45, _⟩ => ⟨S8x4x2x4096x4352, .f32⟩
  | .hbm, ⟨46, _⟩ => ⟨S8x4x2x4096x4352, .f32⟩
  | .hbm, ⟨47, _⟩ => ⟨S8x4x1x4096x4352, .f32⟩
  | .hbm, ⟨48, _⟩ => ⟨S8x4x4096x4352, .f32⟩
  | .hbm, ⟨49, _⟩ => ⟨S8x4x1x4096x4352, .f32⟩
  | .hbm, ⟨50, _⟩ => ⟨S8x4x4096x4352, .f32⟩
  | .hbm, ⟨51, _⟩ => ⟨S8x4x4096x4352, .f32⟩
  | .hbm, ⟨52, _⟩ => ⟨S8x4x4096x4352, .f32⟩
  | .hbm, ⟨53, _⟩ => ⟨S8x4x4096x4352, .f32⟩
  | .hbm, ⟨54, _⟩ => ⟨S8x4x64x4096, .f32⟩
  | .hbm, ⟨55, _⟩ => ⟨S8x4096x4x64, .f32⟩
  | .hbm, ⟨56, _⟩ => ⟨S8x4096x4x64, .f32⟩
  | .hbm, ⟨57, _⟩ => ⟨S_, .f32⟩
  | .hbm, ⟨58, _⟩ => ⟨S8x4096x4, .f32⟩
  | .hbm, ⟨59, _⟩ => ⟨S8x4096x4x1, .f32⟩
  | .hbm, ⟨60, _⟩ => ⟨S_, .f32⟩
  | .hbm, ⟨61, _⟩ => ⟨S8x4096x4x1, .f32⟩
  | .hbm, ⟨62, _⟩ => ⟨S8x4096x4x1, .f32⟩
  | .hbm, ⟨63, _⟩ => ⟨S_, .f32⟩
  | .hbm, ⟨64, _⟩ => ⟨S8x4096x4x1, .f32⟩
  | .hbm, ⟨65, _⟩ => ⟨S8x4096x4x1, .f32⟩
  | .hbm, ⟨66, _⟩ => ⟨S8x4096x4x1, .f32⟩
  | .hbm, ⟨67, _⟩ => ⟨S8x4096x4x64, .f32⟩
  | .hbm, ⟨68, _⟩ => ⟨S8x4096x4x64, .f32⟩
  | .hbm, ⟨69, _⟩ => ⟨S1x1x1x64, .f32⟩
  | .hbm, ⟨70, _⟩ => ⟨S8x4096x4x64, .f32⟩
  | .hbm, ⟨71, _⟩ => ⟨S8x4096x4x64, .f32⟩
  | .hbm, ⟨72, _⟩ => ⟨S_, .f32⟩
  | .hbm, ⟨73, _⟩ => ⟨S8x4096x4x64, .f32⟩
  | .hbm, ⟨74, _⟩ => ⟨S8x4096x4x64, .f32⟩
  | .hbm, ⟨75, _⟩ => ⟨S8x4096x256, .f32⟩
  | _, _ => ⟨S8x4352x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩

abbrev nD : Nat := 1
abbrev τ : Topo := Topo.v7x

variable {F : FTy → Type} [FloatOps F]
-- ==== MlpUp.lean ====
abbrev S8x4352x1024 : Shape := ⟨3, ![8, 4352, 1024]⟩
abbrev S9x6x1024 : Shape := ⟨3, ![9, 6, 1024]⟩
abbrev S1024 : Shape := ⟨1, ![1024]⟩
abbrev S1024x4096 : Shape := ⟨2, ![1024, 4096]⟩
abbrev S_ : Shape := ⟨0, ![]⟩
abbrev S9x8x1024 : Shape := ⟨3, ![9, 8, 1024]⟩
abbrev S1x1024 : Shape := ⟨2, ![1, 1024]⟩
abbrev S8x4352x4096 : Shape := ⟨3, ![8, 4352, 4096]⟩
abbrev S1x256x1024 : Shape := ⟨3, ![1, 256, 1024]⟩
abbrev S1x8x1024 : Shape := ⟨3, ![1, 8, 1024]⟩
abbrev S1x256x4096 : Shape := ⟨3, ![1, 256, 4096]⟩
abbrev S256x1024 : Shape := ⟨2, ![256, 1024]⟩
abbrev S256 : Shape := ⟨1, ![256]⟩
abbrev S256x1 : Shape := ⟨2, ![256, 1]⟩
abbrev S8x1024 : Shape := ⟨2, ![8, 1024]⟩
abbrev S256x4096 : Shape := ⟨2, ![256, 4096]⟩

abbrev nBuf : Space → Nat
  | .hbm => 10
  | .vmem => 8
  | .smem => 0
  | _ => 0

abbrev bufTy : (tb : Table) → Fin (tcTables nBuf tb) → BufTy
  | .hbm, ⟨0, _⟩ => ⟨S8x4352x1024, .f32⟩
  | .hbm, ⟨1, _⟩ => ⟨S9x6x1024, .f32⟩
  | .hbm, ⟨2, _⟩ => ⟨S1024, .f32⟩
  | .hbm, ⟨3, _⟩ => ⟨S1024x4096, .f32⟩
  | .hbm, ⟨4, _⟩ => ⟨S_, .i32⟩
  | .hbm, ⟨5, _⟩ => ⟨S_, .f32⟩
  | .hbm, ⟨6, _⟩ => ⟨S9x8x1024, .f32⟩
  | .hbm, ⟨7, _⟩ => ⟨S1024x4096, .bf16⟩
  | .hbm, ⟨8, _⟩ => ⟨S1x1024, .f32⟩
  | .hbm, ⟨9, _⟩ => ⟨S8x4352x4096, .bf16⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x4096, .bf16⟩
  | .local _ .vmem, ⟨6, _⟩ => ⟨S1x256x4096, .bf16⟩
  | .local _ .vmem, ⟨7, _⟩ => ⟨S1x256x4096, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c8_i32 : BitVec 32 := 8#32
  let v1 : BitVec 32 := Scalar.select v0 c8_i32 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlpUpRefIdeal.lean ====
abbrev S8x4352x1024 : Shape := ⟨3, ![8, 4352, 1024]⟩
abbrev S9x6x1024 : Shape := ⟨3, ![9, 6, 1024]⟩
abbrev S1024 : Shape := ⟨1, ![1024]⟩
abbrev S1024x4096 : Shape := ⟨2, ![1024, 4096]⟩
abbrev S8x4096x1024 : Shape := ⟨3, ![8, 4096, 1024]⟩
abbrev S8x256x1024 : Shape := ⟨3, ![8, 256, 1024]⟩
abbrev S8x1x1024 : Shape := ⟨3, ![8, 1, 1024]⟩
abbrev S8x1024 : Shape := ⟨2, ![8, 1024]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S8x4096x4096 : Shape := ⟨3, ![8, 4096, 4096]⟩
abbrev S8x256 : Shape := ⟨2, ![8, 256]⟩
abbrev S8x256x1 : Shape := ⟨3, ![8, 256, 1]⟩
abbrev S8x256x4096 : Shape := ⟨3, ![8, 256, 4096]⟩
abbrev S8x4352x4096 : Shape := ⟨3, ![8, 4352, 4096]⟩

abbrev nBuf : Space → Nat
  | .hbm => 76
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S9x6x1024, .f32⟩
  | .hbm, ⟨2, _⟩ => ⟨S1024, .f32⟩
  | .hbm, ⟨3, _⟩ => ⟨S1024x4096, .f32⟩
  | .hbm, ⟨4, _⟩ => ⟨S8x4096x1024, .f32⟩
  | .hbm, ⟨5, _⟩ => ⟨S8x256x1024, .f32⟩
  | .hbm, ⟨6, _⟩ => ⟨S8x1x1024, .f32⟩
  | .hbm, ⟨7, _⟩ => ⟨S8x1024, .f32⟩
  | .hbm, ⟨8, _⟩ => ⟨S8x1x1024, .f32⟩
  | .hbm, ⟨9, _⟩ => ⟨S8x1x1024, .f32⟩
  | .hbm, ⟨10, _⟩ => ⟨S8x1024, .f32⟩
  | .hbm, ⟨11, _⟩ => ⟨S8x1x1024, .f32⟩
  | .hbm, ⟨12, _⟩ => ⟨S1x1x1024, .f32⟩
  | .hbm, ⟨13, _⟩ => ⟨S1024, .f32⟩
  | .hbm, ⟨14, _⟩ => ⟨S1x1x1024, .f32⟩
  | .hbm, ⟨15, _⟩ => ⟨S1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x4096, .f32⟩
  | .hbm, ⟨40, _⟩ => ⟨S_, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S8x256x1024, .f32⟩
  | .hbm, ⟨45, _⟩ => ⟨S_, .f32⟩
  | .hbm, ⟨46, _⟩ => ⟨S8x256, .f32⟩
  | .hbm, ⟨47, _⟩ => ⟨S8x256x1, .f32⟩
  | .hbm, ⟨48, _⟩ => ⟨S_, .f32⟩
  | .hbm, ⟨49, _⟩ => ⟨S8x256x1, .f32⟩
  | .hbm, ⟨50, _⟩ => ⟨S8x256x1, .f32⟩
  | .hbm, ⟨51, _⟩ => ⟨S_, .f32⟩
  | .hbm, ⟨52, _⟩ => ⟨S8x256x1, .f32⟩
  | .hbm, ⟨53, _⟩ => ⟨S8x256x1, .f32⟩
  | .hbm, ⟨54, _⟩ => ⟨S8x256x1, .f32⟩
  | .hbm, ⟨55, _⟩ => ⟨S8x256x1024, .f32⟩
  | .hbm, ⟨56, _⟩ => ⟨S8x256x1024, .f32⟩
  | .hbm, ⟨57, _⟩ => ⟨S1x1x1024, .f32⟩
  | .hbm, ⟨58, _⟩ => ⟨S8x256x1024, .f32⟩
  | .hbm, ⟨59, _⟩ => ⟨S8x256x1024, .f32⟩
  | .hbm, ⟨60, _⟩ => ⟨S_, .f32⟩
  | .hbm, ⟨61, _⟩ => ⟨S1024, .f32⟩
  | .hbm, ⟨62, _⟩ => ⟨S1024, .f32⟩
  | .hbm, ⟨63, _⟩ => ⟨S1x1x1024, .f32⟩
  | .hbm, ⟨64, _⟩ => ⟨S8x256x1024, .f32⟩
  | .hbm, ⟨65, _⟩ => ⟨S8x256x1024, .f32⟩
  | .hbm, ⟨66, _⟩ => ⟨S1x1x1024, .f32⟩
  | .hbm, ⟨67, _⟩ => ⟨S8x256x1024, .f32⟩
  | .hbm, ⟨68, _⟩ => ⟨S8x256x1024, .f32⟩
  | .hbm, ⟨69, _⟩ => ⟨S8x256x4096, .f32⟩
  | .hbm, ⟨70, _⟩ => ⟨S_, .f32⟩
  | .hbm, ⟨71, _⟩ => ⟨S8x256x4096, .f32⟩
  | .hbm, ⟨72, _⟩ => ⟨S8x256x4096, .f32⟩
  | .hbm, ⟨73, _⟩ => ⟨S8x256x4096, .f32⟩
  | .hbm, ⟨74, _⟩ => ⟨S8x4352x4096, .f32⟩
  | .hbm, ⟨75, _⟩ => ⟨S8x4352x4096, .bf16⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_cst : Ref sig .tc := ⟨.hbm, 40, rfl⟩
abbrev main_call0_v0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_call1_cst : Ref sig .tc := ⟨.hbm, 70, rfl⟩
abbrev main_call1_v0 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== MlpDown.lean ====
abbrev S8x4352x1024 : Shape := ⟨3, ![8, 4352, 1024]⟩
abbrev S9x6x1024 : Shape := ⟨3, ![9, 6, 1024]⟩
abbrev S4096x1024 : Shape := ⟨2, ![4096, 1024]⟩
abbrev S8x4352x4096 : Shape := ⟨3, ![8, 4352, 4096]⟩
abbrev S_ : Shape := ⟨0, ![]⟩
abbrev S9x8x1024 : Shape := ⟨3, ![9, 8, 1024]⟩
abbrev S1x256x1024 : Shape := ⟨3, ![1, 256, 1024]⟩
abbrev S1x8x1024 : Shape := ⟨3, ![1, 8, 1024]⟩
abbrev S1x256x4096 : Shape := ⟨3, ![1, 256, 4096]⟩
abbrev S256x4096 : Shape := ⟨2, ![256, 4096]⟩
abbrev S8x1024 : Shape := ⟨2, ![8, 1024]⟩
abbrev S1x1024 : Shape := ⟨2, ![1, 1024]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x4352x1024, .f32⟩
  | .hbm, ⟨1, _⟩ => ⟨S9x6x1024, .f32⟩
  | .hbm, ⟨2, _⟩ => ⟨S4096x1024, .f32⟩
  | .hbm, ⟨3, _⟩ => ⟨S8x4352x4096, .bf16⟩
  | .hbm, ⟨4, _⟩ => ⟨S_, .i32⟩
  | .hbm, ⟨5, _⟩ => ⟨S_, .f32⟩
  | .hbm, ⟨6, _⟩ => ⟨S9x8x1024, .f32⟩
  | .hbm, ⟨7, _⟩ => ⟨S4096x1024, .bf16⟩
  | .hbm, ⟨8, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S4096x1024, .bf16⟩
  | .local _ .vmem, ⟨5, _⟩ => ⟨S1x256x4096, .bf16⟩
  | .local _ .vmem, ⟨6, _⟩ => ⟨S1x256x4096, .bf16⟩
  | .local _ .vmem, ⟨7, _⟩ => ⟨S1x256x1024, .f32⟩
  | .local _ .vmem, ⟨8, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c8_i32 : BitVec 32 := 8#32
  let v1 : BitVec 32 := Scalar.select v0 c8_i32 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlpDownRefIdeal.lean ====
abbrev S8x4352x1024 : Shape := ⟨3, ![8, 4352, 1024]⟩
abbrev S9x6x1024 : Shape := ⟨3, ![9, 6, 1024]⟩
abbrev S4096x1024 : Shape := ⟨2, ![4096, 1024]⟩
abbrev S8x4352x4096 : Shape := ⟨3, ![8, 4352, 4096]⟩
abbrev S8x4096x1024 : Shape := ⟨3, ![8, 4096, 1024]⟩
abbrev S8x256x1024 : Shape := ⟨3, ![8, 256, 1024]⟩
abbrev S8x1x1024 : Shape := ⟨3, ![8, 1, 1024]⟩
abbrev S8x1024 : Shape := ⟨2, ![8, 1024]⟩
abbrev S1x1x1024 : Shape := ⟨3, ![1, 1, 1024]⟩
abbrev S1024 : Shape := ⟨1, ![1024]⟩
abbrev S8x4096x4096 : Shape := ⟨3, ![8, 4096, 4096]⟩
abbrev S8x256x4096 : Shape := ⟨3, ![8, 256, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S9x6x1024, .f32⟩
  | .hbm, ⟨2, _⟩ => ⟨S4096x1024, .f32⟩
  | .hbm, ⟨3, _⟩ => ⟨S8x4352x4096, .bf16⟩
  | .hbm, ⟨4, _⟩ => ⟨S8x4096x1024, .f32⟩
  | .hbm, ⟨5, _⟩ => ⟨S8x256x1024, .f32⟩
  | .hbm, ⟨6, _⟩ => ⟨S8x1x1024, .f32⟩
  | .hbm, ⟨7, _⟩ => ⟨S8x1024, .f32⟩
  | .hbm, ⟨8, _⟩ => ⟨S8x1x1024, .f32⟩
  | .hbm, ⟨9, _⟩ => ⟨S1x1x1024, .f32⟩
  | .hbm, ⟨10, _⟩ => ⟨S1024, .f32⟩
  | .hbm, ⟨11, _⟩ => ⟨S8x4352x4096, .f32⟩
  | .hbm, ⟨12, _⟩ => ⟨S8x4096x4096, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S8x256x4096, .f32⟩
  | .hbm, ⟨18, _⟩ => ⟨S8x256x1024, .f32⟩
  | .hbm, ⟨19, _⟩ => ⟨S1x1x1024, .f32⟩
  | .hbm, ⟨20, _⟩ => ⟨S8x256x1024, .f32⟩
  | .hbm, ⟨21, _⟩ => ⟨S8x256x1024, .f32⟩
  | .hbm, ⟨22, _⟩ => ⟨S8x256x1024, .f32⟩
  | .hbm, ⟨23, _⟩ => ⟨S8x4352x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== OutProj.lean ====
abbrev S8x4352x1024 : Shape := ⟨3, ![8, 4352, 1024]⟩
abbrev S9x6x1024 : Shape := ⟨3, ![9, 6, 1024]⟩
abbrev S1024x1024 : Shape := ⟨2, ![1024, 1024]⟩
abbrev S8x4352x256 : Shape := ⟨3, ![8, 4352, 256]⟩
abbrev S8x4096x256 : Shape := ⟨3, ![8, 4096, 256]⟩
abbrev S8x256x256 : Shape := ⟨3, ![8, 256, 256]⟩
abbrev S_ : Shape := ⟨0, ![]⟩
abbrev S9x8x1024 : Shape := ⟨3, ![9, 8, 1024]⟩
abbrev S1x256x1024 : Shape := ⟨3, ![1, 256, 1024]⟩
abbrev S1x8x1024 : Shape := ⟨3, ![1, 8, 1024]⟩
abbrev S1x256x256 : Shape := ⟨3, ![1, 256, 256]⟩
abbrev S256x256 : Shape := ⟨2, ![256, 256]⟩
abbrev S256x1024 : Shape := ⟨2, ![256, 1024]⟩
abbrev S8x1024 : Shape := ⟨2, ![8, 1024]⟩
abbrev S1x1024 : Shape := ⟨2, ![1, 1024]⟩

abbrev nBuf : Space → Nat
  | .hbm => 14
  | .vmem => 19
  | .smem => 0
  | _ => 0

abbrev bufTy : (tb : Table) → Fin (tcTables nBuf tb) → BufTy
  | .hbm, ⟨0, _⟩ => ⟨S8x4352x1024, .f32⟩
  | .hbm, ⟨1, _⟩ => ⟨S9x6x1024, .f32⟩
  | .hbm, ⟨2, _⟩ => ⟨S1024x1024, .f32⟩
  | .hbm, ⟨3, _⟩ => ⟨S8x4352x256, .f32⟩
  | .hbm, ⟨4, _⟩ => ⟨S8x4096x256, .bf16⟩
  | .hbm, ⟨5, _⟩ => ⟨S8x256x256, .bf16⟩
  | .hbm, ⟨6, _⟩ => ⟨S8x4352x256, .f32⟩
  | .hbm, ⟨7, _⟩ => ⟨S8x4096x256, .f32⟩
  | .hbm, ⟨8, _⟩ => ⟨S8x256x256, .f32⟩
  | .hbm, ⟨9, _⟩ => ⟨S_, .i32⟩
  | .hbm, ⟨10, _⟩ => ⟨S_, .f32⟩
  | .hbm, ⟨11, _⟩ => ⟨S9x8x1024, .f32⟩
  | .hbm, ⟨12, _⟩ => ⟨S1024x1024, .bf16⟩
  | .hbm, ⟨13, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x1024, .bf16⟩
  | .local _ .vmem, ⟨5, _⟩ => ⟨S1x256x256, .f32⟩
  | .local _ .vmem, ⟨6, _⟩ => ⟨S1x256x256, .f32⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x1024, .f32⟩
  | .local _ .vmem, ⟨18, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c8_i32 : BitVec 32 := 8#32
  let v1 : BitVec 32 := Scalar.select v0 c8_i32 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== OutProjRefIdeal.lean ====
abbrev S8x4352x1024 : Shape := ⟨3, ![8, 4352, 1024]⟩
abbrev S9x6x1024 : Shape := ⟨3, ![9, 6, 1024]⟩
abbrev S1024x1024 : Shape := ⟨2, ![1024, 1024]⟩
abbrev S8x4352x256 : Shape := ⟨3, ![8, 4352, 256]⟩
abbrev S8x4096x256 : Shape := ⟨3, ![8, 4096, 256]⟩
abbrev S8x256x256 : Shape := ⟨3, ![8, 256, 256]⟩
abbrev S8x4096x1024 : Shape := ⟨3, ![8, 4096, 1024]⟩
abbrev S8x256x1024 : Shape := ⟨3, ![8, 256, 1024]⟩
abbrev S8x1x1024 : Shape := ⟨3, ![8, 1, 1024]⟩
abbrev S8x1024 : Shape := ⟨2, ![8, 1024]⟩
abbrev S1x1x1024 : Shape := ⟨3, ![1, 1, 1024]⟩
abbrev S1024 : Shape := ⟨1, ![1024]⟩

abbrev nBuf : Space → Nat
  | .hbm => 34
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S9x6x1024, .f32⟩
  | .hbm, ⟨2, _⟩ => ⟨S1024x1024, .f32⟩
  | .hbm, ⟨3, _⟩ => ⟨S8x4352x256, .f32⟩
  | .hbm, ⟨4, _⟩ => ⟨S8x4096x256, .bf16⟩
  | .hbm, ⟨5, _⟩ => ⟨S8x256x256, .bf16⟩
  | .hbm, ⟨6, _⟩ => ⟨S8x4352x256, .f32⟩
  | .hbm, ⟨7, _⟩ => ⟨S8x4096x256, .f32⟩
  | .hbm, ⟨8, _⟩ => ⟨S8x256x256, .f32⟩
  | .hbm, ⟨9, _⟩ => ⟨S8x4096x1024, .f32⟩
  | .hbm, ⟨10, _⟩ => ⟨S8x256x1024, .f32⟩
  | .hbm, ⟨11, _⟩ => ⟨S8x1x1024, .f32⟩
  | .hbm, ⟨12, _⟩ => ⟨S8x1024, .f32⟩
  | .hbm, ⟨13, _⟩ => ⟨S8x1x1024, .f32⟩
  | .hbm, ⟨14, _⟩ => ⟨S1x1x1024, .f32⟩
  | .hbm, ⟨15, _⟩ => ⟨S1024, .f32⟩
  | .hbm, ⟨16, _⟩ => ⟨S8x4096x256, .f32⟩
  | .hbm, ⟨17, _⟩ => ⟨S8x4096x256, .f32⟩
  | .hbm, ⟨18, _⟩ => ⟨S8x4096x256, .f32⟩
  | .hbm, ⟨19, _⟩ => ⟨S8x4096x1024, .f32⟩
  | .hbm, ⟨20, _⟩ => ⟨S8x256x256, .f32⟩
  | .hbm, ⟨21, _⟩ => ⟨S8x256x256, .f32⟩
  | .hbm, ⟨22, _⟩ => ⟨S8x256x256, .f32⟩
  | .hbm, ⟨23, _⟩ => ⟨S8x256x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x256x1024, .f32⟩
  | .hbm, ⟨29, _⟩ => ⟨S1x1x1024, .f32⟩
  | .hbm, ⟨30, _⟩ => ⟨S8x256x1024, .f32⟩
  | .hbm, ⟨31, _⟩ => ⟨S8x256x1024, .f32⟩
  | .hbm, ⟨32, _⟩ => ⟨S8x256x1024, .f32⟩
  | .hbm, ⟨33, _⟩ => ⟨S8x4352x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== InProj.lean ====
abbrev S8x4352x1024 : Shape := ⟨3, ![8, 4352, 1024]⟩
abbrev S9x6x1024 : Shape := ⟨3, ![9, 6, 1024]⟩
abbrev S1024 : Shape := ⟨1, ![1024]⟩
abbrev S1024x3856 : Shape := ⟨2, ![1024, 3856]⟩
abbrev S32 : Shape := ⟨1, ![32]⟩
abbrev S8 : Shape := ⟨1, ![8]⟩
abbrev S_ : Shape := ⟨0, ![]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S4096x1 : Shape := ⟨2, ![4096, 1]⟩
abbrev S1x8 : Shape := ⟨2, ![1, 8]⟩
abbrev S4096x8 : Shape := ⟨2, ![4096, 8]⟩
abbrev S4096x32 : Shape := ⟨2, ![4096, 32]⟩
abbrev S1x4096x1x32 : Shape := ⟨4, ![1, 4096, 1, 32]⟩
abbrev S1x4096x8x32 : Shape := ⟨4, ![1, 4096, 8, 32]⟩
abbrev S4096x256 : Shape := ⟨2, ![4096, 256]⟩
abbrev S256x256 : Shape := ⟨2, ![256, 256]⟩
abbrev S4352x256 : Shape := ⟨2, ![4352, 256]⟩
abbrev S1024x1040 : Shape := ⟨2, ![1024, 1040]⟩
abbrev S1024x112 : Shape := ⟨2, ![1024, 112]⟩
abbrev S1024x2816 : Shape := ⟨2, ![1024, 2816]⟩
abbrev S1024x3968 : Shape := ⟨2, ![1024, 3968]⟩
abbrev S1x32 : Shape := ⟨2, ![1, 32]⟩
abbrev S8x32 : Shape := ⟨2, ![8, 32]⟩
abbrev S256 : Shape := ⟨1, ![256]⟩
abbrev S1x256 : Shape := ⟨2, ![1, 256]⟩
abbrev S9x8x1024 : Shape := ⟨3, ![9, 8, 1024]⟩
abbrev S1x1024 : Shape := ⟨2, ![1, 1024]⟩
abbrev S8x4352x1152 : Shape := ⟨3, ![8, 4352, 1152]⟩
abbrev S8x4352x768 : Shape := ⟨3, ![8, 4352, 768]⟩
abbrev S8x4352x1280 : Shape := ⟨3, ![8, 4352, 1280]⟩
abbrev S8x4352x256 : Shape := ⟨3, ![8, 4352, 256]⟩
abbrev S8x512x4352 : Shape := ⟨3, ![8, 512, 4352]⟩
abbrev S1x256x1024 : Shape := ⟨3, ![1, 256, 1024]⟩
abbrev S1x8x1024 : Shape := ⟨3, ![1, 8, 1024]⟩
abbrev S1x256x1152 : Shape := ⟨3, ![1, 256, 1152]⟩
abbrev S1x256x768 : Shape := ⟨3, ![1, 256, 768]⟩
abbrev S1x256x1280 : Shape := ⟨3, ![1, 256, 1280]⟩
abbrev S1x256x256 : Shape := ⟨3, ![1, 256, 256]⟩
abbrev S1x512x256 : Shape := ⟨3, ![1, 512, 256]⟩
abbrev S256x1024 : Shape := ⟨2, ![256, 1024]⟩
abbrev S256x1 : Shape := ⟨2, ![256, 1]⟩
abbrev S8x1024 : Shape := ⟨2, ![8, 1024]⟩
abbrev S256x3968 : Shape := ⟨2, ![256, 3968]⟩
abbrev S256x1152 : Shape := ⟨2, ![256, 1152]⟩
abbrev S256x768 : Shape := ⟨2, ![256, 768]⟩
abbrev S256x1280 : Shape := ⟨2, ![256, 1280]⟩
abbrev S512x256 : Shape := ⟨2, ![512, 256]⟩

abbrev nBuf : Space → Nat
  | .hbm => 77
  | .vmem => 24
  | .smem => 0
  | _ => 0

abbrev bufTy : (tb : Table) → Fin (tcTables nBuf tb) → BufTy
  | .hbm, ⟨0, _⟩ => ⟨S8x4352x1024, .f32⟩
  | .hbm, ⟨1, _⟩ => ⟨S9x6x1024, .f32⟩
  | .hbm, ⟨2, _⟩ => ⟨S1024, .f32⟩
  | .hbm, ⟨3, _⟩ => ⟨S1024x3856, .f32⟩
  | .hbm, ⟨4, _⟩ => ⟨S32, .f32⟩
  | .hbm, ⟨5, _⟩ => ⟨S32, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S64, .f32⟩
  | .hbm, ⟨15, _⟩ => ⟨S64x64, .f32⟩
  | .hbm, ⟨16, _⟩ => ⟨S4096, .f32⟩
  | .hbm, ⟨17, _⟩ => ⟨S64, .f32⟩
  | .hbm, ⟨18, _⟩ => ⟨S1x64, .f32⟩
  | .hbm, ⟨19, _⟩ => ⟨S64x64, .f32⟩
  | .hbm, ⟨20, _⟩ => ⟨S4096, .f32⟩
  | .hbm, ⟨21, _⟩ => ⟨S4096x1, .f32⟩
  | .hbm, ⟨22, _⟩ => ⟨S1x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S4096x1, .f32⟩
  | .hbm, ⟨27, _⟩ => ⟨S1x8, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S4096x32, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S4096x8, .f32⟩
  | .hbm, ⟨40, _⟩ => ⟨S4096x32, .f32⟩
  | .hbm, ⟨41, _⟩ => ⟨S1x4096x1x32, .f32⟩
  | .hbm, ⟨42, _⟩ => ⟨S1x4096x8x32, .f32⟩
  | .hbm, ⟨43, _⟩ => ⟨S4096x256, .f32⟩
  | .hbm, ⟨44, _⟩ => ⟨S_, .f32⟩
  | .hbm, ⟨45, _⟩ => ⟨S256x256, .f32⟩
  | .hbm, ⟨46, _⟩ => ⟨S4352x256, .f32⟩
  | .hbm, ⟨47, _⟩ => ⟨S1x4096x1x32, .f32⟩
  | .hbm, ⟨48, _⟩ => ⟨S1x4096x8x32, .f32⟩
  | .hbm, ⟨49, _⟩ => ⟨S4096x256, .f32⟩
  | .hbm, ⟨50, _⟩ => ⟨S_, .f32⟩
  | .hbm, ⟨51, _⟩ => ⟨S256x256, .f32⟩
  | .hbm, ⟨52, _⟩ => ⟨S4352x256, .f32⟩
  | .hbm, ⟨53, _⟩ => ⟨S1024x1040, .f32⟩
  | .hbm, ⟨54, _⟩ => ⟨S_, .f32⟩
  | .hbm, ⟨55, _⟩ => ⟨S1024x112, .f32⟩
  | .hbm, ⟨56, _⟩ => ⟨S1024x2816, .f32⟩
  | .hbm, ⟨57, _⟩ => ⟨S1024x3968, .f32⟩
  | .hbm, ⟨58, _⟩ => ⟨S1024x3968, .bf16⟩
  | .hbm, ⟨59, _⟩ => ⟨S1x32, .f32⟩
  | .hbm, ⟨60, _⟩ => ⟨S8x32, .f32⟩
  | .hbm, ⟨61, _⟩ => ⟨S256, .f32⟩
  | .hbm, ⟨62, _⟩ => ⟨S1x256, .f32⟩
  | .hbm, ⟨63, _⟩ => ⟨S1x32, .f32⟩
  | .hbm, ⟨64, _⟩ => ⟨S8x32, .f32⟩
  | .hbm, ⟨65, _⟩ => ⟨S256, .f32⟩
  | .hbm, ⟨66, _⟩ => ⟨S1x256, .f32⟩
  | .hbm, ⟨67, _⟩ => ⟨S_, .i32⟩
  | .hbm, ⟨68, _⟩ => ⟨S_, .f32⟩
  | .hbm, ⟨69, _⟩ => ⟨S9x8x1024, .f32⟩
  | .hbm, ⟨70, _⟩ => ⟨S1x1024, .f32⟩
  | .hbm, ⟨71, _⟩ => ⟨S8x4352x1152, .f32⟩
  | .hbm, ⟨72, _⟩ => ⟨S8x4352x768, .f32⟩
  | .hbm, ⟨73, _⟩ => ⟨S8x4352x1280, .f32⟩
  | .hbm, ⟨74, _⟩ => ⟨S8x4352x256, .bf16⟩
  | .hbm, ⟨75, _⟩ => ⟨S8x4352x256, .bf16⟩
  | .hbm, ⟨76, _⟩ => ⟨S8x512x4352, .bf16⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x3968, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1x256, .f32⟩
  | .local _ .vmem, ⟨11, _⟩ => ⟨S1x256, .f32⟩
  | .local _ .vmem, ⟨12, _⟩ => ⟨S1x256x1152, .f32⟩
  | .local _ .vmem, ⟨13, _⟩ => ⟨S1x256x1152, .f32⟩
  | .local _ .vmem, ⟨14, _⟩ => ⟨S1x256x768, .f32⟩
  | .local _ .vmem, ⟨15, _⟩ => ⟨S1x256x768, .f32⟩
  | .local _ .vmem, ⟨16, _⟩ => ⟨S1x256x1280, .f32⟩
  | .local _ .vmem, ⟨17, _⟩ => ⟨S1x256x1280, .f32⟩
  | .local _ .vmem, ⟨18, _⟩ => ⟨S1x256x256, .bf16⟩
  | .local _ .vmem, ⟨19, _⟩ => ⟨S1x256x256, .bf16⟩
  | .local _ .vmem, ⟨20, _⟩ => ⟨S1x256x256, .bf16⟩
  | .local _ .vmem, ⟨21, _⟩ => ⟨S1x256x256, .bf16⟩
  | .local _ .vmem, ⟨22, _⟩ => ⟨S1x512x256, .bf16⟩
  | .local _ .vmem, ⟨23, _⟩ => ⟨S1x512x256, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_c : Ref sig .tc := ⟨.hbm, 67, rfl⟩
abbrev main_call0_v0 : Ref sig .tc := ⟨.hbm, 68, rfl⟩
abbrev main_v56 : Ref sig .tc := ⟨.hbm, 69, rfl⟩
abbrev main_v57 : Ref sig .tc := ⟨.hbm, 70, rfl⟩
abbrev main_v58_0 : Ref sig .tc := ⟨.hbm, 71, rfl⟩
abbrev main_v58_1 : Ref sig .tc := ⟨.hbm, 72, rfl⟩
abbrev main_v58_2 : Ref sig .tc := ⟨.hbm, 73, rfl⟩
abbrev main_v58_3 : Ref sig .tc := ⟨.hbm, 74, rfl⟩
abbrev main_v58_4 : Ref sig .tc := ⟨.hbm, 75, rfl⟩
abbrev main_v58_5 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c8_i32 : BitVec 32 := 8#32
  let v1 : BitVec 32 := Scalar.select v0 c8_i32 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3968 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== InProjRefIdeal.lean ====
abbrev S8x4352x1024 : Shape := ⟨3, ![8, 4352, 1024]⟩
abbrev S9x6x1024 : Shape := ⟨3, ![9, 6, 1024]⟩
abbrev S1024 : Shape := ⟨1, ![1024]⟩
abbrev S1024x3856 : Shape := ⟨2, ![1024, 3856]⟩
abbrev S32 : Shape := ⟨1, ![32]⟩
abbrev S8x4096x1024 : Shape := ⟨3, ![8, 4096, 1024]⟩
abbrev S8x256x1024 : Shape := ⟨3, ![8, 256, 1024]⟩
abbrev S8x1x1024 : Shape := ⟨3, ![8, 1, 1024]⟩
abbrev S8x1024 : Shape := ⟨2, ![8, 1024]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S8x4096x3856 : Shape := ⟨3, ![8, 4096, 3856]⟩
abbrev S8x256 : Shape := ⟨2, ![8, 256]⟩
abbrev S8x256x1 : Shape := ⟨3, ![8, 256, 1]⟩
abbrev S8x256x3856 : Shape := ⟨3, ![8, 256, 3856]⟩
abbrev S8 : Shape := ⟨1, ![8]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S4096x1 : Shape := ⟨2, ![4096, 1]⟩
abbrev S1x8 : Shape := ⟨2, ![1, 8]⟩
abbrev S4096x8 : Shape := ⟨2, ![4096, 8]⟩
abbrev S1x4096x1x1x8 : Shape := ⟨5, ![1, 4096, 1, 1, 8]⟩
abbrev S8x4096x256 : Shape := ⟨3, ![8, 4096, 256]⟩
abbrev S8x4096x4x2x32 : Shape := ⟨5, ![8, 4096, 4, 2, 32]⟩
abbrev S8x4096x4x2 : Shape := ⟨4, ![8, 4096, 4, 2]⟩
abbrev S8x4096x4x2x1 : Shape := ⟨5, ![8, 4096, 4, 2, 1]⟩
abbrev S1x1x1x1x32 : Shape := ⟨5, ![1, 1, 1, 1, 32]⟩
abbrev S8x256x256 : Shape := ⟨3, ![8, 256, 256]⟩
abbrev S8x256x4x2x32 : Shape := ⟨5, ![8, 256, 4, 2, 32]⟩
abbrev S8x256x4x2 : Shape := ⟨4, ![8, 256, 4, 2]⟩
abbrev S8x256x4x2x1 : Shape := ⟨5, ![8, 256, 4, 2, 1]⟩
abbrev S8x4096x4x2x16 : Shape := ⟨5, ![8, 4096, 4, 2, 16]⟩
abbrev S8x4096x4x2x8 : Shape := ⟨5, ![8, 4096, 4, 2, 8]⟩
abbrev S8x4352x4x2x32 : Shape := ⟨5, ![8, 4352, 4, 2, 32]⟩
abbrev S8x4352x256 : Shape := ⟨3, ![8, 4352, 256]⟩
abbrev S8x4352x3856 : Shape := ⟨3, ![8, 4352, 3856]⟩
abbrev S8x4352x4x64 : Shape := ⟨4, ![8, 4352, 4, 64]⟩
abbrev S8x4x64x4352 : Shape := ⟨4, ![8, 4, 64, 4352]⟩
abbrev S8x4x1x4352 : Shape := ⟨4, ![8, 4, 1, 4352]⟩
abbrev S8x4x63x4352 : Shape := ⟨4, ![8, 4, 63, 4352]⟩
abbrev S8x4x128x4352 : Shape := ⟨4, ![8, 4, 128, 4352]⟩
abbrev S8x4352x1040 : Shape := ⟨3, ![8, 4352, 1040]⟩
abbrev S8x4352x1152 : Shape := ⟨3, ![8, 4352, 1152]⟩
abbrev S8x4352x768 : Shape := ⟨3, ![8, 4352, 768]⟩
abbrev S8x4352x1280 : Shape := ⟨3, ![8, 4352, 1280]⟩
abbrev S8x512x4352 : Shape := ⟨3, ![8, 512, 4352]⟩

abbrev nBuf : Space → Nat
  | .hbm => 257
  | .vmem => 0
  | .smem => 0
  | _ => 0

abbrev hbmTy0_0 (i : Nat) : BufTy := match i % 128 with
  | 0 => ⟨S8x4352x1024, .f32⟩
  | 1 => ⟨S9x6x1024, .f32⟩
  | 2 => ⟨S1024, .f32⟩
  | 3 => ⟨S1024x3856, .f32⟩
  | 4 => ⟨S32, .f32⟩
  | 5 => ⟨S32, .f32⟩
  | 6 => ⟨S8x4096x1024, .f32⟩
  | 7 => ⟨S8x256x1024, .f32⟩
  | 8 => ⟨S8x1x1024, .f32⟩
  | 9 => ⟨S8x1024, .f32⟩
  | 10 => ⟨S8x1x1024, .f32⟩
  | 11 => ⟨S8x1x1024, .f32⟩
  | 12 => ⟨S8x1024, .f32⟩
  | 13 => ⟨S8x1x1024, .f32⟩
  | 14 => ⟨S1x1x1024, .f32⟩
  | 15 => ⟨S1024, .f32⟩
  | 16 => ⟨S1x1x1024, .f32⟩
  | 17 => ⟨S1024, .f32⟩
  | 18 => ⟨S8x4096x1024, .f32⟩
  | 19 => ⟨S_, .f32⟩
  | 20 => ⟨S8x4096, .f32⟩
  | 21 => ⟨S8x4096x1, .f32⟩
  | 22 => ⟨S_, .f32⟩
  | 23 => ⟨S8x4096x1, .f32⟩
  | 24 => ⟨S8x4096x1, .f32⟩
  | 25 => ⟨S_, .f32⟩
  | 26 => ⟨S8x4096x1, .f32⟩
  | 27 => ⟨S8x4096x1, .f32⟩
  | 28 => ⟨S8x4096x1, .f32⟩
  | 29 => ⟨S8x4096x1024, .f32⟩
  | 30 => ⟨S8x4096x1024, .f32⟩
  | 31 => ⟨S1x1x1024, .f32⟩
  | 32 => ⟨S8x4096x1024, .f32⟩
  | 33 => ⟨S8x4096x1024, .f32⟩
  | 34 => ⟨S_, .f32⟩
  | 35 => ⟨S8x1x1024, .f32⟩
  | 36 => ⟨S8x1x1024, .f32⟩
  | 37 => ⟨S8x4096x1024, .f32⟩
  | 38 => ⟨S8x4096x1024, .f32⟩
  | 39 => ⟨S8x4096x1024, .f32⟩
  | 40 => ⟨S8x4096x1024, .f32⟩
  | 41 => ⟨S8x4096x3856, .f32⟩
  | 42 => ⟨S8x256x1024, .f32⟩
  | 43 => ⟨S_, .f32⟩
  | 44 => ⟨S8x256, .f32⟩
  | 45 => ⟨S8x256x1, .f32⟩
  | 46 => ⟨S_, .f32⟩
  | 47 => ⟨S8x256x1, .f32⟩
  | 48 => ⟨S8x256x1, .f32⟩
  | 49 => ⟨S_, .f32⟩
  | 50 => ⟨S8x256x1, .f32⟩
  | 51 => ⟨S8x256x1, .f32⟩
  | 52 => ⟨S8x256x1, .f32⟩
  | 53 => ⟨S8x256x1024, .f32⟩
  | 54 => ⟨S8x256x1024, .f32⟩
  | 55 => ⟨S1x1x1024, .f32⟩
  | 56 => ⟨S8x256x1024, .f32⟩
  | 57 => ⟨S8x256x1024, .f32⟩
  | 58 => ⟨S_, .f32⟩
  | 59 => ⟨S1024, .f32⟩
  | 60 => ⟨S1024, .f32⟩
  | 61 => ⟨S1x1x1024, .f32⟩
  | 62 => ⟨S8x256x1024, .f32⟩
  | 63 => ⟨S8x256x1024, .f32⟩
  | 64 => ⟨S1x1x1024, .f32⟩
  | 65 => ⟨S8x256x1024, .f32⟩
  | 66 => ⟨S8x256x1024, .f32⟩
  | 67 => ⟨S8x256x3856, .f32⟩
  | 68 => ⟨S8, .f32⟩
  | 69 => ⟨S8, .f32⟩
  | 70 => ⟨S_, .f32⟩
  | 71 => ⟨S8, .f32⟩
  | 72 => ⟨S8, .f32⟩
  | 73 => ⟨S_, .f32⟩
  | 74 => ⟨S8, .f32⟩
  | 75 => ⟨S8, .f32⟩
  | 76 => ⟨S64, .f32⟩
  | 77 => ⟨S64x64, .f32⟩
  | 78 => ⟨S4096, .f32⟩
  | 79 => ⟨S64, .f32⟩
  | 80 => ⟨S1x64, .f32⟩
  | 81 => ⟨S64x64, .f32⟩
  | 82 => ⟨S4096, .f32⟩
  | 83 => ⟨S4096x1, .f32⟩
  | 84 => ⟨S1x8, .f32⟩
  | 85 => ⟨S4096x8, .f32⟩
  | 86 => ⟨S4096x8, .f32⟩
  | 87 => ⟨S4096x8, .f32⟩
  | 88 => ⟨S4096x1, .f32⟩
  | 89 => ⟨S1x8, .f32⟩
  | 90 => ⟨S4096x8, .f32⟩
  | 91 => ⟨S4096x8, .f32⟩
  | 92 => ⟨S4096x8, .f32⟩
  | 93 => ⟨S4096x8, .f32⟩
  | 94 => ⟨S4096x8, .f32⟩
  | 95 => ⟨S4096x8, .f32⟩
  | 96 => ⟨S4096x8, .f32⟩
  | 97 => ⟨S1x4096x1x1x8, .f32⟩
  | 98 => ⟨S1x4096x1x1x8, .f32⟩
  | 99 => ⟨S1x4096x1x1x8, .f32⟩
  | 100 => ⟨S1x4096x1x1x8, .f32⟩
  | 101 => ⟨S8x4096x256, .f32⟩
  | 102 => ⟨S8x4096x4x2x32, .f32⟩
  | 103 => ⟨S8x4096x4x2x32, .f32⟩
  | 104 => ⟨S_, .f32⟩
  | 105 => ⟨S8x4096x4x2, .f32⟩
  | 106 => ⟨S8x4096x4x2x1, .f32⟩
  | 107 => ⟨S_, .f32⟩
  | 108 => ⟨S8x4096x4x2x1, .f32⟩
  | 109 => ⟨S8x4096x4x2x1, .f32⟩
  | 110 => ⟨S_, .f32⟩
  | 111 => ⟨S8x4096x4x2x1, .f32⟩
  | 112 => ⟨S8x4096x4x2x1, .f32⟩
  | 113 => ⟨S8x4096x4x2x1, .f32⟩
  | 114 => ⟨S8x4096x4x2x32, .f32⟩
  | 115 => ⟨S8x4096x4x2x32, .f32⟩
  | 116 => ⟨S1x1x1x1x32, .f32⟩
  | 117 => ⟨S8x4096x4x2x32, .f32⟩
  | 118 => ⟨S8x4096x4x2x32, .f32⟩
  | 119 => ⟨S8x4096x256, .f32⟩
  | 120 => ⟨S8x4096x4x2x32, .f32⟩
  | 121 => ⟨S8x4096x4x2x32, .f32⟩
  | 122 => ⟨S_, .f32⟩
  | 123 => ⟨S8x4096x4x2, .f32⟩
  | 124 => ⟨S8x4096x4x2x1, .f32⟩
  | 125 => ⟨S_, .f32⟩
  | 126 => ⟨S8x4096x4x2x1, .f32⟩
  | 127 => ⟨S8x4096x4x2x1, .f32⟩
  | _ => ⟨S8x4352x1024, .f32⟩

abbrev hbmTy0_1 (i : Nat) : BufTy := match i % 128 with
  | 0 => ⟨S_, .f32⟩
  | 1 => ⟨S8x4096x4x2x1, .f32⟩
  | 2 => ⟨S8x4096x4x2x1, .f32⟩
  | 3 => ⟨S8x4096x4x2x1, .f32⟩
  | 4 => ⟨S8x4096x4x2x32, .f32⟩
  | 5 => ⟨S8x4096x4x2x32, .f32⟩
  | 6 => ⟨S1x1x1x1x32, .f32⟩
  | 7 => ⟨S8x4096x4x2x32, .f32⟩
  | 8 => ⟨S8x4096x4x2x32, .f32⟩
  | 9 => ⟨S8x256x256, .f32⟩
  | 10 => ⟨S8x256x4x2x32, .f32⟩
  | 11 => ⟨S8x256x4x2x32, .f32⟩
  | 12 => ⟨S_, .f32⟩
  | 13 => ⟨S8x256x4x2, .f32⟩
  | 14 => ⟨S8x256x4x2x1, .f32⟩
  | 15 => ⟨S_, .f32⟩
  | 16 => ⟨S8x256x4x2x1, .f32⟩
  | 17 => ⟨S8x256x4x2x1, .f32⟩
  | 18 => ⟨S_, .f32⟩
  | 19 => ⟨S8x256x4x2x1, .f32⟩
  | 20 => ⟨S8x256x4x2x1, .f32⟩
  | 21 => ⟨S8x256x4x2x1, .f32⟩
  | 22 => ⟨S8x256x4x2x32, .f32⟩
  | 23 => ⟨S8x256x4x2x32, .f32⟩
  | 24 => ⟨S1x1x1x1x32, .f32⟩
  | 25 => ⟨S8x256x4x2x32, .f32⟩
  | 26 => ⟨S8x256x4x2x32, .f32⟩
  | 27 => ⟨S8x256x256, .f32⟩
  | 28 => ⟨S8x256x4x2x32, .f32⟩
  | 29 => ⟨S8x256x4x2x32, .f32⟩
  | 30 => ⟨S_, .f32⟩
  | 31 => ⟨S8x256x4x2, .f32⟩
  | 32 => ⟨S8x256x4x2x1, .f32⟩
  | 33 => ⟨S_, .f32⟩
  | 34 => ⟨S8x256x4x2x1, .f32⟩
  | 35 => ⟨S8x256x4x2x1, .f32⟩
  | 36 => ⟨S_, .f32⟩
  | 37 => ⟨S8x256x4x2x1, .f32⟩
  | 38 => ⟨S8x256x4x2x1, .f32⟩
  | 39 => ⟨S8x256x4x2x1, .f32⟩
  | 40 => ⟨S8x256x4x2x32, .f32⟩
  | 41 => ⟨S8x256x4x2x32, .f32⟩
  | 42 => ⟨S1x1x1x1x32, .f32⟩
  | 43 => ⟨S8x256x4x2x32, .f32⟩
  | 44 => ⟨S8x256x4x2x32, .f32⟩
  | 45 => ⟨S8x4096x4x2x16, .f32⟩
  | 46 => ⟨S8x4096x4x2x16, .f32⟩
  | 47 => ⟨S8x4096x4x2x8, .f32⟩
  | 48 => ⟨S8x4096x4x2x8, .f32⟩
  | 49 => ⟨S8x4096x4x2x8, .f32⟩
  | 50 => ⟨S8x4096x4x2x8, .f32⟩
  | 51 => ⟨S8x4096x4x2x8, .f32⟩
  | 52 => ⟨S8x4096x4x2x8, .f32⟩
  | 53 => ⟨S8x4096x4x2x8, .f32⟩
  | 54 => ⟨S8x4096x4x2x8, .f32⟩
  | 55 => ⟨S8x4096x4x2x8, .f32⟩
  | 56 => ⟨S8x4096x4x2x8, .f32⟩
  | 57 => ⟨S8x4096x4x2x8, .f32⟩
  | 58 => ⟨S8x4096x4x2x8, .f32⟩
  | 59 => ⟨S8x4096x4x2x16, .f32⟩
  | 60 => ⟨S8x4096x4x2x8, .f32⟩
  | 61 => ⟨S8x4096x4x2x8, .f32⟩
  | 62 => ⟨S8x4096x4x2x8, .f32⟩
  | 63 => ⟨S8x4096x4x2x8, .f32⟩
  | 64 => ⟨S8x4096x4x2x8, .f32⟩
  | 65 => ⟨S8x4096x4x2x8, .f32⟩
  | 66 => ⟨S8x4096x4x2x8, .f32⟩
  | 67 => ⟨S8x4096x4x2x8, .f32⟩
  | 68 => ⟨S8x4096x4x2x8, .f32⟩
  | 69 => ⟨S8x4096x4x2x8, .f32⟩
  | 70 => ⟨S8x4096x4x2x8, .f32⟩
  | 71 => ⟨S8x4096x4x2x8, .f32⟩
  | 72 => ⟨S8x4096x4x2x16, .f32⟩
  | 73 => ⟨S8x4096x4x2x32, .f32⟩
  | 74 => ⟨S8x4096x4x2x16, .f32⟩
  | 75 => ⟨S8x4096x4x2x16, .f32⟩
  | 76 => ⟨S8x4096x4x2x8, .f32⟩
  | 77 => ⟨S8x4096x4x2x8, .f32⟩
  | 78 => ⟨S8x4096x4x2x8, .f32⟩
  | 79 => ⟨S8x4096x4x2x8, .f32⟩
  | 80 => ⟨S8x4096x4x2x8, .f32⟩
  | 81 => ⟨S8x4096x4x2x8, .f32⟩
  | 82 => ⟨S8x4096x4x2x8, .f32⟩
  | 83 => ⟨S8x4096x4x2x8, .f32⟩
  | 84 => ⟨S8x4096x4x2x8, .f32⟩
  | 85 => ⟨S8x4096x4x2x8, .f32⟩
  | 86 => ⟨S8x4096x4x2x8, .f32⟩
  | 87 => ⟨S8x4096x4x2x8, .f32⟩
  | 88 => ⟨S8x4096x4x2x16, .f32⟩
  | 89 => ⟨S8x4096x4x2x8, .f32⟩
  | 90 => ⟨S8x4096x4x2x8, .f32⟩
  | 91 => ⟨S8x4096x4x2x8, .f32⟩
  | 92 => ⟨S8x4096x4x2x8, .f32⟩
  | 93 => ⟨S8x4096x4x2x8, .f32⟩
  | 94 => ⟨S8x4096x4x2x8, .f32⟩
  | 95 => ⟨S8x4096x4x2x8, .f32⟩
  | 96 => ⟨S8x4096x4x2x8, .f32⟩
  | 97 => ⟨S8x4096x4x2x8, .f32⟩
  | 98 => ⟨S8x4096x4x2x8, .f32⟩
  | 99 => ⟨S8x4096x4x2x8, .f32⟩
  | 100 => ⟨S8x4096x4x2x8, .f32⟩
  | 101 => ⟨S8x4096x4x2x16, .f32⟩
  | 102 => ⟨S8x4096x4x2x32, .f32⟩
  | 103 => ⟨S8x4352x4x2x32, .f32⟩
  | 104 => ⟨S8x4352x256, .f32⟩
  | 105 => ⟨S_, .f32⟩
  | 106 => ⟨S8x4352x256, .f32⟩
  | 107 => ⟨S8x4352x256, .f32⟩
  | 108 => ⟨S8x4352x256, .bf16⟩
  | 109 => ⟨S8x4352x4x2x32, .f32⟩
  | 110 => ⟨S8x4352x256, .f32⟩
  | 111 => ⟨S8x4352x256, .bf16⟩
  | 112 => ⟨S8x4352x3856, .f32⟩
  | 113 => ⟨S8x4352x256, .f32⟩
  | 114 => ⟨S8x4352x4x64, .f32⟩
  | 115 => ⟨S8x4x64x4352, .f32⟩
  | 116 => ⟨S_, .f32⟩
  | 117 => ⟨S8x4x1x4352, .f32⟩
  | 118 => ⟨S_, .f32⟩
  | 119 => ⟨S8x4x63x4352, .f32⟩
  | 120 => ⟨S8x4x128x4352, .f32⟩
  | 121 => ⟨S8x4352x1040, .f32⟩
  | 122 => ⟨S_, .i32⟩
  | 123 => ⟨S_, .f32⟩
  | 124 => ⟨S8x4352x1152, .f32⟩
  | 125 => ⟨S8x4352x768, .f32⟩
  | 126 => ⟨S8x4352x1280, .f32⟩
  | 127 => ⟨S8x512x4352, .f32⟩
  | _ => ⟨S8x4352x1024, .f32⟩

abbrev hbmTy0_2 (i : Nat) : BufTy := match i % 128 with
  | 0 => ⟨S8x512x4352, .bf16⟩
  | _ => ⟨S8x4352x1024, .f32⟩

abbrev hbmTy (i : Nat) : BufTy := match i / 128 with
  | 0 => hbmTy0_0 i
  | 1 => hbmTy0_1 i
  | 2 => hbmTy0_2 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_9 : Ref sig .tc := ⟨.hbm, 104, rfl⟩
abbrev main_v88 : Ref sig .tc := ⟨.hbm, 105, rfl⟩
abbrev main_v89 : Ref sig .tc := ⟨.hbm, 106, rfl⟩
abbrev main_cst_10 : Ref sig .tc := ⟨.hbm, 107, rfl⟩
abbrev main_v90 : Ref sig .tc := ⟨.hbm, 108, rfl⟩
abbrev main_v91 : Ref sig .tc := ⟨.hbm, 109, rfl⟩
abbrev main_cst_11 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_cst_12 : Ref sig .tc := ⟨.hbm, 122, rfl⟩
abbrev main_v103 : Ref sig .tc := ⟨.hbm, 123, rfl⟩
abbrev main_v104 : Ref sig .tc := ⟨.hbm, 124, rfl⟩
abbrev main_cst_13 : Ref sig .tc := ⟨.hbm, 125, rfl⟩
abbrev main_v105 : Ref sig .tc := ⟨.hbm, 126, rfl⟩
abbrev main_v106 : Ref sig .tc := ⟨.hbm, 127, rfl⟩
abbrev main_cst_14 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_cst_15 : Ref sig .tc := ⟨.hbm, 140, rfl⟩
abbrev main_v118 : Ref sig .tc := ⟨.hbm, 141, rfl⟩
abbrev main_v119 : Ref sig .tc := ⟨.hbm, 142, rfl⟩
abbrev main_cst_16 : Ref sig .tc := ⟨.hbm, 143, rfl⟩
abbrev main_v120 : Ref sig .tc := ⟨.hbm, 144, rfl⟩
abbrev main_v121 : Ref sig .tc := ⟨.hbm, 145, rfl⟩
abbrev main_cst_17 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_cst_18 : Ref sig .tc := ⟨.hbm, 158, rfl⟩
abbrev main_v133 : Ref sig .tc := ⟨.hbm, 159, rfl⟩
abbrev main_v134 : Ref sig .tc := ⟨.hbm, 160, rfl⟩
abbrev main_cst_19 : Ref sig .tc := ⟨.hbm, 161, rfl⟩
abbrev main_v135 : Ref sig .tc := ⟨.hbm, 162, rfl⟩
abbrev main_v136 : Ref sig .tc := ⟨.hbm, 163, rfl⟩
abbrev main_cst_20 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_cst_21 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_cst_22 : Ref sig .tc := ⟨.hbm, 244, rfl⟩
abbrev main_v215 : Ref sig .tc := ⟨.hbm, 245, rfl⟩
abbrev main_cst_23 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_c : Ref sig .tc := ⟨.hbm, 250, rfl⟩
abbrev main_call0_v0 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩

abbrev nD : Nat := 1
abbrev τ : Topo := Topo.v7x

variable {F : FTy → Type} [FloatOps F]
-- ==== AttnCtx.lean ====
abbrev S8x4352x256 : Shape := ⟨3, ![8, 4352, 256]⟩
abbrev S8x512x4352 : Shape := ⟨3, ![8, 512, 4352]⟩
abbrev S4x32 : Shape := ⟨2, ![4, 32]⟩
abbrev S64 : Shape := ⟨1, ![64]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S8x256x256 : Shape := ⟨3, ![8, 256, 256]⟩
abbrev S1x256x256 : Shape := ⟨3, ![1, 256, 256]⟩
abbrev S1x512x256 : Shape := ⟨3, ![1, 512, 256]⟩
abbrev S256x256 : Shape := ⟨2, ![256, 256]⟩
abbrev S1x32 : Shape := ⟨2, ![1, 32]⟩
abbrev S1 : Shape := ⟨1, ![1]⟩
abbrev S1x1 : Shape := ⟨2, ![1, 1]⟩
abbrev S1x128x256 : Shape := ⟨3, ![1, 128, 256]⟩
abbrev S128x256 : Shape := ⟨2, ![128, 256]⟩
abbrev S64x256 : Shape := ⟨2, ![64, 256]⟩

abbrev nBuf : Space → Nat
  | .hbm => 10
  | .vmem => 10
  | .smem => 0
  | _ => 0

abbrev bufTy : (tb : Table) → Fin (tcTables nBuf tb) → BufTy
  | .hbm, ⟨0, _⟩ => ⟨S8x4352x256, .bf16⟩
  | .hbm, ⟨1, _⟩ => ⟨S8x4352x256, .bf16⟩
  | .hbm, ⟨2, _⟩ => ⟨S8x512x4352, .bf16⟩
  | .hbm, ⟨3, _⟩ => ⟨S4x32, .f32⟩
  | .hbm, ⟨4, _⟩ => ⟨S64, .f32⟩
  | .hbm, ⟨5, _⟩ => ⟨S1x64, .f32⟩
  | .hbm, ⟨6, _⟩ => ⟨S4x64, .f32⟩
  | .hbm, ⟨7, _⟩ => ⟨S256, .f32⟩
  | .hbm, ⟨8, _⟩ => ⟨S1x256, .f32⟩
  | .hbm, ⟨9, _⟩ => ⟨S8x256x256, .f32⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x512x256, .bf16⟩
  | .local _ .vmem, ⟨5, _⟩ => ⟨S1x512x256, .bf16⟩
  | .local _ .vmem, ⟨6, _⟩ => ⟨S4x32, .f32⟩
  | .local _ .vmem, ⟨7, _⟩ => ⟨S1x256, .f32⟩
  | .local _ .vmem, ⟨8, _⟩ => ⟨S1x256x256, .f32⟩
  | .local _ .vmem, ⟨9, _⟩ => ⟨S1x256x256, .f32⟩
  | _, _ => ⟨S8x4352x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![arg0.toNat, c16_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c16_i32 : BitVec 32 := 16#32
  let c0_i32_0 : BitVec 32 := 0#32
  ![arg0.toNat, c0_i32.toNat, c16_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnCtxRefIdeal.lean ====
abbrev S8x4352x256 : Shape := ⟨3, ![8, 4352, 256]⟩
abbrev S8x512x4352 : Shape := ⟨3, ![8, 512, 4352]⟩
abbrev S4x32 : Shape := ⟨2, ![4, 32]⟩
abbrev S64 : Shape := ⟨1, ![64]⟩
abbrev S8x4352x4x2x32 : Shape := ⟨5, ![8, 4352, 4, 2, 32]⟩
abbrev S8x256x4x2x32 : Shape := ⟨5, ![8, 256, 4, 2, 32]⟩
abbrev S8x4x128x4352 : Shape := ⟨4, ![8, 4, 128, 4352]⟩
abbrev S8x4x64x256 : Shape := ⟨4, ![8, 4, 64, 256]⟩
abbrev S1x32 : Shape := ⟨2, ![1, 32]⟩
abbrev S32 : Shape := ⟨1, ![32]⟩
abbrev S_ : Shape := ⟨0, ![]⟩
abbrev S8x4x2x256x256 : Shape := ⟨5, ![8, 4, 2, 256, 256]⟩
abbrev S8x4x2x256 : Shape := ⟨4, ![8, 4, 2, 256]⟩
abbrev S8x4x2x256x1 : Shape := ⟨5, ![8, 4, 2, 256, 1]⟩
abbrev S8x4x1x256x256 : Shape := ⟨5, ![8, 4, 1, 256, 256]⟩
abbrev S8x4x256x256 : Shape := ⟨4, ![8, 4, 256, 256]⟩
abbrev S8x256x4x64 : Shape := ⟨4, ![8, 256, 4, 64]⟩
abbrev S8x256x4 : Shape := ⟨3, ![8, 256, 4]⟩
abbrev S8x256x4x1 : Shape := ⟨4, ![8, 256, 4, 1]⟩
abbrev S1x1x1x64 : Shape := ⟨4, ![1, 1, 1, 64]⟩
abbrev S8x256x256 : Shape := ⟨3, ![8, 256, 256]⟩

abbrev nBuf : Space → Nat
  | .hbm => 77
  | .vmem => 0
  | .smem => 0
  | _ => 0

abbrev bufTy : (tb : Table) → Fin (tcTables nBuf tb) → BufTy
  | .hbm, ⟨0, _⟩ => ⟨S8x4352x256, .bf16⟩
  | .hbm, ⟨1, _⟩ => ⟨S8x4352x256, .bf16⟩
  | .hbm, ⟨2, _⟩ => ⟨S8x512x4352, .bf16⟩
  | .hbm, ⟨3, _⟩ => ⟨S4x32, .f32⟩
  | .hbm, ⟨4, _⟩ => ⟨S64, .f32⟩
  | .hbm, ⟨5, _⟩ => ⟨S8x4352x256, .f32⟩
  | .hbm, ⟨6, _⟩ => ⟨S8x4352x4x2x32, .f32⟩
  | .hbm, ⟨7, _⟩ => ⟨S8x256x4x2x32, .f32⟩
  | .hbm, ⟨8, _⟩ => ⟨S8x4352x256, .f32⟩
  | .hbm, ⟨9, _⟩ => ⟨S8x4352x4x2x32, .f32⟩
  | .hbm, ⟨10, _⟩ => ⟨S8x256x4x2x32, .f32⟩
  | .hbm, ⟨11, _⟩ => ⟨S8x512x4352, .f32⟩
  | .hbm, ⟨12, _⟩ => ⟨S8x4x128x4352, .f32⟩
  | .hbm, ⟨13, _⟩ => ⟨S8x4x64x256, .f32⟩
  | .hbm, ⟨14, _⟩ => ⟨S1x32, .f32⟩
  | .hbm, ⟨15, _⟩ => ⟨S32, .f32⟩
  | .hbm, ⟨16, _⟩ => ⟨S1x32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x32, .f32⟩
  | .hbm, ⟨23, _⟩ => ⟨S32, .f32⟩
  | .hbm, ⟨24, _⟩ => ⟨S1x32, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8x4x2x256x256, .f32⟩
  | .hbm, ⟨34, _⟩ => ⟨S_, .f32⟩
  | .hbm, ⟨35, _⟩ => ⟨S8x4x2x256, .f32⟩
  | .hbm, ⟨36, _⟩ => ⟨S_, .f32⟩
  | .hbm, ⟨37, _⟩ => ⟨S8x4x2x256, .f32⟩
  | .hbm, ⟨38, _⟩ => ⟨S8x4x2x256, .f32⟩
  | .hbm, ⟨39, _⟩ => ⟨S8x4x2x256x1, .f32⟩
  | .hbm, ⟨40, _⟩ => ⟨S8x4x2x256x256, .f32⟩
  | .hbm, ⟨41, _⟩ => ⟨S8x4x2x256x256, .f32⟩
  | .hbm, ⟨42, _⟩ => ⟨S8x4x2x256x256, .f32⟩
  | .hbm, ⟨43, _⟩ => ⟨S_, .f32⟩
  | .hbm, ⟨44, _⟩ => ⟨S8x4x2x256, .f32⟩
  | .hbm, ⟨45, _⟩ => ⟨S8x4x2x256x1, .f32⟩
  | .hbm, ⟨46, _⟩ => ⟨S8x4x2x256x256, .f32⟩
  | .hbm, ⟨47, _⟩ => ⟨S8x4x2x256x256, .f32⟩
  | .hbm, ⟨48, _⟩ => ⟨S8x4x1x256x256, .f32⟩
  | .hbm, ⟨49, _⟩ => ⟨S8x4x256x256, .f32⟩
  | .hbm, ⟨50, _⟩ => ⟨S8x4x1x256x256, .f32⟩
  | .hbm, ⟨51, _⟩ => ⟨S8x4x256x256, .f32⟩
  | .hbm, ⟨52, _⟩ => ⟨S8x4x256x256, .f32⟩
  | .hbm, ⟨53, _⟩ => ⟨S8x4x256x256, .f32⟩
  | .hbm, ⟨54, _⟩ => ⟨S8x4x256x256, .f32⟩
  | .hbm, ⟨55, _⟩ => ⟨S8x4x64x256, .f32⟩
  | .hbm, ⟨56, _⟩ => ⟨S8x256x4x64, .f32⟩
  | .hbm, ⟨57, _⟩ => ⟨S8x256x4x64, .f32⟩
  | .hbm, ⟨58, _⟩ => ⟨S_, .f32⟩
  | .hbm, ⟨59, _⟩ => ⟨S8x256x4, .f32⟩
  | .hbm, ⟨60, _⟩ => ⟨S8x256x4x1, .f32⟩
  | .hbm, ⟨61, _⟩ => ⟨S_, .f32⟩
  | .hbm, ⟨62, _⟩ => ⟨S8x256x4x1, .f32⟩
  | .hbm, ⟨63, _⟩ => ⟨S8x256x4x1, .f32⟩
  | .hbm, ⟨64, _⟩ => ⟨S_, .f32⟩
  | .hbm, ⟨65, _⟩ => ⟨S8x256x4x1, .f32⟩
  | .hbm, ⟨66, _⟩ => ⟨S8x256x4x1, .f32⟩
  | .hbm, ⟨67, _⟩ => ⟨S8x256x4x1, .f32⟩
  | .hbm, ⟨68, _⟩ => ⟨S8x256x4x64, .f32⟩
  | .hbm, ⟨69, _⟩ => ⟨S8x256x4x64, .f32⟩
  | .hbm, ⟨70, _⟩ => ⟨S1x1x1x64, .f32⟩
  | .hbm, ⟨71, _⟩ => ⟨S8x256x4x64, .f32⟩
  | .hbm, ⟨72, _⟩ => ⟨S8x256x4x64, .f32⟩
  | .hbm, ⟨73, _⟩ => ⟨S_, .f32⟩
  | .hbm, ⟨74, _⟩ => ⟨S8x256x4x64, .f32⟩
  | .hbm, ⟨75, _⟩ => ⟨S8x256x4x64, .f32⟩
  | .hbm, ⟨76, _⟩ => ⟨S8x256x256, .f32⟩
  | _, _ => ⟨S8x4352x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩

abbrev nD : Nat := 1
abbrev τ : Topo := Topo.v7x

variable {F : FTy → Type} [FloatOps F]
-- ==== Modulation.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationRefIdeal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S4x6144x16 : Shape := ⟨3, ![4, 6144, 16]⟩
abbrev S4x16x6144 : Shape := ⟨3, ![4, 16, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x6144x16, .f32⟩
  | .hbm, ⟨13, _⟩ => ⟨S4x16x6144, .f32⟩
  | .hbm, ⟨14, _⟩ => ⟨S4x1x6144, .f32⟩
  | .hbm, ⟨15, _⟩ => ⟨S4x16x6144, .f32⟩
  | .hbm, ⟨16, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.AttnMath.lean ====
/- Arithmetic of the differential attention over extended reals, free of any program: the softmax quotient read off a
   row of ones, the masked score sum, and the sum over one group of lanes. -/
module

public import Idealize.ShloMosaic.Lib.Pointwise

@[expose] public section

noncomputable section

namespace Cert.AttnMath

open Idealize.ShloMosaic

/-- The greatest of a row of scores, the fold starting at minus infinity. -/
def top {n : ℕ} (s : Fin n → EReal) : EReal := Finset.univ.fold max (⊥ : EReal) s

/-- The sum of `v` weighted by the exponentials of the scores less their greatest. -/
def wsum {n : ℕ} (s v : Fin n → EReal) : EReal := ∑ k, v k * Ideal.exp (s k - top s)

/-- The normalizer of the softmax of `s`. -/
def norm {n : ℕ} (s : Fin n → EReal) : EReal := ∑ k, Ideal.exp (s k - top s)

/-- One differential attention output: the softmax of `s`, less `lam` times the softmax of `t`, applied to `v`. -/
def diffAttn {n : ℕ} (lam : EReal) (s t v : Fin n → EReal) : EReal :=
  ∑ k, v k * (Ideal.div (Ideal.exp (s k - top s)) (norm s) - lam * Ideal.div (Ideal.exp (t k - top t)) (norm t))

/-- The bf16 pattern the kernel's maximum starts from is minus infinity. -/
theorem negInf_bf16 : Ideal.ofBits .bf16 0xFF80#16 = ⊥ := by simp [Ideal.ofBits, Ideal.ieee]

/-- The f32 pattern the reference's maximum starts from is minus infinity. -/
theorem negInf_f32 : Ideal.ofBits .f32 0xFF800000#32 = ⊥ := by simp [Ideal.ofBits, Ideal.ieee]

/-- A sum of finite values is finite. -/
theorem sum_coe {ι : Type*} (A : Finset ι) (f : ι → ℝ) : ∑ k ∈ A, ((f k : ℝ) : EReal) = ((∑ k ∈ A, f k : ℝ) : EReal) := by
  classical
  induction A using Finset.induction_on with
  | empty => simp
  | insert a A ha ih => rw [Finset.sum_insert ha, Finset.sum_insert ha, ih, EReal.coe_add]

/-- The greatest of finitely many finite scores, at least one of them, is finite. -/
theorem top_coe {n : ℕ} (hn : 0 < n) (s : Fin n → ℝ) : ∃ r : ℝ, top (fun k => ((s k : ℝ) : EReal)) = (r : EReal) := by
  have hb : ∀ (A : Finset (Fin n)), A.fold max (⊥ : EReal) (fun k => ((s k : ℝ) : EReal)) = ⊥
      ∨ ∃ r : ℝ, A.fold max (⊥ : EReal) (fun k => ((s k : ℝ) : EReal)) = (r : EReal) := by
    classical
    intro A
    induction A using Finset.induction_on with
    | empty => left; simp
    | insert a A ha ih =>
      right
      rw [Finset.fold_insert ha]
      rcases ih with h | ⟨r, h⟩
      · exact ⟨s a, by rw [h]; simp⟩
      · exact ⟨max (s a) r, by rw [h]; exact (EReal.coe_strictMono.monotone.map_max).symm⟩
  rcases hb Finset.univ with h | h
  · exfalso
    have h1 : ((s ⟨0, hn⟩ : ℝ) : EReal) ≤ Finset.univ.fold max (⊥ : EReal) (fun k => ((s k : ℝ) : EReal)) :=
      Finset.le_fold_max _ |>.2 (Or.inr ⟨⟨0, hn⟩, Finset.mem_univ _, le_refl _⟩)
    rw [h] at h1
    exact absurd (le_bot_iff.1 h1) (EReal.coe_ne_bot _)
  · exact h

/-- Dividing a finite value by a finite one that is not zero. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The kernel's accumulate-then-divide equals the softmax applied to the values, for finite scores and values. -/
theorem quotient_eq {n : ℕ} (hn : 0 < n) (lam : ℝ) (s t v : Fin n → ℝ) :
    Ideal.div (wsum (fun k => (s k : EReal)) (fun k => (v k : EReal))) (wsum (fun k => (s k : EReal)) fun _ => 1)
      - (lam : EReal) * Ideal.div (wsum (fun k => (t k : EReal)) (fun k => (v k : EReal))) (wsum (fun k => (t k : EReal)) fun _ => 1)
    = diffAttn (lam : EReal) (fun k => (s k : EReal)) (fun k => (t k : EReal)) (fun k => (v k : EReal)) := by
  obtain ⟨a, ha⟩ := top_coe hn s
  obtain ⟨b, hb⟩ := top_coe hn t
  have pos : ∀ (u : Fin n → ℝ) (r : ℝ), (∑ k, Real.exp (u k - r)) ≠ 0 := fun u r =>
    ne_of_gt (Finset.sum_pos (fun k _ => Real.exp_pos _) ⟨⟨0, hn⟩, Finset.mem_univ _⟩)
  unfold diffAttn wsum norm
  simp only [ha, hb, ← EReal.coe_sub, Ideal.exp_coe, one_mul, ← EReal.coe_mul, sum_coe]
  simp only [div_real _ _ (pos s a), div_real _ _ (pos t b), ← EReal.coe_sub, ← EReal.coe_mul, sum_coe]
  congr 1
  rw [Finset.sum_div, Finset.sum_div, Finset.mul_sum, ← Finset.sum_sub_distrib]
  exact Finset.sum_congr rfl fun k _ => by ring

/-- A finite extended real, given by its absolute value being below infinity, is a real. -/
theorem exists_real {x : EReal} (h : max x (-x) < ⊤) : ∃ r : ℝ, x = (r : EReal) := by
  induction x with
  | bot => simp at h
  | top => simp at h
  | coe r => exact ⟨r, rfl⟩

/-- The same with the family of values given at every index. -/
theorem exists_reals {ι : Type*} {x : ι → EReal} (h : ∀ i, max (x i) (-(x i)) < ⊤) : ∃ r : ι → ℝ, ∀ i, x i = (r i : EReal) :=
  ⟨fun i => (exists_real (h i)).choose, fun i => (exists_real (h i)).choose_spec⟩

/-- A sum whose terms are kept on `w` lanes from `lo` on and zero elsewhere is the sum over those lanes. -/
theorem sum_window {n w : ℕ} (f : Fin n → EReal) (lo : ℕ) (h : lo + w ≤ n) (g : Fin n → EReal)
    (hin : ∀ d : Fin w, g ⟨lo + d, by omega⟩ = f ⟨lo + d, by omega⟩)
    (hout : ∀ l : Fin n, ¬ (lo ≤ l ∧ l < lo + w) → g l = 0) :
    ∑ l, g l = ∑ d : Fin w, f ⟨lo + d, by omega⟩ := by
  symm
  refine Finset.sum_of_injOn (fun d : Fin w => (⟨lo + d, by omega⟩ : Fin n)) ?_ ?_ ?_ ?_
  · intro a _ b _ hab
    have := congrArg Fin.val hab
    exact Fin.ext (by simpa using this)
  · intro a _; simp
  · intro l _ hl
    apply hout
    intro hc
    exact hl ⟨⟨l - lo, by omega⟩, by simp, Fin.ext (by simp; omega)⟩
  · intro d _; exact (hin d).symm

end Cert.AttnMath

end
-- ==== Proof.AttnBlock.lean ====
/- What one grid point of the attention kernel writes, read at an index of its block. -/
module

public import proofs.«01_k».proof.Proof.Gen.AttnIdeal.Value
public import proofs.«01_k».proof.Proof.AttnMath
public import Idealize.ShloMosaic.Lib.Pointwise
public import Idealize.ShloMosaic.Lib.Pipeline.ValueKit

@[expose] public section

set_option maxRecDepth 16384

noncomputable section

namespace Cert.AttnIdeal.Block

open Cert.AttnIdeal Cert.AttnIdeal.Gen Idealize.ShloMosaic Idealize.ShloMosaic.TcCoe Cert.AttnMath

/-- The score of key `k` against query `q` on the 32 lanes from `lo` on. -/
def score (x : Vec Ideal S1x256x256 .bf16) (y : Vec Ideal S1x4352x256 .bf16) (lo : ℕ) (h : lo + 32 ≤ 256) (q : Fin 256)
    (k : Fin 4352) : EReal :=
  ∑ d : Fin 32, y (ix3 0 k ⟨lo + d, by omega⟩) * x (ix3 0 q ⟨lo + d, by omega⟩)

/-- A sum over the lanes, masked to thirty-two of them, is the sum over those. -/
theorem sum_masked (f : Fin 256 → EReal) (b : Fin 256 → BitVec 1) (lo : ℕ) (h : lo + 32 ≤ 256)
    (hb : ∀ l : Fin 256, b l = if lo ≤ l.val ∧ l.val < lo + 32 then 1#1 else 0#1) :
    ∑ l, Scalar.select (b l) (f l) 0 = ∑ d : Fin 32, f ⟨lo + d, by omega⟩ := by
  refine sum_window f lo h _ (fun d => ?_) fun l hl => ?_
  · rw [hb, if_pos ⟨by simp, by simp⟩]; rfl
  · rw [hb, if_neg hl]; rfl

/-- The first map's scores, at a key and a query of the block. -/
theorem pay5_apply (x : Vec Ideal S1x256x256 .bf16) (y : Vec Ideal S1x4352x256 .bf16) (k : Fin 4352) (q : Fin 256) :
    k0_pay5 (F := Ideal) x y (ix2 k q) = score x y 0 (by decide) q k := by
  pointwise [k0_pay5, k0_pay2, k0_pay3]
  exact sum_masked _ _ 0 (by decide) (by decide +kernel)

/-- The second map's scores, at a key and a query of the block. -/
theorem pay6_apply (x : Vec Ideal S1x256x256 .bf16) (y : Vec Ideal S1x4352x256 .bf16) (k : Fin 4352) (q : Fin 256) :
    k0_pay6 (F := Ideal) x y (ix2 k q) = score x y 32 (by decide) q k := by
  pointwise [k0_pay6, k0_pay2, k0_pay3]
  exact sum_masked _ _ 32 (by decide) (by decide +kernel)

/-- The third map's scores, at a key and a query of the block. -/
theorem pay8_apply (x : Vec Ideal S1x256x256 .bf16) (y : Vec Ideal S1x4352x256 .bf16) (k : Fin 4352) (q : Fin 256) :
    k0_pay8 (F := Ideal) (k0_pay2 x) (k0_pay3 y) (iota .tc S256x256 32 [1] iota_S256x256_d1_w32) (ix2 k q) = score x y 64 (by decide) q k := by
  pointwise [k0_pay8, k0_pay2, k0_pay3]
  exact sum_masked _ _ 64 (by decide) (by decide +kernel)

/-- The fourth map's scores, at a key and a query of the block. -/
theorem pay10_apply (x : Vec Ideal S1x256x256 .bf16) (y : Vec Ideal S1x4352x256 .bf16) (k : Fin 4352) (q : Fin 256) :
    k0_pay10 (F := Ideal) (k0_pay2 x) (k0_pay3 y) (iota .tc S256x256 32 [1] iota_S256x256_d1_w32) (ix2 k q) = score x y 96 (by decide) q k := by
  pointwise [k0_pay10, k0_pay2, k0_pay3]
  exact sum_masked _ _ 96 (by decide) (by decide +kernel)

/-- The fifth map's scores, at a key and a query of the block. -/
theorem pay13_apply (x : Vec Ideal S1x256x256 .bf16) (y : Vec Ideal S1x4352x256 .bf16) (k : Fin 4352) (q : Fin 256) :
    k0_pay13 (F := Ideal) (k0_pay2 x) (k0_pay3 y) (iota .tc S256x256 32 [1] iota_S256x256_d1_w32) (ix2 k q) = score x y 128 (by decide) q k := by
  pointwise [k0_pay13, k0_pay2, k0_pay3]
  exact sum_masked _ _ 128 (by decide) (by decide +kernel)

/-- The sixth map's scores, at a key and a query of the block. -/
theorem pay15_apply (x : Vec Ideal S1x256x256 .bf16) (y : Vec Ideal S1x4352x256 .bf16) (k : Fin 4352) (q : Fin 256) :
    k0_pay15 (F := Ideal) (k0_pay2 x) (k0_pay3 y) (iota .tc S256x256 32 [1] iota_S256x256_d1_w32) (ix2 k q) = score x y 160 (by decide) q k := by
  pointwise [k0_pay15, k0_pay2, k0_pay3]
  exact sum_masked _ _ 160 (by decide) (by decide +kernel)

/-- The eighth map's scores, at a key and a query of the block. -/
theorem pay19_apply (x : Vec Ideal S1x256x256 .bf16) (y : Vec Ideal S1x4352x256 .bf16) (k : Fin 4352) (q : Fin 256) :
    k0_pay19 (F := Ideal) (k0_pay2 x) (k0_pay3 y) (iota .tc S256x256 32 [1] iota_S256x256_d1_w32) (ix2 k q) = score x y 224 (by decide) q k := by
  pointwise [k0_pay19, k0_pay2, k0_pay3]
  exact sum_masked _ _ 224 (by decide) (by decide +kernel)

/-- The seventh map's exponentials. -/
theorem pay20_apply (x : Vec Ideal S1x256x256 .bf16) (y : Vec Ideal S1x4352x256 .bf16) (k : Fin 4352) (q : Fin 256) :
    k0_pay20 (F := Ideal) (k0_pay2 x) (k0_pay3 y) (iota .tc S256x256 32 [1] iota_S256x256_d1_w32) (ix2 k q)
      = Ideal.exp (score x y 192 (by decide) q k - top (score x y 192 (by decide) q)) := by
  have h : ∀ k, ∑ l : Fin 256, Scalar.select (IntOp.andi (IntOp.cmpi CmpIPredicate.sge (BitVec.ofNat 32 ↑l) 192#32)
          (IntOp.cmpi CmpIPredicate.slt (BitVec.ofNat 32 ↑l) 224#32))
        (y (ix3 0 k l) * x (ix3 0 q l)) 0 = score x y 192 (by decide) q k := fun k =>
    sum_masked _ _ 192 (by decide) (by decide +kernel)
  pointwise [k0_pay20, k0_pay2, k0_pay3]
  simp only [h, negInf_bf16]
  rfl

/-- One map's quotient at channel row `e` of a head's block of values `v`: the weighted sum over the sum weighted by row 64. -/
def quot (s : Fin 4352 → EReal) (v : Fin 128 → Fin 4352 → EReal) (e : Fin 128) : EReal := Ideal.div (wsum s (v e)) (wsum s (v 64))

/-- A map's quotient from its scores, at a channel row and a query. -/
theorem pay7_apply (s : FVec Ideal S4352x256 .bf16) (v : Vec Ideal S1x128x4352 .bf16) (e : Fin 128) (q : Fin 256) :
    k0_pay7 (F := Ideal) s v (ix2 e q) = quot (fun k => s (ix2 k q)) (fun e k => v (ix3 0 e k)) e := by
  pointwise [k0_pay7]; simp only [negInf_bf16]; rfl
/-- A map's quotient from its scores, at a channel row and a query. -/
theorem pay9_apply (s : FVec Ideal S4352x256 .bf16) (v : Vec Ideal S1x128x4352 .bf16) (e : Fin 128) (q : Fin 256) :
    k0_pay9 (F := Ideal) s v (ix2 e q) = quot (fun k => s (ix2 k q)) (fun e k => v (ix3 0 e k)) e := by
  pointwise [k0_pay9]; simp only [negInf_bf16]; rfl
/-- A map's quotient from its scores, at a channel row and a query. -/
theorem pay14_apply (s : FVec Ideal S4352x256 .bf16) (v : Vec Ideal S1x128x4352 .bf16) (e : Fin 128) (q : Fin 256) :
    k0_pay14 (F := Ideal) s v (ix2 e q) = quot (fun k => s (ix2 k q)) (fun e k => v (ix3 0 e k)) e := by
  pointwise [k0_pay14]; simp only [negInf_bf16]; rfl
/-- A map's quotient from its scores, at a channel row and a query. -/
theorem pay18_apply (s : FVec Ideal S4352x256 .bf16) (v : Vec Ideal S1x128x4352 .bf16) (e : Fin 128) (q : Fin 256) :
    k0_pay18 (F := Ideal) s v (ix2 e q) = quot (fun k => s (ix2 k q)) (fun e k => v (ix3 0 e k)) e := by
  pointwise [k0_pay18]; simp only [negInf_bf16]; rfl
/-- The third map's quotient, at a channel row and a query. -/
theorem pay12_apply (x : Vec Ideal S1x256x256 .bf16) (y : Vec Ideal S1x4352x256 .bf16)
    (v : Vec Ideal S1x128x4352 .bf16) (e : Fin 128) (q : Fin 256) :
    k0_pay12 (F := Ideal) (k0_pay8 (k0_pay2 x) (k0_pay3 y) (iota .tc S256x256 32 [1] iota_S256x256_d1_w32))
        (k0_pay11 (k0_pay2 x) (k0_pay3 y) (iota .tc S256x256 32 [1] iota_S256x256_d1_w32)) v (ix2 e q)
      = quot (score x y 64 (by decide) q) (fun e k => v (ix3 0 e k)) e := by
  rw [show score x y 64 (by decide) q = fun k => k0_pay8 (F := Ideal) (k0_pay2 x) (k0_pay3 y)
    (iota .tc S256x256 32 [1] iota_S256x256_d1_w32) (ix2 k q) from funext fun k => (pay8_apply x y k q).symm]
  pointwise [k0_pay12, k0_pay11]; simp only [negInf_bf16]; rfl
/-- The fifth map's quotient, at a channel row and a query. -/
theorem pay17_apply (x : Vec Ideal S1x256x256 .bf16) (y : Vec Ideal S1x4352x256 .bf16)
    (v : Vec Ideal S1x128x4352 .bf16) (e : Fin 128) (q : Fin 256) :
    k0_pay17 (F := Ideal) (k0_pay13 (k0_pay2 x) (k0_pay3 y) (iota .tc S256x256 32 [1] iota_S256x256_d1_w32))
        (k0_pay16 (k0_pay2 x) (k0_pay3 y) (iota .tc S256x256 32 [1] iota_S256x256_d1_w32)) v (ix2 e q)
      = quot (score x y 128 (by decide) q) (fun e k => v (ix3 0 e k)) e := by
  rw [show score x y 128 (by decide) q = fun k => k0_pay13 (F := Ideal) (k0_pay2 x) (k0_pay3 y)
    (iota .tc S256x256 32 [1] iota_S256x256_d1_w32) (ix2 k q) from funext fun k => (pay13_apply x y k q).symm]
  pointwise [k0_pay17, k0_pay16]; simp only [negInf_bf16]; rfl

/-- The weight of the second map, from the four vectors of the lambda block. -/
def lamOf (l : Vec Ideal S4x32 .f32) : EReal :=
  Ideal.exp (∑ d : Fin 32, l (ix2 0 d) * l (ix2 1 d)) - Ideal.exp (∑ d : Fin 32, l (ix2 2 d) * l (ix2 3 d))
    + Ideal.ofBits .f32 0x3E4CCCCD#32

/-- The lambda the body computes from the lambda vectors. -/
theorem pay4_apply (l : Vec Ideal S4x32 .f32) : k0_pay4 (F := Ideal) l (ix2 0 0) = lamOf l := by
  pointwise [k0_pay4]; rfl

/-- One head's output at channel row `e`: its first map's quotient less `w` times its second's. -/
def headDiff (w : EReal) (s t : Fin 4352 → EReal) (v : Fin 128 → Fin 4352 → EReal) (e : Fin 128) : EReal :=
  quot s v e - w * quot t v e

/-- The differences of the maps, the heads side by side: lane `l` is channel `l % 64` of head `l / 64`. -/
theorem pay21_apply (w : FVec Ideal S1x1 .f32) (a b c d e f : FVec Ideal S128x256 .f32) (s t : FVec Ideal S4352x256 .bf16)
    (v : Vec Ideal S1x128x4352 .bf16) (u : Fin 4352 → EReal) (q l : Fin 256)
    (ht : ∀ k, t (ix2 k q) = Ideal.exp (u k - top u)) :
    k0_pay21 (F := Ideal) w a b c d e f s t v v (ix2 q l) =
      if l.val / 64 = 0 then a (ix2 ⟨l.val % 64, by omega⟩ q) - w (ix2 0 0) * b (ix2 ⟨l.val % 64, by omega⟩ q)
      else if l.val / 64 = 1 then c (ix2 ⟨l.val % 64, by omega⟩ q) - w (ix2 0 0) * d (ix2 ⟨l.val % 64, by omega⟩ q)
      else if l.val / 64 = 2 then e (ix2 ⟨l.val % 64, by omega⟩ q) - w (ix2 0 0) * f (ix2 ⟨l.val % 64, by omega⟩ q)
      else headDiff (w (ix2 0 0)) u (fun k => s (ix2 k q)) (fun e k => v (ix3 0 e k)) ⟨l.val % 64, by omega⟩ := by
  pointwise [k0_pay21]
  simp only [ht, negInf_bf16]
  have h4 : l.val / 64 = 0 ∨ l.val / 64 = 1 ∨ l.val / 64 = 2 ∨ l.val / 64 = 3 := by omega
  rcases h4 with h | h | h | h
  · have e1 : l.val = l.val % 64 := by omega
    have c1 : l.val < 64 := by omega
    rw [dif_pos c1, if_pos h]
    simp only [← e1]
  · have e1 : l.val - 64 = l.val % 64 := by omega
    have c1 : ¬ l.val < 64 := by omega
    have n0 : ¬ l.val / 64 = 0 := by omega
    have c2 : l.val - 64 < 64 := by omega
    rw [dif_neg c1, dif_pos c2, if_neg n0, if_pos h]
    simp only [e1]
  · have e1 : l.val - 64 - 64 = l.val % 64 := by omega
    have c1 : ¬ l.val < 64 := by omega
    have c2 : ¬ l.val - 64 < 64 := by omega
    have n0 : ¬ l.val / 64 = 0 := by omega
    have n1 : ¬ l.val / 64 = 1 := by omega
    have c3 : l.val - 64 - 64 < 64 := by omega
    rw [dif_neg c1, dif_neg c2, dif_pos c3, if_neg n0, if_neg n1, if_pos h]
    simp only [e1]
  · have e1 : l.val - 64 - 64 - 64 = l.val % 64 := by omega
    have c1 : ¬ l.val < 64 := by omega
    have c2 : ¬ l.val - 64 < 64 := by omega
    have n0 : ¬ l.val / 64 = 0 := by omega
    have n1 : ¬ l.val / 64 = 1 := by omega
    have n2 : ¬ l.val / 64 = 2 := by omega
    have c3 : ¬ l.val - 64 - 64 < 64 := by omega
    rw [dif_neg c1, dif_neg c2, dif_neg c3, if_neg n0, if_neg n1, if_neg n2]
    simp only [e1]
    rfl

/-- The sum of squares over the lanes of a lane's group of 64, as the kernel computes it: against a 0/1 matrix. -/
theorem pay25_apply (x : FVec Ideal S256x256 .f32) (q c : Fin 256) :
    k0_pay25 x (iota .tc S256x256 32 [0] iota_S256x256_d0_w32) 64#32 k0_pay22 k0_pay23 (Scalar.extui (Scalar.cmpi .sgt 64#32 0#32)) (ix2 q c)
      = ∑ e : Fin 64, x (ix2 q ⟨64 * (c.val / 64) + e, by omega⟩) * x (ix2 q ⟨64 * (c.val / 64) + e, by omega⟩) := by
  have hdiv : ∀ l : Fin 256, Scalar.select
                (IntOp.andi
                  (IntOp.cmpi CmpIPredicate.ne
                    (IntOp.subi (BitVec.setWidth 32 (IntOp.cmpi CmpIPredicate.sgt (BitVec.ofNat 32 l.val) 0#32))
                      (BitVec.setWidth 32 (IntOp.cmpi CmpIPredicate.slt (BitVec.ofNat 32 l.val) 0#32)))
                    (Scalar.subi (Scalar.extui (Scalar.cmpi CmpIPredicate.sgt 64#32 0#32))
                      (Scalar.extui (Scalar.cmpi CmpIPredicate.slt 64#32 0#32))))
                  (IntOp.cmpi CmpIPredicate.ne (IntOp.remsi ArithUnit.vector (BitVec.ofNat 32 l.val) 64#32) 0#32))
                (IntOp.subi (IntOp.divsi ArithUnit.vector (BitVec.ofNat 32 l.val) 64#32) 1#32)
                (IntOp.divsi ArithUnit.vector (BitVec.ofNat 32 l.val) 64#32) = BitVec.ofNat 32 (l.val / 64) := by
    decide +kernel
  have hbit : ∀ l c : Fin 4, BitVec.setWidth 32 (IntOp.cmpi CmpIPredicate.eq (BitVec.ofNat 32 l.val) (BitVec.ofNat 32 c.val))
      = if l = c then 1#32 else 0#32 := by decide +kernel
  have one : FloatOps.sitofp (F := Ideal) FTy.f32 1#32 = (1 : EReal) := by
    show (((BitVec.toInt 1#32 : ℤ) : ℝ) : EReal) = 1
    norm_num
  have zero : FloatOps.sitofp (F := Ideal) FTy.f32 0#32 = (0 : EReal) := by
    show (((BitVec.toInt 0#32 : ℤ) : ℝ) : EReal) = 0
    norm_num
  pointwise [k0_pay25, k0_pay22, k0_pay23]
  refine sum_window (fun l => x (ix2 q l) * x (ix2 q l)) (64 * (c.val / 64)) (by omega) _ (fun d => ?_) fun l hl => ?_
  · rw [hdiv, hdiv c, hbit ⟨(64 * (c.val / 64) + d.val) / 64, by omega⟩ ⟨c.val / 64, by omega⟩,
      if_pos (Fin.ext (by show (64 * (c.val / 64) + d.val) / 64 = c.val / 64; omega)), one, mul_one]
  · rw [hdiv, hdiv c, hbit ⟨l.val / 64, by omega⟩ ⟨c.val / 64, by omega⟩,
      if_neg (fun e => by have := congrArg Fin.val e; simp only at this; omega), zero, mul_zero]

/-- The normalized block from the differences, their mean squares and the weights. -/
theorem pay1_apply (x : FVec Ideal S256x256 .f32) (w : FVec Ideal S1x256 .f32) (z : FVec Ideal S256x256 .f32) (q c : Fin 256) :
    k0_pay1 (F := Ideal) x w z (ix3 0 q c)
      = x (ix2 q c) * Ideal.rsqrt (z (ix2 q c) * Ideal.ofBits .f32 0x3C800000#32 + Ideal.ofBits .f32 0x358637BD#32)
          * w (ix2 0 c) * Ideal.ofBits .f32 0x3F4CCCCD#32 := by
  pointwise [k0_pay1]

/-- Scores on equal lanes are equal. -/
theorem score_congr (x : Vec Ideal S1x256x256 .bf16) (y : Vec Ideal S1x4352x256 .bf16) {lo lo' : ℕ} (h : lo + 32 ≤ 256)
    (e : lo' = lo) (h' : lo' + 32 ≤ 256) : score x y lo h = score x y lo' h' := by
  subst e; rfl

/-- The attention of one query row before its normalization, at lane `l`. -/
def attnLane (x0 : Vec Ideal S1x256x256 .bf16) (x1 : Vec Ideal S1x4352x256 .bf16) (x2 : Vec Ideal S1x512x4352 .bf16)
    (x3 : Vec Ideal S4x32 .f32) (q l : Fin 256) : EReal :=
  headDiff (lamOf x3) (score x0 x1 (64 * (l.val / 64)) (by omega) q) (score x0 x1 (64 * (l.val / 64) + 32) (by omega) q)
    (fun e k => x2 (ix3 0 ⟨128 * (l.val / 64) + e, by omega⟩ k)) ⟨l.val % 64, by omega⟩

/-- The block of attention differences, read at query `q` and lane `l`. -/
theorem pay29_apply (x0 : Vec Ideal S1x256x256 .bf16) (x1 : Vec Ideal S1x4352x256 .bf16) (x2 : Vec Ideal S1x512x4352 .bf16)
    (x3 : Vec Ideal S4x32 .f32) (x4 : Vec Ideal S1x256 .f32) (q l : Fin 256) :
    k0_pay29 (F := Ideal) x0 x1 x2 x3 x4 (ix2 q l) = attnLane x0 x1 x2 x3 q l := by
  have hz3 : (![0, 0, 0] : Fin 3 → ℕ) = fun _ => 0 := by decide
  have hz2 : (![0, 0] : Fin 2 → ℕ) = fun _ => 0 := by decide
  have e0 : View.ld x0 r0_0 = x0 := View.ld_unit_zero hz3 _ _
  have e1 : View.ld x1 r0_1 = x1 := View.ld_unit_zero hz3 _ _
  have e3 : View.ld x3 r0_2 = x3 := View.ld_unit_zero hz2 _ _
  have v0 : ∀ (e : Fin 128) (k : Fin 4352), View.ld x2 r0_3 (ix3 0 e k) = x2 (ix3 0 ⟨128 * 0 + e, by omega⟩ k) := by
    intro e k; pointwise
  have v1 : ∀ (e : Fin 128) (k : Fin 4352), View.ld x2 r0_4 (ix3 0 e k) = x2 (ix3 0 ⟨128 * 1 + e, by omega⟩ k) := by
    intro e k; pointwise
  have v2 : ∀ (e : Fin 128) (k : Fin 4352), View.ld x2 r0_5 (ix3 0 e k) = x2 (ix3 0 ⟨128 * 2 + e, by omega⟩ k) := by
    intro e k; pointwise
  have v3 : ∀ (e : Fin 128) (k : Fin 4352), View.ld x2 r0_6 (ix3 0 e k) = x2 (ix3 0 ⟨128 * 3 + e, by omega⟩ k) := by
    intro e k; pointwise
  unfold k0_pay29 k0_pay26 k0_pay27 k0_pay28
  rw [e0, e1, e3, pay21_apply _ _ _ _ _ _ _ _ _ _ _ _ _ fun k => pay20_apply x0 x1 k q, pay7_apply, pay9_apply, pay12_apply,
    pay14_apply, pay17_apply, pay18_apply, pay4_apply]
  simp only [pay5_apply, pay6_apply, v0, v1, v2, v3]
  rw [show (fun k => k0_pay10 (F := Ideal) (k0_pay2 x0) (k0_pay3 x1) (iota .tc S256x256 32 [1] iota_S256x256_d1_w32) (ix2 k q))
      = score x0 x1 96 (by decide) q from funext fun k => pay10_apply x0 x1 k q,
    show (fun k => k0_pay15 (F := Ideal) (k0_pay2 x0) (k0_pay3 x1) (iota .tc S256x256 32 [1] iota_S256x256_d1_w32) (ix2 k q))
      = score x0 x1 160 (by decide) q from funext fun k => pay15_apply x0 x1 k q,
    show (fun k => k0_pay19 (F := Ideal) (k0_pay2 x0) (k0_pay3 x1) (iota .tc S256x256 32 [1] iota_S256x256_d1_w32) (ix2 k q))
      = score x0 x1 224 (by decide) q from funext fun k => pay19_apply x0 x1 k q]
  unfold attnLane
  have h4 : l.val / 64 = 0 ∨ l.val / 64 = 1 ∨ l.val / 64 = 2 ∨ l.val / 64 = 3 := by omega
  rcases h4 with h | h | h | h
  · rw [if_pos h, score_congr x0 x1 (lo := 64 * (l.val / 64)) (lo' := 0) _ (by omega) (by decide),
      score_congr x0 x1 (lo := 64 * (l.val / 64) + 32) (lo' := 32) _ (by omega) (by decide)]
    simp only [h]; rfl
  · rw [if_neg (by omega), if_pos h, score_congr x0 x1 (lo := 64 * (l.val / 64)) (lo' := 64) _ (by omega) (by decide),
      score_congr x0 x1 (lo := 64 * (l.val / 64) + 32) (lo' := 96) _ (by omega) (by decide)]
    simp only [h]; rfl
  · rw [if_neg (by omega), if_neg (by omega), if_pos h, score_congr x0 x1 (lo := 64 * (l.val / 64)) (lo' := 128) _ (by omega) (by decide),
      score_congr x0 x1 (lo := 64 * (l.val / 64) + 32) (lo' := 160) _ (by omega) (by decide)]
    simp only [h]; rfl
  · rw [if_neg (by omega), if_neg (by omega), if_neg (by omega), score_congr x0 x1 (lo := 64 * (l.val / 64)) (lo' := 192) _ (by omega) (by decide),
      score_congr x0 x1 (lo := 64 * (l.val / 64) + 32) (lo' := 224) _ (by omega) (by decide)]
    simp only [h]

/-- One query row normalized over each group of 64 lanes, weighted by `w`, read at lane `c`. -/
def normLane (o : Fin 256 → EReal) (w : EReal) (c : Fin 256) : EReal :=
  o c * Ideal.rsqrt ((∑ e : Fin 64, o ⟨64 * (c.val / 64) + e, by omega⟩ * o ⟨64 * (c.val / 64) + e, by omega⟩)
      * Ideal.ofBits .f32 0x3C800000#32 + Ideal.ofBits .f32 0x358637BD#32) * w * Ideal.ofBits .f32 0x3F4CCCCD#32

/-- What a grid point stores, read at query `q` and lane `c` of its block. -/
theorem out_apply (x0 : Vec Ideal S1x256x256 .bf16) (x1 : Vec Ideal S1x4352x256 .bf16) (x2 : Vec Ideal S1x512x4352 .bf16)
    (x3 : Vec Ideal S4x32 .f32) (x4 : Vec Ideal S1x256 .f32) (q c : Fin 256) :
    out0_5 (F := Ideal) x0 x1 x2 x3 x4 (ix3 0 q c) = normLane (attnLane x0 x1 x2 x3 q) (x4 (ix2 0 c)) c := by
  have hz3 : (![0, 0, 0] : Fin 3 → ℕ) = fun _ => 0 := by decide
  have hz2 : (![0, 0] : Fin 2 → ℕ) = fun _ => 0 := by decide
  have e4 : View.ld x4 r0_7 = x4 := View.ld_unit_zero hz2 _ _
  have e24 : k0_pay24 (F := Ideal) x4 (ix2 0 c) = x4 (ix2 0 c) := by pointwise [k0_pay24]
  unfold out0_5
  rw [View.canon_unit_zero hz3, e4, pay1_apply, pay25_apply, e24]
  simp only [pay29_apply]
  rfl

end Cert.AttnIdeal.Block

end
-- ==== Proof.AttnValue.lean ====
/- The attention kernel's result array after the run, read at an index from the argument arrays. -/
module

public import proofs.«01_k».proof.Proof.AttnBlock

@[expose] public section

set_option maxRecDepth 16384

noncomputable section

namespace Cert.AttnIdeal.Block

open Cert.AttnIdeal Cert.AttnIdeal.Gen Idealize.ShloMosaic Idealize.ShloMosaic.TcCoe Cert.AttnMath Idealize.SL.Sem
open Idealize.ShloMosaic.Pipeline (Dat)

variable (m : (ℓ : Loc nD τ sig) → Buf (Elt Ideal) ℓ)

/-- The block indices of the windows at a grid point. -/
theorem idx : ∀ t : Fin grid0.N, win0_0.index t = ![(grid0.coords t 0).val, (grid0.coords t 1).val, 0]
    ∧ win0_1.index t = ![(grid0.coords t 0).val, 0, 0] ∧ win0_2.index t = ![(grid0.coords t 0).val, 0, 0]
    ∧ win0_3.index t = ![0, 0] ∧ win0_4.index t = ![0, 0]
    ∧ win0_5.index t = ![(grid0.coords t 0).val, (grid0.coords t 1).val, 0] := by decide +kernel

/-- The score of key `k` against query `n` of batch `b` on the 32 lanes from `lo` on. -/
def scoreA (Q K : S8x4352x256.Idx → EReal) (lo : ℕ) (h : lo + 32 ≤ 256) (b : Fin 8) (n : Fin 4096) (k : Fin 4352) : EReal :=
  ∑ d : Fin 32, K (ix3 b k ⟨lo + d, by omega⟩) * Q (ix3 b ⟨n, by omega⟩ ⟨lo + d, by omega⟩)

/-- The attention of query `n` of batch `b` before its normalization, at lane `l`. -/
def laneA (Q K : S8x4352x256.Idx → EReal) (W : S8x512x4352.Idx → EReal) (L : S4x32.Idx → EReal) (b : Fin 8) (n : Fin 4096)
    (l : Fin 256) : EReal :=
  headDiff (lamOf L) (scoreA Q K (64 * (l.val / 64)) (by omega) b n) (scoreA Q K (64 * (l.val / 64) + 32) (by omega) b n)
    (fun e k => W (ix3 b ⟨128 * (l.val / 64) + e, by omega⟩ k)) ⟨l.val % 64, by omega⟩

/-- The block of queries a grid point reads, in the whole array's indices. -/
theorem blk0 (c : Dev nD) (t : Fin cfg0.N) (b : Fin 8) (n : Fin 4352) (q l : Fin 256) (hb : b.val = (grid0.coords t 0).val)
    (hn : n.val = (grid0.coords t 1).val * 256 + q.val) :
    iblk m c 0 t (ix3 0 q l) = (m ((c.tc : Thread nD τ).loc main_arg0)) (ix3 b n l) := by
  blk_ext [iblk, V, idx t]

/-- The block of keys a grid point reads, in the whole array's indices. -/
theorem blk1 (c : Dev nD) (t : Fin cfg0.N) (b : Fin 8) (k : Fin 4352) (l : Fin 256) (hb : b.val = (grid0.coords t 0).val) :
    iblk m c 1 t (ix3 0 k l) = (m ((c.tc : Thread nD τ).loc main_arg1)) (ix3 b k l) := by
  blk_ext [iblk, V, idx t]

/-- The block of value rows a grid point reads, in the whole array's indices. -/
theorem blk2 (c : Dev nD) (t : Fin cfg0.N) (b : Fin 8) (e : Fin 512) (k : Fin 4352) (hb : b.val = (grid0.coords t 0).val) :
    iblk m c 2 t (ix3 0 e k) = (m ((c.tc : Thread nD τ).loc main_arg2)) (ix3 b e k) := by
  blk_ext [iblk, V, idx t]

/-- The lambda vectors a grid point reads: the whole array. -/
theorem blk3 (c : Dev nD) (t : Fin cfg0.N) (d : Fin 4) (e : Fin 32) :
    iblk m c 3 t (ix2 d e) = (m ((c.tc : Thread nD τ).loc main_arg3)) (ix2 d e) := by
  blk_ext [iblk, V, idx t]

/-- The norm weight a grid point reads: the weight of the lane's channel in its head. -/
theorem blk4 (c : Dev nD) (t : Fin cfg0.N) (l : Fin 256) :
    iblk m c 4 t (ix2 0 l) = (m ((c.tc : Thread nD τ).loc main_arg4)) (ix1 ⟨l.val % 64, by omega⟩) := by
  have h : iblk m c 4 t (ix2 0 l) = V m c main_v3 (ix2 0 l) := by
    blk_ext [iblk, idx t]
  rw [h]
  entry_read
  pointwise

/-- Where the result's block of a grid point lies in the whole array. -/
theorem emb5 (t : Fin cfg0.N) (b : Fin 8) (n : Fin 4096) (q l : Fin 256) (hb : b.val = (grid0.coords t 0).val)
    (hn : n.val = (grid0.coords t 1).val * 256 + q.val) :
    ((cfg0.win 5).blk t).view.emb (ix3 0 q l) = (ix3 b n l : S8x4096x256.Idx) := by
  blk_ext [idx t]

/-- What the call leaves in the result array, at every index. -/
theorem final (c : Dev nD) :
    (dats m 0 c).arrAt 5 cfg0.N = fun i : S8x4096x256.Idx =>
      normLane (laneA (m ((c.tc : Thread nD τ).loc main_arg0)) (m ((c.tc : Thread nD τ).loc main_arg1))
        (m ((c.tc : Thread nD τ).loc main_arg2)) (m ((c.tc : Thread nD τ).loc main_arg3)) (i 0) (i 1))
        ((m ((c.tc : Thread nD τ).loc main_arg4)) (ix1 ⟨(i 2).val % 64, Nat.mod_lt _ (by decide)⟩)) (i 2) := by
  refine (dats m 0 c).arrAt_eq_of_covers 5 _ (by decide +kernel) fun t hf y => ?_
  obtain ⟨q, l, rfl⟩ : ∃ (q l : Fin 256), y = ix3 0 q l := ⟨y 1, y 2, by blk_ext⟩
  have h0 : (grid0.coords t 0).val < 8 := (grid0.coords t 0).isLt
  have h1 : (grid0.coords t 1).val < 16 := (grid0.coords t 1).isLt
  rw [emb5 t ⟨_, h0⟩ ⟨(grid0.coords t 1).val * 256 + q.val, by omega⟩ q l rfl rfl]
  blk_simp
  rw [after0_5, out_apply, blk4 m c t l]
  have hs : ∀ (lo : ℕ) (h : lo + 32 ≤ 256), score (iblk m c 0 t) (iblk m c 1 t) lo h q
      = scoreA (m ((c.tc : Thread nD τ).loc main_arg0)) (m ((c.tc : Thread nD τ).loc main_arg1)) lo h
          ⟨_, h0⟩ ⟨(grid0.coords t 1).val * 256 + q.val, by omega⟩ := fun lo h => by
    funext k
    refine Finset.sum_congr rfl fun d _ => ?_
    rw [blk0 m c t ⟨_, h0⟩ ⟨(grid0.coords t 1).val * 256 + q.val, by omega⟩ q _ rfl rfl, blk1 m c t ⟨_, h0⟩ k _ rfl]
  have hl : lamOf (iblk m c 3 t) = lamOf (m ((c.tc : Thread nD τ).loc main_arg3)) := by
    unfold lamOf
    simp only [blk3]
  have ho : attnLane (iblk m c 0 t) (iblk m c 1 t) (iblk m c 2 t) (iblk m c 3 t) q
      = laneA (m ((c.tc : Thread nD τ).loc main_arg0)) (m ((c.tc : Thread nD τ).loc main_arg1))
          (m ((c.tc : Thread nD τ).loc main_arg2)) (m ((c.tc : Thread nD τ).loc main_arg3))
          ⟨_, h0⟩ ⟨(grid0.coords t 1).val * 256 + q.val, by omega⟩ := by
    funext l
    unfold attnLane laneA
    rw [hs, hs, hl]
    congr 1
    funext e k
    exact blk2 m c t ⟨_, h0⟩ _ k rfl
  rw [ho]
  rfl

end Cert.AttnIdeal.Block

end
-- ==== Proof.AttnRef.lean ====
/- The attention reference's result read at an index from its arguments. -/
module

public import proofs.«01_k».proof.Proof.Gen.AttnRefIdeal.Read
public import proofs.«01_k».proof.Proof.AttnMath
public import Idealize.ShloMosaic.Lib.Pointwise
public import Idealize.ShloMosaic.Lib.Pipeline.ValueKit

@[expose] public section

set_option maxRecDepth 16384

noncomputable section

namespace Cert.AttnRefIdeal.Row

open Cert.AttnRefIdeal Cert.AttnRefIdeal.Gen Cert.AttnRefIdeal.Read Idealize.ShloMosaic Idealize.ShloMosaic.TcCoe Cert.AttnMath

variable (x0 x1 : (⟨S8x4352x256, .bf16⟩ : BufTy).Contents (Elt Ideal)) (x2 : (⟨S8x512x4352, .bf16⟩ : BufTy).Contents (Elt Ideal))
variable (x3 : (⟨S4x32, .f32⟩ : BufTy).Contents (Elt Ideal)) (x4 : (⟨S64, .f32⟩ : BufTy).Contents (Elt Ideal))

/-- The score of key `k` against query `n` of batch `b` on the 32 lanes from `lo` on. -/
def scoreR (lo : ℕ) (h : lo + 32 ≤ 256) (b : Fin 8) (n : Fin 4096) (k : Fin 4352) : EReal :=
  ∑ d : Fin 32, x0 (ix3 b ⟨n, by omega⟩ ⟨lo + d, by omega⟩) * x1 (ix3 b k ⟨lo + d, by omega⟩)

/-- The reference's scores at a query and a key. -/
theorem score_apply (b : Fin 8) (h : Fin 4) (j : Fin 2) (n : Fin 4096) (k : Fin 4352) :
    val_main_v24 (F := Ideal) x0 x1 (ix5 b h j n k) = scoreR x0 x1 (64 * h.val + 32 * j.val) (by omega) b n k := by
  pointwise [val_main_v24, val_main_v4, val_main_v3, val_main_v2, val_main_v1, val_main_v0]
  unfold scoreR
  refine Finset.sum_congr rfl fun d _ => ?_
  congr 1 <;> blk_ext

/-- The reference's largest score of a query. -/
theorem top_apply (b : Fin 8) (h : Fin 4) (j : Fin 2) (n : Fin 4096) :
    val_main_v27 (F := Ideal) x0 x1 (ix4 b h j n) = top (scoreR x0 x1 (64 * h.val + 32 * j.val) (by omega) b n) := by
  have e : val_main_v25 (F := Ideal) x0 x1 (ix4 b h j n) = top (scoreR x0 x1 (64 * h.val + 32 * j.val) (by omega) b n) := by
    unfold val_main_v25
    have hs : ∀ k, val_main_v24 (F := Ideal) x0 x1 (ix5 b h j n k) = scoreR x0 x1 (64 * h.val + 32 * j.val) (by omega) b n k :=
      score_apply x0 x1 b h j n
    generalize val_main_v24 (F := Ideal) x0 x1 = y at hs ⊢
    pointwise [val_main_cst_2]
    simp only [hs, negInf_f32]
    rfl
  rw [val_main_v27_apply, e]
  pointwise [val_main_v26, val_main_cst_3]
  rw [negInf_f32]
  exact max_eq_right bot_le

/-- The reference's softmax at a query and a key. -/
theorem prob_apply (b : Fin 8) (h : Fin 4) (j : Fin 2) (n : Fin 4096) (k : Fin 4352) :
    val_main_v35 (F := Ideal) x0 x1 (ix5 b h j n k)
      = Ideal.div (Ideal.exp (scoreR x0 x1 (64 * h.val + 32 * j.val) (by omega) b n k - top (scoreR x0 x1 (64 * h.val + 32 * j.val) (by omega) b n)))
          (norm (scoreR x0 x1 (64 * h.val + 32 * j.val) (by omega) b n)) := by
  have hs : ∀ k, val_main_v24 (F := Ideal) x0 x1 (ix5 b h j n k) = scoreR x0 x1 (64 * h.val + 32 * j.val) (by omega) b n k :=
      score_apply x0 x1 b h j n
  have ht := top_apply x0 x1 b h j n
  unfold val_main_v35 val_main_v34 val_main_v33 val_main_v32 val_main_v31 val_main_v30 val_main_v29 val_main_v28
  generalize val_main_v24 (F := Ideal) x0 x1 = y at hs ⊢
  generalize val_main_v27 (F := Ideal) x0 x1 = z at ht ⊢
  pointwise [val_main_cst_4]
  simp only [hs, ht]
  rfl

/-- The weight of the second map, from the four vectors of the lambda parameters. -/
def lamR : EReal :=
  Ideal.exp (∑ d : Fin 32, x3 (ix2 0 d) * x3 (ix2 1 d)) - Ideal.exp (∑ d : Fin 32, x3 (ix2 2 d) * x3 (ix2 3 d))
    + Ideal.ofBits .f32 0x3E4CCCCD#32

/-- The reference's lambda. -/
theorem lam_apply (i : S_.Idx) : val_main_v23 (F := Ideal) x3 i = lamR x3 := by
  pointwise [val_main_v23, val_main_v22, val_main_v21, val_main_v20, val_main_v19, val_main_v18, val_main_v17, val_main_v16, val_main_v15, val_main_v14,
     val_main_v13, val_main_v12, val_main_v11, val_main_v10, val_main_v9, val_main_v8, val_main_cst, val_main_cst_0, val_main_cst_1]
  rfl

/-- The difference of the two maps at a query and a key. -/
theorem diff_apply (b : Fin 8) (h : Fin 4) (n : Fin 4096) (k : Fin 4352) :
    val_main_v42 (F := Ideal) x0 x1 x3 (ix4 b h n k) = val_main_v35 (F := Ideal) x0 x1 (ix5 b h 0 n k)
      - lamR x3 * val_main_v35 (F := Ideal) x0 x1 (ix5 b h 1 n k) := by
  rw [val_main_v42_apply, val_main_v41_apply, val_main_v40_apply, lam_apply, val_main_v39_apply, val_main_v38_apply,
    val_main_v37_apply, val_main_v36_apply]
  have e0 : idx_main_v36 (idx_main_v37 (ix4 b h n k)) = ix5 b h 0 n k := by blk_ext
  have e1 : idx_main_v38 (idx_main_v39 (ix4 b h n k)) = ix5 b h 1 n k := by blk_ext
  rw [e0, e1]
  rfl

/-- The reference's values at a channel and a key. -/
theorem value_apply (b : Fin 8) (h : Fin 4) (e : Fin 64) (k : Fin 4352) :
    val_main_v7 (F := Ideal) x2 (ix4 b h e k) = x2 (ix3 b ⟨128 * h.val + e, by omega⟩ k) := by
  rw [val_main_v7_apply, val_main_v6_apply, val_main_v5_apply]
  have e0 : idx_main_v6 (idx_main_v7 (ix4 b h e k)) = ix3 b ⟨128 * h.val + e, by omega⟩ k := by blk_ext
  rw [e0]
  rfl

/-- The attention of query `n` of batch `b` before its normalization, at channel `e` of head `h`. -/
def laneR (b : Fin 8) (n : Fin 4096) (h : Fin 4) (e : Fin 64) : EReal :=
  diffAttn (lamR x3) (scoreR x0 x1 (64 * h.val) (by omega) b n) (scoreR x0 x1 (64 * h.val + 32) (by omega) b n)
    fun k => x2 (ix3 b ⟨128 * h.val + e, by omega⟩ k)

/-- The reference's head output before the normalization. -/
theorem lane_apply (b : Fin 8) (n : Fin 4096) (h : Fin 4) (e : Fin 64) :
    val_main_v44 (F := Ideal) x0 x1 x2 x3 (ix4 b n h e) = laneR x0 x1 x2 x3 b n h e := by
  rw [val_main_v44_apply, val_main_v43_apply]
  unfold laneR diffAttn
  refine Finset.sum_congr rfl fun k _ => ?_
  have e0 : lidx_main_v43 (idx_main_v44 (ix4 b n h e)) k = ix4 b h e k := by blk_ext
  have e1 : ridx_main_v43 (idx_main_v44 (ix4 b n h e)) k = ix4 b h n k := by blk_ext
  rw [e0, e1, value_apply, diff_apply, prob_apply, prob_apply]
  rfl

/-- The reference's result at query `n` of batch `b` and lane `l`: normalized over the channels of the lane's head. -/
theorem out_apply (b : Fin 8) (n : Fin 4096) (l : Fin 256) :
    val_main_v60 (F := Ideal) x0 x1 x2 x3 x4 (ix3 b n l) =
      laneR x0 x1 x2 x3 b n ⟨l.val / 64, by omega⟩ ⟨l.val % 64, by omega⟩
        * Ideal.rsqrt (Ideal.div (∑ e : Fin 64, laneR x0 x1 x2 x3 b n ⟨l.val / 64, by omega⟩ e * laneR x0 x1 x2 x3 b n ⟨l.val / 64, by omega⟩ e)
              (Ideal.ofBits .f32 0x42800000#32) + Ideal.ofBits .f32 0x358637BD#32)
        * x4 (ix1 ⟨l.val % 64, by omega⟩) * Ideal.ofBits .f32 0x3F4CCCCD#32 := by
  have hl : ∀ h e, val_main_v44 (F := Ideal) x0 x1 x2 x3 (ix4 b n h e) = laneR x0 x1 x2 x3 b n h e := lane_apply x0 x1 x2 x3 b n
  unfold val_main_v60 val_main_v59 val_main_v58 val_main_v57 val_main_v56 val_main_v55 val_main_v54 val_main_v53 val_main_v52 val_main_v51 val_main_v50 val_main_v49 val_main_v48 val_main_v47 val_main_v46 val_main_v45
  generalize val_main_v44 (F := Ideal) x0 x1 x2 x3 = y at hl ⊢
  pointwise [val_main_cst_5, val_main_cst_6, val_main_cst_7, val_main_cst_8]
  simp only [hl]

end Cert.AttnRefIdeal.Row

end
-- ==== Proof.AttnEq.lean ====
/- The attention kernel's array equals the reference's, for finite operands and values carrying a row of ones per head. -/
module

public import proofs.«01_k».proof.Proof.AttnValue
public import proofs.«01_k».proof.Proof.AttnRef
public import proofs.«01_k».proof.Proof.Gen.Pre_attn_pre

@[expose] public section

set_option maxRecDepth 16384

noncomputable section

namespace Cert.AttnEq

open Idealize.ShloMosaic Cert.AttnMath Cert.AttnIdeal.Block Cert.AttnRefIdeal.Row
open Cert.Pre_attn_pre (S8x4352x256 S8x512x4352 S4x32 S64)

/-- What the precondition says of the arrays, index by index. -/
structure Ok (q k : S8x4352x256.Idx → EReal) (v : S8x512x4352.Idx → EReal) (l : S4x32.Idx → EReal) : Prop where
  fin_q : ∀ i, max (q i) (-(q i)) < ⊤
  fin_k : ∀ i, max (k i) (-(k i)) < ⊤
  fin_v : ∀ i, max (v i) (-(v i)) < ⊤
  fin_l : ∀ i, max (l i) (-(l i)) < ⊤
  one : ∀ (b : Fin 8) (h : Fin 4) (n : Fin 4352), v (ix3 b ⟨128 * h.val + 64, by omega⟩ n) = 1

/-- The bf16 infinity is the top element. -/
theorem inf_bf16 : Ideal.ofBits .bf16 0x7F80#16 = ⊤ := by simp [Ideal.ofBits, Ideal.ieee]

/-- The f32 infinity is the top element. -/
theorem inf_f32 : Ideal.ofBits .f32 0x7F800000#32 = ⊤ := by simp [Ideal.ofBits, Ideal.ieee]

/-- The bf16 one is one. -/
theorem one_bf16 : Ideal.ofBits .bf16 0x3F80#16 = 1 := by
  simp [Ideal.ofBits, Ideal.ieee, -EReal.coe_mul]
  norm_num

/-- A proposition whose bit is set holds. -/
theorem of_bit {p : Prop} [Decidable p] (h : BitVec.ofBool (decide p) = 1#1) : p := by
  by_contra hp
  simp [hp] at h

/-- The precondition's arrays of truth values, all true, give the facts index by index. -/
theorem ok_of (q k : FVec Ideal S8x4352x256 .bf16) (v : FVec Ideal S8x512x4352 .bf16) (l : FVec Ideal S4x32 .f32) (w : FVec Ideal S64 .f32)
    (h0 : (Cert.Pre_attn_pre.fn (F := Ideal) q k v l w).1 = fun _ => 1#1)
    (h1 : (Cert.Pre_attn_pre.fn (F := Ideal) q k v l w).2.1 = fun _ => 1#1)
    (h2 : (Cert.Pre_attn_pre.fn (F := Ideal) q k v l w).2.2.1 = fun _ => 1#1)
    (h3 : (Cert.Pre_attn_pre.fn (F := Ideal) q k v l w).2.2.2.1 = fun _ => 1#1)
    (h4 : (Cert.Pre_attn_pre.fn (F := Ideal) q k v l w).2.2.2.2 = fun _ => 1#1) : Ok q k v l where
  fin_q i := by
    rw [← inf_bf16]
    exact of_bit (congrFun h0 i)
  fin_k i := by
    rw [← inf_bf16]
    exact of_bit (congrFun h1 i)
  fin_v i := by
    rw [← inf_bf16]
    exact of_bit (congrFun h2 i)
  fin_l i := by
    rw [← inf_f32]
    exact of_bit (congrFun h3 i)
  one b h n := by
    rw [← one_bf16]
    have e := congrFun h4 (ix3 b h n)
    simp only [Cert.Pre_attn_pre.fn] at e
    have e2 := of_bit e
    refine Eq.trans ?_ e2
    symm
    pointwise
    congr 1
    blk_ext

variable {q k : S8x4352x256.Idx → EReal} {v : S8x512x4352.Idx → EReal} {l : S4x32.Idx → EReal}

/-- The two sides' scores are the same sum. -/
theorem score_eq (q k : S8x4352x256.Idx → EReal) (lo : ℕ) (h : lo + 32 ≤ 256) (b : Fin 8) (n : Fin 4096) :
    scoreA q k lo h b n = scoreR q k lo h b n := by
  funext j
  exact Finset.sum_congr rfl fun d _ => mul_comm _ _

/-- With finite arguments a score is a real number. -/
theorem score_real (H : Ok q k v l) (lo : ℕ) (h : lo + 32 ≤ 256) (b : Fin 8) (n : Fin 4096) :
    ∃ s : Fin 4352 → ℝ, scoreR q k lo h b n = fun j => ((s j : ℝ) : EReal) := by
  obtain ⟨rq, hq⟩ := exists_reals H.fin_q
  obtain ⟨rk, hk⟩ := exists_reals H.fin_k
  refine ⟨fun j => ∑ d : Fin 32, rq (ix3 b ⟨n, by omega⟩ ⟨lo + d, by omega⟩) * rk (ix3 b j ⟨lo + d, by omega⟩), ?_⟩
  funext j
  unfold scoreR
  simp only [hq, hk, ← EReal.coe_mul, sum_coe]

/-- The constant part of lambda is a real number. -/
theorem lit_real : ∃ r : ℝ, Ideal.ofBits .f32 0x3E4CCCCD#32 = (r : EReal) := by
  have h : ∀ s : ℝ, ∃ r : ℝ, (s : EReal) = (r : EReal) := fun s => ⟨s, rfl⟩
  simp [Ideal.ofBits, Ideal.ieee, -EReal.coe_mul]

/-- With finite lambda vectors lambda is a real number. -/
theorem lam_real (H : Ok q k v l) : ∃ r : ℝ, lamR l = (r : EReal) := by
  obtain ⟨rl, hl⟩ := exists_reals H.fin_l
  obtain ⟨c, hc⟩ := lit_real
  refine ⟨Real.exp (∑ d : Fin 32, rl (ix2 0 d) * rl (ix2 1 d)) - Real.exp (∑ d : Fin 32, rl (ix2 2 d) * rl (ix2 3 d)) + c, ?_⟩
  unfold lamR
  simp only [hl, hc, ← EReal.coe_mul, sum_coe, Ideal.exp_coe, ← EReal.coe_sub, ← EReal.coe_add]

/-- A lane of the two sides before the normalization is the same. -/
theorem lane_eq (H : Ok q k v l) (b : Fin 8) (n : Fin 4096) (c : Fin 256) :
    laneA q k v l b n c = laneR q k v l b n ⟨c.val / 64, by omega⟩ ⟨c.val % 64, by omega⟩ := by
  obtain ⟨s, hs⟩ := score_real H (64 * (c.val / 64)) (by omega) b n
  obtain ⟨t, ht⟩ := score_real H (64 * (c.val / 64) + 32) (by omega) b n
  obtain ⟨r, hr⟩ := lam_real H
  obtain ⟨rv, hv⟩ := exists_reals H.fin_v
  have h1 : ∀ j : Fin 4352, v (ix3 b ⟨128 * (c.val / 64) + (64 : Fin 128).val, by omega⟩ j) = 1 := fun j => H.one b ⟨c.val / 64, by omega⟩ j
  have hl : lamOf l = lamR l := rfl
  unfold laneA laneR headDiff quot
  simp only [h1]
  rw [score_eq, score_eq, hs, ht, hl, hr]
  have := quotient_eq (by norm_num) r s t fun j => rv (ix3 b ⟨128 * (c.val / 64) + c.val % 64, by omega⟩ j)
  simp only [← hv] at this
  exact this

/-- The f32 sixty-four is sixty-four. -/
theorem sixtyfour : Ideal.ofBits .f32 0x42800000#32 = ((64 : ℝ) : EReal) := by
  simp [Ideal.ofBits, Ideal.ieee, -EReal.coe_mul]
  norm_num

/-- The f32 one sixty-fourth is the inverse of sixty-four. -/
theorem inv_sixtyfour : Ideal.ofBits .f32 0x3C800000#32 = (((64 : ℝ)⁻¹ : ℝ) : EReal) := by
  simp [Ideal.ofBits, Ideal.ieee, -EReal.coe_mul]
  norm_num

/-- The mean as a product with 1/64 is the mean as a quotient by 64. -/
theorem mean_eq (x : EReal) : x * Ideal.ofBits .f32 0x3C800000#32 = Ideal.div x (Ideal.ofBits .f32 0x42800000#32) := by
  rw [sixtyfour, inv_sixtyfour]
  unfold Ideal.div
  rw [if_neg (by norm_num), EReal.coe_inv]

/-- The two results at one index. -/
theorem out_eq (H : Ok q k v l) (w : S64.Idx → EReal) (b : Fin 8) (n : Fin 4096) (c : Fin 256) :
    normLane (laneA q k v l b n) (w (ix1 ⟨c.val % 64, by omega⟩)) c
      = Cert.AttnRefIdeal.Read.val_main_v60 (F := Ideal) q k v l w (ix3 b n c) := by
  rw [Cert.AttnRefIdeal.Row.out_apply]
  unfold normLane
  rw [← mean_eq, ← lane_eq H]
  have hs : ∀ e : Fin 64, laneA q k v l b n ⟨64 * (c.val / 64) + e, by omega⟩ = laneR q k v l b n ⟨c.val / 64, by omega⟩ e := fun e => by
    rw [lane_eq H]
    have h1 : (64 * (c.val / 64) + e.val) / 64 = c.val / 64 := by omega
    have h2 : (64 * (c.val / 64) + e.val) % 64 = e.val := by omega
    congr 1 <;> exact Fin.ext (by assumption)
  simp only [hs]

end Cert.AttnEq

end
-- ==== Proof.Rows.lean ====
/- What the projections compute at one token, free of any program. -/
module

public import Idealize.ShloMosaic.Lib.Pointwise

@[expose] public section

noncomputable section

namespace Cert.Rows

open Idealize.ShloMosaic

/-- A token's channel after the root mean square normalization with weight `w`, the scale `sc` and the shift `sh`. -/
def modNorm (x w sh sc : Fin 1024 → EReal) (d : Fin 1024) : EReal :=
  x d * Ideal.rsqrt (Ideal.div (∑ e : Fin 1024, x e * x e) (Ideal.ofBits .f32 0x44800000#32) + Ideal.ofBits .f32 0x358637BD#32)
    * w d * (1 + sc d) + sh d

/-- The row of the modulation table a token reads: its batch's for a latent token, the last for a context token. -/
def modRow (b : Fin 8) (n : Fin 4352) : Fin 9 := if n.val < 4096 then ⟨b, by omega⟩ else 8

/-- The first half of the MLP at token `n` of batch `b` and channel `l`. -/
def up (X : (⟨3, ![8, 4352, 1024]⟩ : Shape).Idx → EReal) (M : (⟨3, ![9, 6, 1024]⟩ : Shape).Idx → EReal)
    (W : (⟨1, ![1024]⟩ : Shape).Idx → EReal) (A : (⟨2, ![1024, 4096]⟩ : Shape).Idx → EReal) (b : Fin 8) (n : Fin 4352) (l : Fin 4096) : EReal :=
  max (∑ d : Fin 1024, modNorm (fun d => X (ix3 b n d)) (fun d => W (ix1 d)) (fun d => M (ix3 (modRow b n) 3 d))
      (fun d => M (ix3 (modRow b n) 4 d)) d * A (ix2 d l)) 0
  * max (∑ d : Fin 1024, modNorm (fun d => X (ix3 b n d)) (fun d => W (ix1 d)) (fun d => M (ix3 (modRow b n) 3 d))
      (fun d => M (ix3 (modRow b n) 4 d)) d * A (ix2 d l)) 0

/-- A gated projection of `k` channels added to the stream, at token `n` of batch `b` and channel `l`; `r` is the gate's row. -/
def gated {k : ℕ} (r : Fin 6) (X : (⟨3, ![8, 4352, 1024]⟩ : Shape).Idx → EReal) (M : (⟨3, ![9, 6, 1024]⟩ : Shape).Idx → EReal)
    (A : (⟨2, ![k, 1024]⟩ : Shape).Idx → EReal) (h : Fin k → EReal) (b : Fin 8) (n : Fin 4352) (l : Fin 1024) : EReal :=
  X (ix3 b n l) + M (ix3 (modRow b n) r l) * ∑ d : Fin k, h d * A (ix2 d l)

/-- Token `n` of a group that keeps the context tokens apart. -/
def both (Y : (⟨3, ![8, 4096, 256]⟩ : Shape).Idx → EReal) (Yc : (⟨3, ![8, 256, 256]⟩ : Shape).Idx → EReal) (b : Fin 8) (n : Fin 4352)
    (l : Fin 256) : EReal :=
  if h : n.val < 4096 then Y (ix3 b ⟨n, h⟩ l) else Yc (ix3 b ⟨n.val - 4096, by omega⟩ l)

/-- Four groups of 256 channels side by side. -/
def beside (g y h d : Fin 256 → EReal) (x : Fin 1024) : EReal :=
  if h1 : x.val < 256 then g ⟨x, h1⟩
  else if h2 : x.val - 256 < 256 then y ⟨x.val - 256, h2⟩
  else if h3 : x.val - 256 - 256 < 256 then h ⟨x.val - 256 - 256, h3⟩
  else d ⟨x.val - 256 - 256 - 256, by omega⟩

/-- The four head groups of token `n` of batch `b` side by side; the second and the fourth keep the context tokens apart. -/
def heads (G : (⟨3, ![8, 4352, 256]⟩ : Shape).Idx → EReal) (Y : (⟨3, ![8, 4096, 256]⟩ : Shape).Idx → EReal)
    (Yc : (⟨3, ![8, 256, 256]⟩ : Shape).Idx → EReal) (H : (⟨3, ![8, 4352, 256]⟩ : Shape).Idx → EReal)
    (D : (⟨3, ![8, 4096, 256]⟩ : Shape).Idx → EReal) (Dc : (⟨3, ![8, 256, 256]⟩ : Shape).Idx → EReal) (b : Fin 8) (n : Fin 4352) :
    Fin 1024 → EReal :=
  beside (fun l => G (ix3 b n l)) (both Y Yc b n) (fun l => H (ix3 b n l)) (both D Dc b n)

end Cert.Rows

end
-- ==== Proof.UpValue.lean ====
/- The first MLP call's result array after the run, read at an index from the argument arrays. -/
module

public import proofs.«01_k».proof.Proof.Rows
public import proofs.«01_k».proof.Proof.Gen.MlpUpIdeal.Value
public import Idealize.ShloMosaic.Lib.Pointwise
public import Idealize.ShloMosaic.Lib.StableHlo.ReadAt
public import Idealize.ShloMosaic.Lib.Pipeline.ValueKit

@[expose] public section

set_option maxRecDepth 16384

noncomputable section

namespace Cert.MlpUpIdeal.Block

open Cert.MlpUpIdeal Cert.MlpUpIdeal.Gen Idealize.ShloMosaic Idealize.ShloMosaic.TcCoe Cert.Rows Idealize.SL.Sem
open Idealize.ShloMosaic.Pipeline (Dat)

/-- What a grid point stores, read at token `q` and channel `l` of its block. -/
theorem out_apply (x0 : Vec Ideal S1x256x1024 .f32) (x1 : Vec Ideal S1x8x1024 .f32) (x2 : Vec Ideal S1x1024 .f32)
    (x3 : Vec Ideal S1024x4096 .bf16) (q : Fin 256) (l : Fin 4096) :
    out0_4 (F := Ideal) x0 x1 x2 x3 (ix3 0 q l) =
      max (∑ d : Fin 1024, modNorm (fun d => x0 (ix3 0 q d)) (fun d => x2 (ix2 0 d)) (fun d => x1 (ix3 0 3 d))
          (fun d => x1 (ix3 0 4 d)) d * x3 (ix2 d l)) 0
      * max (∑ d : Fin 1024, modNorm (fun d => x0 (ix3 0 q d)) (fun d => x2 (ix2 0 d)) (fun d => x1 (ix3 0 3 d))
          (fun d => x1 (ix3 0 4 d)) d * x3 (ix2 d l)) 0 := by
  have hz3 : (![0, 0, 0] : Fin 3 → ℕ) = fun _ => 0 := by decide
  have hz2 : (![0, 0] : Fin 2 → ℕ) = fun _ => 0 := by decide
  unfold out0_4
  rw [View.canon_unit_zero hz3, show View.ld x0 r0_0 = x0 from View.ld_unit_zero hz3 _ _, show View.ld x1 r0_2 = x1 from View.ld_unit_zero hz3 _ _,
    show View.ld x2 r0_1 = x2 from View.ld_unit_zero hz2 _ _, show View.ld x3 r0_3 = x3 from View.ld_unit_zero hz2 _ _]
  pointwise [k0_pay1]
  rfl

variable (m : (ℓ : Loc nD τ sig) → Buf (Elt Ideal) ℓ)

/-- The block indices of the windows at a grid point. -/
theorem idx : ∀ t : Fin grid0.N, win0_0.index t = ![(grid0.coords t 0).val, (grid0.coords t 1).val, 0] ∧ win0_1.index t = ![if (grid0.coords t 1).val = 16 then 8 else (grid0.coords t 0).val, 0, 0]
    ∧ win0_2.index t = ![0, 0] ∧ win0_3.index t = ![0, 0] ∧ win0_4.index t = ![(grid0.coords t 0).val, (grid0.coords t 1).val, 0] := by decide +kernel

/-- The block of window 0 at a grid point: 256 tokens of a batch. -/
theorem blk0 (c : Dev nD) (t : Fin cfg0.N) (b : Fin 8) (n : Fin 4352) (q : Fin 256) (l : Fin 1024) (hb : b.val = (grid0.coords t 0).val)
    (hn : n.val = (grid0.coords t 1).val * 256 + q.val) :
    iblk m c 0 t (ix3 0 q l) = (m ((c.tc : Thread nD τ).loc main_arg0)) (ix3 b n l) := by
  blk_ext [iblk, V, idx t]

/-- The modulation table's block at a grid point: the batch's rows, the last rows at the context tokens' point. -/
theorem blk1 (c : Dev nD) (t : Fin cfg0.N) (b : Fin 8) (n : Fin 4352) (q : Fin 256) (r : Fin 6) (d : Fin 1024)
    (hb : b.val = (grid0.coords t 0).val) (hn : n.val = (grid0.coords t 1).val * 256 + q.val) :
    iblk m c 1 t (ix3 0 ⟨r, by omega⟩ d) = (m ((c.tc : Thread nD τ).loc main_arg1)) (ix3 (modRow b n) r d) := by
  have hr : (modRow b n).val = if (grid0.coords t 1).val = 16 then 8 else (grid0.coords t 0).val := by
    have h1 : (grid0.coords t 1).val < 17 := (grid0.coords t 1).isLt
    unfold modRow
    by_cases h : (grid0.coords t 1).val = 16
    · rw [if_pos h, if_neg (by omega)]; rfl
    · rw [if_neg h, if_pos (by omega)]; exact hb
  have h : iblk m c 1 t (ix3 0 ⟨r, by omega⟩ d) = V m c main_v0 (ix3 (modRow b n) ⟨r, by omega⟩ d) := by
    generalize modRow b n = z at hr ⊢
    blk_ext [iblk, idx t]
  rw [h]
  simp only [V, hostOps0, hostOps0_1, hostOps0_2, List.flatten_cons, List.flatten_nil, List.append_nil, List.cons_append, List.nil_append]
  after_reads_at

/-- The norm weight's block is the weight as one row. -/
theorem blk2 (c : Dev nD) (t : Fin cfg0.N) (l : Fin 1024) :
    iblk m c 2 t (ix2 0 l) = (m ((c.tc : Thread nD τ).loc main_arg2)) (ix1 l) := by
  have h : iblk m c 2 t (ix2 0 l) = V m c main_v2 (ix2 0 l) := by
    blk_ext [iblk, idx t]
  rw [h]
  simp only [V, hostOps0, hostOps0_1, hostOps0_2, List.flatten_cons, List.flatten_nil, List.append_nil, List.cons_append, List.nil_append]
  after_reads_at

/-- The weight's block is the weight, its cast to bf16 the identity. -/
theorem blk3 (c : Dev nD) (t : Fin cfg0.N) (d : Fin 1024) (l : Fin 4096) :
    iblk m c 3 t (ix2 d l) = (m ((c.tc : Thread nD τ).loc main_arg3)) (ix2 d l) := by
  have h : iblk m c 3 t (ix2 d l) = V m c main_v1 (ix2 d l) := by
    blk_ext [iblk, idx t]
  rw [h]
  simp only [V, hostOps0, hostOps0_1, hostOps0_2, List.flatten_cons, List.flatten_nil, List.append_nil, List.cons_append, List.nil_append]
  after_reads_at

/-- Where the result's block lies in the result. -/
theorem emb4 (t : Fin cfg0.N) (b : Fin 8) (n : Fin 4352) (q : Fin 256) (l : Fin 4096) (hb : b.val = (grid0.coords t 0).val)
    (hn : n.val = (grid0.coords t 1).val * 256 + q.val) :
    ((cfg0.win 4).blk t).view.emb (ix3 0 q l) = (ix3 b n l : S8x4352x4096.Idx) := by
  blk_ext [idx t]

/-- The call's result array after the run. -/
theorem final (c : Dev nD) :
    (dats m 0 c).arrAt 4 cfg0.N = fun i : S8x4352x4096.Idx => up (m ((c.tc : Thread nD τ).loc main_arg0)) (m ((c.tc : Thread nD τ).loc main_arg1)) (m ((c.tc : Thread nD τ).loc main_arg2)) (m ((c.tc : Thread nD τ).loc main_arg3)) (i 0) (i 1) (i 2) := by
  refine (dats m 0 c).arrAt_eq_of_covers 4 _ (by decide +kernel) fun t hf y => ?_
  obtain ⟨q, l, rfl⟩ : ∃ (q : Fin 256) (l : Fin 4096), y = ix3 0 q l := ⟨y 1, y 2, by blk_ext⟩
  have h0 : (grid0.coords t 0).val < 8 := (grid0.coords t 0).isLt
  have h1 : (grid0.coords t 1).val < 17 := (grid0.coords t 1).isLt
  obtain ⟨b, hb⟩ : ∃ b : Fin 8, b.val = (grid0.coords t 0).val := ⟨⟨_, h0⟩, rfl⟩
  obtain ⟨n, hn⟩ : ∃ n : Fin 4352, n.val = (grid0.coords t 1).val * 256 + q.val := ⟨⟨(grid0.coords t 1).val * 256 + q.val, by omega⟩, rfl⟩
  rw [emb4 t b n q l hb hn]
  blk_simp
  rw [after0_4, out_apply]
  simp only [blk0 m c t b n q _ hb hn, blk2, blk3]
  have h3 := fun d => blk1 m c t b n q 3 d hb hn
  have h4 := fun d => blk1 m c t b n q 4 d hb hn
  show _ = up _ _ _ _ b n l
  unfold up
  rw [← funext h3, ← funext h4]
  rfl

end Cert.MlpUpIdeal.Block

end
-- ==== Proof.UpRef.lean ====
/- The first MLP call's reference, read at an index. -/
module

public import proofs.«01_k».proof.Proof.Rows
public import proofs.«01_k».proof.Proof.Gen.MlpUpRefIdeal.Read
public import Idealize.ShloMosaic.Lib.Pointwise
public import Idealize.ShloMosaic.Lib.Pipeline.ValueKit

@[expose] public section

set_option maxRecDepth 16384

noncomputable section

namespace Cert.MlpUpRefIdeal.Row

open Cert.MlpUpRefIdeal Cert.MlpUpRefIdeal.Gen Cert.MlpUpRefIdeal.Read Idealize.ShloMosaic Idealize.ShloMosaic.TcCoe Cert.Rows

variable (x0 : (⟨S8x4352x1024, .f32⟩ : BufTy).Contents (Elt Ideal)) (x1 : (⟨S9x6x1024, .f32⟩ : BufTy).Contents (Elt Ideal)) (x2 : (⟨S1024, .f32⟩ : BufTy).Contents (Elt Ideal)) (x3 : (⟨S1024x4096, .f32⟩ : BufTy).Contents (Elt Ideal))

/-- The reference's result at token `n` of batch `b` and channel `l`. -/
theorem out_apply (b : Fin 8) (n : Fin 4352) (l : Fin 4096) :
    val_main_v59 (F := Ideal) x0 x1 x2 x3 (ix3 b n l) = up x0 x1 x2 x3 b n l := by
  pointwise [val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_cst_1, val_main_v17, val_main_v18, val_main_v19, val_main_v20, val_main_v21, val_main_v22, val_main_v23, val_main_v24, val_main_cst_2, val_main_v25, val_main_v26, val_main_v27, val_main_v28, val_main_v29, val_main_v30, val_main_v31, val_main_call0_cst, val_main_call0_v0, val_main_v32, val_main_v33, val_main_v34, val_main_cst_3, val_main_v35, val_main_v36, val_main_cst_4, val_main_v37, val_main_v38, val_main_cst_5, val_main_v39, val_main_v40, val_main_v41, val_main_v42, val_main_v43, val_main_v44, val_main_v45, val_main_v46, val_main_cst_6, val_main_v47, val_main_v48, val_main_v49, val_main_v50, val_main_v51, val_main_v52, val_main_v53, val_main_v54, val_main_v55, val_main_call1_cst, val_main_call1_v0, val_main_v56, val_main_v57, val_main_v58, val_main_v59]
  unfold up modRow
  by_cases h : n.val < 4096
  · rw [dif_pos h]
    simp only [if_pos h]
    rfl
  · rw [dif_neg h]
    have hn : (⟨4096 + (n.val - 4096), by omega⟩ : Fin 4352) = n := Fin.ext (by simp only []; omega)
    simp only [if_neg h, hn]
    rfl

end Cert.MlpUpRefIdeal.Row

end
-- ==== Proof.DownValue.lean ====
/- The second MLP call's result array after the run, read at an index from the argument arrays. -/
module

public import proofs.«01_k».proof.Proof.Rows
public import proofs.«01_k».proof.Proof.Gen.MlpDownIdeal.Value
public import Idealize.ShloMosaic.Lib.Pointwise
public import Idealize.ShloMosaic.Lib.StableHlo.ReadAt
public import Idealize.ShloMosaic.Lib.Pipeline.ValueKit

@[expose] public section

set_option maxRecDepth 16384

noncomputable section

namespace Cert.MlpDownIdeal.Block

open Cert.MlpDownIdeal Cert.MlpDownIdeal.Gen Idealize.ShloMosaic Idealize.ShloMosaic.TcCoe Cert.Rows Idealize.SL.Sem
open Idealize.ShloMosaic.Pipeline (Dat)

/-- What a grid point stores, read at token `q` and channel `l` of its block. -/
theorem out_apply (x0 : Vec Ideal S1x256x1024 .f32) (x1 : Vec Ideal S1x8x1024 .f32) (x2 : Vec Ideal S4096x1024 .bf16)
    (x3 : Vec Ideal S1x256x4096 .bf16) (q : Fin 256) (l : Fin 1024) :
    out0_4 (F := Ideal) x0 x1 x2 x3 (ix3 0 q l) =
      x0 (ix3 0 q l) + x1 (ix3 0 5 l) * ∑ d : Fin 4096, x3 (ix3 0 q d) * x2 (ix2 d l) := by
  have hz3 : (![0, 0, 0] : Fin 3 → ℕ) = fun _ => 0 := by decide
  have hz2 : (![0, 0] : Fin 2 → ℕ) = fun _ => 0 := by decide
  unfold out0_4
  rw [View.canon_unit_zero hz3, show View.ld x0 r0_2 = x0 from View.ld_unit_zero hz3 _ _, show View.ld x1 r0_1 = x1 from View.ld_unit_zero hz3 _ _,
    show View.ld x2 r0_3 = x2 from View.ld_unit_zero hz2 _ _, show View.ld x3 r0_0 = x3 from View.ld_unit_zero hz3 _ _]
  pointwise [k0_pay1]

variable (m : (ℓ : Loc nD τ sig) → Buf (Elt Ideal) ℓ)

/-- The block indices of the windows at a grid point. -/
theorem idx : ∀ t : Fin grid0.N, win0_0.index t = ![(grid0.coords t 0).val, (grid0.coords t 1).val, 0] ∧ win0_1.index t = ![if (grid0.coords t 1).val = 16 then 8 else (grid0.coords t 0).val, 0, 0]
    ∧ win0_2.index t = ![0, 0] ∧ win0_3.index t = ![(grid0.coords t 0).val, (grid0.coords t 1).val, 0] ∧ win0_4.index t = ![(grid0.coords t 0).val, (grid0.coords t 1).val, 0] := by decide +kernel

/-- The block of window 0 at a grid point: 256 tokens of a batch. -/
theorem blk0 (c : Dev nD) (t : Fin cfg0.N) (b : Fin 8) (n : Fin 4352) (q : Fin 256) (l : Fin 1024) (hb : b.val = (grid0.coords t 0).val)
    (hn : n.val = (grid0.coords t 1).val * 256 + q.val) :
    iblk m c 0 t (ix3 0 q l) = (m ((c.tc : Thread nD τ).loc main_arg0)) (ix3 b n l) := by
  blk_ext [iblk, V, idx t]

/-- The modulation table's block at a grid point: the batch's rows, the last rows at the context tokens' point. -/
theorem blk1 (c : Dev nD) (t : Fin cfg0.N) (b : Fin 8) (n : Fin 4352) (q : Fin 256) (r : Fin 6) (d : Fin 1024)
    (hb : b.val = (grid0.coords t 0).val) (hn : n.val = (grid0.coords t 1).val * 256 + q.val) :
    iblk m c 1 t (ix3 0 ⟨r, by omega⟩ d) = (m ((c.tc : Thread nD τ).loc main_arg1)) (ix3 (modRow b n) r d) := by
  have hr : (modRow b n).val = if (grid0.coords t 1).val = 16 then 8 else (grid0.coords t 0).val := by
    have h1 : (grid0.coords t 1).val < 17 := (grid0.coords t 1).isLt
    unfold modRow
    by_cases h : (grid0.coords t 1).val = 16
    · rw [if_pos h, if_neg (by omega)]; rfl
    · rw [if_neg h, if_pos (by omega)]; exact hb
  have h : iblk m c 1 t (ix3 0 ⟨r, by omega⟩ d) = V m c main_v0 (ix3 (modRow b n) ⟨r, by omega⟩ d) := by
    generalize modRow b n = z at hr ⊢
    blk_ext [iblk, idx t]
  rw [h]
  simp only [V, hostOps0, hostOps0_1, hostOps0_2, List.flatten_cons, List.flatten_nil, List.append_nil, List.cons_append, List.nil_append]
  after_reads_at

/-- The weight's block is the weight, its cast to bf16 the identity. -/
theorem blk2 (c : Dev nD) (t : Fin cfg0.N) (d : Fin 4096) (l : Fin 1024) :
    iblk m c 2 t (ix2 d l) = (m ((c.tc : Thread nD τ).loc main_arg2)) (ix2 d l) := by
  have h : iblk m c 2 t (ix2 d l) = V m c main_v1 (ix2 d l) := by
    blk_ext [iblk, idx t]
  rw [h]
  simp only [V, hostOps0, hostOps0_1, hostOps0_2, List.flatten_cons, List.flatten_nil, List.append_nil, List.cons_append, List.nil_append]
  after_reads_at

/-- The block of window 3 at a grid point: 256 tokens of a batch. -/
theorem blk3 (c : Dev nD) (t : Fin cfg0.N) (b : Fin 8) (n : Fin 4352) (q : Fin 256) (l : Fin 4096) (hb : b.val = (grid0.coords t 0).val)
    (hn : n.val = (grid0.coords t 1).val * 256 + q.val) :
    iblk m c 3 t (ix3 0 q l) = (m ((c.tc : Thread nD τ).loc main_arg3)) (ix3 b n l) := by
  blk_ext [iblk, V, idx t]

/-- Where the result's block lies in the result. -/
theorem emb4 (t : Fin cfg0.N) (b : Fin 8) (n : Fin 4352) (q : Fin 256) (l : Fin 1024) (hb : b.val = (grid0.coords t 0).val)
    (hn : n.val = (grid0.coords t 1).val * 256 + q.val) :
    ((cfg0.win 4).blk t).view.emb (ix3 0 q l) = (ix3 b n l : S8x4352x1024.Idx) := by
  blk_ext [idx t]

/-- The call's result array after the run. -/
theorem final (c : Dev nD) :
    (dats m 0 c).arrAt 4 cfg0.N = fun i : S8x4352x1024.Idx => (fun b n => gated 5 (m ((c.tc : Thread nD τ).loc main_arg0)) (m ((c.tc : Thread nD τ).loc main_arg1)) (m ((c.tc : Thread nD τ).loc main_arg2)) (fun d => (m ((c.tc : Thread nD τ).loc main_arg3)) (ix3 b n d)) b n) (i 0) (i 1) (i 2) := by
  refine (dats m 0 c).arrAt_eq_of_covers 4 _ (by decide +kernel) fun t hf y => ?_
  obtain ⟨q, l, rfl⟩ : ∃ (q : Fin 256) (l : Fin 1024), y = ix3 0 q l := ⟨y 1, y 2, by blk_ext⟩
  have h0 : (grid0.coords t 0).val < 8 := (grid0.coords t 0).isLt
  have h1 : (grid0.coords t 1).val < 17 := (grid0.coords t 1).isLt
  obtain ⟨b, hb⟩ : ∃ b : Fin 8, b.val = (grid0.coords t 0).val := ⟨⟨_, h0⟩, rfl⟩
  obtain ⟨n, hn⟩ : ∃ n : Fin 4352, n.val = (grid0.coords t 1).val * 256 + q.val := ⟨⟨(grid0.coords t 1).val * 256 + q.val, by omega⟩, rfl⟩
  rw [emb4 t b n q l hb hn]
  blk_simp
  rw [after0_4, out_apply]
  have h5 := blk1 m c t b n q 5 l hb hn
  simp only [blk0 m c t b n q _ hb hn, blk2, blk3 m c t b n q _ hb hn]
  show _ = gated 5 _ _ _ _ b n l
  unfold gated
  rw [← h5]
  rfl

end Cert.MlpDownIdeal.Block

end
-- ==== Proof.DownRef.lean ====
/- The second MLP call's reference, read at an index. -/
module

public import proofs.«01_k».proof.Proof.Rows
public import proofs.«01_k».proof.Proof.Gen.MlpDownRefIdeal.Read
public import Idealize.ShloMosaic.Lib.Pointwise
public import Idealize.ShloMosaic.Lib.Pipeline.ValueKit

@[expose] public section

set_option maxRecDepth 16384

noncomputable section

namespace Cert.MlpDownRefIdeal.Row

open Cert.MlpDownRefIdeal Cert.MlpDownRefIdeal.Gen Cert.MlpDownRefIdeal.Read Idealize.ShloMosaic Idealize.ShloMosaic.TcCoe Cert.Rows

variable (x0 : (⟨S8x4352x1024, .f32⟩ : BufTy).Contents (Elt Ideal)) (x1 : (⟨S9x6x1024, .f32⟩ : BufTy).Contents (Elt Ideal)) (x2 : (⟨S4096x1024, .f32⟩ : BufTy).Contents (Elt Ideal)) (x3 : (⟨S8x4352x4096, .bf16⟩ : BufTy).Contents (Elt Ideal))

/-- The reference's result at token `n` of batch `b` and channel `l`. -/
theorem out_apply (b : Fin 8) (n : Fin 4352) (l : Fin 1024) :
    val_main_v19 (F := Ideal) x0 x1 x2 x3 (ix3 b n l) = gated 5 x0 x1 x2 (fun d => x3 (ix3 b n d)) b n l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19]
  unfold gated modRow
  by_cases h : n.val < 4096
  · rw [dif_pos h]
    simp only [if_pos h]
  · rw [dif_neg h]
    have hn : (⟨4096 + (n.val - 4096), by omega⟩ : Fin 4352) = n := Fin.ext (by simp only []; omega)
    simp only [if_neg h, hn]

end Cert.MlpDownRefIdeal.Row

end
-- ==== Proof.OutValue.lean ====
/- The output projection's result array after the run, read at an index from the argument arrays. -/
module

public import proofs.«01_k».proof.Proof.Rows
public import proofs.«01_k».proof.Proof.Gen.OutProjIdeal.Value
public import Idealize.ShloMosaic.Lib.Pointwise
public import Idealize.ShloMosaic.Lib.StableHlo.ReadAt
public import Idealize.ShloMosaic.Lib.Pipeline.ValueKit

@[expose] public section

set_option maxRecDepth 16384

noncomputable section

namespace Cert.OutProjIdeal.Block

open Cert.OutProjIdeal Cert.OutProjIdeal.Gen Idealize.ShloMosaic Idealize.ShloMosaic.TcCoe Cert.Rows Idealize.SL.Sem
open Idealize.ShloMosaic.Pipeline (Dat)

/-- The product a grid point stores, before the stream is added, at token `q` and channel `l` of its block. -/
theorem pay3_apply (i : grid0.Coords) (x0 : Vec Ideal S1x256x256 .f32) (x1 x2 : Vec Ideal S1x256x256 .bf16) (x3 x4 x5 : Vec Ideal S1x256x256 .f32)
    (x6 : Vec Ideal S1x8x1024 .f32) (x7 : Vec Ideal S1024x1024 .bf16) (q : Fin 256) (l : Fin 1024) :
    k0_pay3 (F := Ideal) i x0 x1 x2 x3 x4 x5 x6 x7 (ix2 q l) = x6 (ix3 0 2 l) * ∑ d : Fin 1024,
      beside (fun l => x0 (ix3 0 q l)) (fun l => Scalar.select (Scalar.cmpi CmpIPredicate.eq (BitVec.ofNat 32 (i 1).val) 16#32) (x2 (ix3 0 q l)) (x1 (ix3 0 q l))) (fun l => x3 (ix3 0 q l))
        (fun l => Scalar.select (Scalar.cmpi CmpIPredicate.eq (BitVec.ofNat 32 (i 1).val) 16#32) (x5 (ix3 0 q l)) (x4 (ix3 0 q l))) d * x7 (ix2 d l) := by
  pointwise [k0_pay3]
  rfl

/-- What a grid point stores, read at token `q` and channel `l` of its block. -/
theorem out_apply (i : grid0.Coords) (x0 : Vec Ideal S1x256x1024 .f32) (x1 : Vec Ideal S1x8x1024 .f32) (x2 : Vec Ideal S1024x1024 .bf16)
    (x3 : Vec Ideal S1x256x256 .f32) (x4 x5 : Vec Ideal S1x256x256 .bf16) (x6 x7 x8 : Vec Ideal S1x256x256 .f32) (q : Fin 256) (l : Fin 1024) :
    out0_9 (F := Ideal) i x0 x1 x2 x3 x4 x5 x6 x7 x8 (ix3 0 q l) = x0 (ix3 0 q l) + x1 (ix3 0 2 l) * ∑ d : Fin 1024,
      beside (fun l => x3 (ix3 0 q l)) (fun l => Scalar.select (Scalar.cmpi CmpIPredicate.eq (BitVec.ofNat 32 (i 1).val) 16#32) (x5 (ix3 0 q l)) (x4 (ix3 0 q l))) (fun l => x6 (ix3 0 q l))
        (fun l => Scalar.select (Scalar.cmpi CmpIPredicate.eq (BitVec.ofNat 32 (i 1).val) 16#32) (x8 (ix3 0 q l)) (x7 (ix3 0 q l))) d * x2 (ix2 d l) := by
  have hz3 : (![0, 0, 0] : Fin 3 → ℕ) = fun _ => 0 := by decide
  have hz2 : (![0, 0] : Fin 2 → ℕ) = fun _ => 0 := by decide
  unfold out0_9
  rw [View.canon_unit_zero hz3, show View.ld x0 r0_2 = x0 from View.ld_unit_zero hz3 _ _, show View.ld x1 r0_1 = x1 from View.ld_unit_zero hz3 _ _,
    show View.ld x2 r0_3 = x2 from View.ld_unit_zero hz2 _ _]
  rw [show View.ld x3 r0_0 = x3 from View.ld_unit_zero hz3 _ _, show View.ld x4 r0_0 = x4 from View.ld_unit_zero hz3 _ _,
    show View.ld x5 r0_0 = x5 from View.ld_unit_zero hz3 _ _, show View.ld x6 r0_0 = x6 from View.ld_unit_zero hz3 _ _,
    show View.ld x7 r0_0 = x7 from View.ld_unit_zero hz3 _ _, show View.ld x8 r0_0 = x8 from View.ld_unit_zero hz3 _ _]
  pointwise [k0_pay1, k0_pay2]
  rw [pay3_apply]

variable (m : (ℓ : Loc nD τ sig) → Buf (Elt Ideal) ℓ)

/-- The block indices of the windows at a grid point. -/
theorem idx : ∀ t : Fin grid0.N, win0_0.index t = ![(grid0.coords t 0).val, (grid0.coords t 1).val, 0] ∧ win0_1.index t = ![if (grid0.coords t 1).val = 16 then 8 else (grid0.coords t 0).val, 0, 0]
    ∧ win0_2.index t = ![0, 0] ∧ win0_3.index t = ![(grid0.coords t 0).val, (grid0.coords t 1).val, 0]
    ∧ win0_4.index t = ![(grid0.coords t 0).val, min (grid0.coords t 1).val 15, 0] ∧ win0_5.index t = ![(grid0.coords t 0).val, 0, 0]
    ∧ win0_6.index t = ![(grid0.coords t 0).val, (grid0.coords t 1).val, 0]
    ∧ win0_7.index t = ![(grid0.coords t 0).val, min (grid0.coords t 1).val 15, 0] ∧ win0_8.index t = ![(grid0.coords t 0).val, 0, 0]
    ∧ win0_9.index t = ![(grid0.coords t 0).val, (grid0.coords t 1).val, 0] := by decide +kernel

/-- The block of window 0 at a grid point: 256 tokens of a batch. -/
theorem blk0 (c : Dev nD) (t : Fin cfg0.N) (b : Fin 8) (n : Fin 4352) (q : Fin 256) (l : Fin 1024) (hb : b.val = (grid0.coords t 0).val)
    (hn : n.val = (grid0.coords t 1).val * 256 + q.val) :
    iblk m c 0 t (ix3 0 q l) = (m ((c.tc : Thread nD τ).loc main_arg0)) (ix3 b n l) := by
  blk_ext [iblk, V, idx t]

/-- The modulation table's block at a grid point: the batch's rows, the last rows at the context tokens' point. -/
theorem blk1 (c : Dev nD) (t : Fin cfg0.N) (b : Fin 8) (n : Fin 4352) (q : Fin 256) (r : Fin 6) (d : Fin 1024)
    (hb : b.val = (grid0.coords t 0).val) (hn : n.val = (grid0.coords t 1).val * 256 + q.val) :
    iblk m c 1 t (ix3 0 ⟨r, by omega⟩ d) = (m ((c.tc : Thread nD τ).loc main_arg1)) (ix3 (modRow b n) r d) := by
  have hr : (modRow b n).val = if (grid0.coords t 1).val = 16 then 8 else (grid0.coords t 0).val := by
    have h1 : (grid0.coords t 1).val < 17 := (grid0.coords t 1).isLt
    unfold modRow
    by_cases h : (grid0.coords t 1).val = 16
    · rw [if_pos h, if_neg (by omega)]; rfl
    · rw [if_neg h, if_pos (by omega)]; exact hb
  have h : iblk m c 1 t (ix3 0 ⟨r, by omega⟩ d) = V m c main_v0 (ix3 (modRow b n) ⟨r, by omega⟩ d) := by
    generalize modRow b n = z at hr ⊢
    blk_ext [iblk, idx t]
  rw [h]
  simp only [V, hostOps0, hostOps0_1, hostOps0_2, List.flatten_cons, List.flatten_nil, List.append_nil, List.cons_append, List.nil_append]
  after_reads_at

/-- The weight's block is the weight, its cast to bf16 the identity. -/
theorem blk2 (c : Dev nD) (t : Fin cfg0.N) (d : Fin 1024) (l : Fin 1024) :
    iblk m c 2 t (ix2 d l) = (m ((c.tc : Thread nD τ).loc main_arg2)) (ix2 d l) := by
  have h : iblk m c 2 t (ix2 d l) = V m c main_v1 (ix2 d l) := by
    blk_ext [iblk, idx t]
  rw [h]
  simp only [V, hostOps0, hostOps0_1, hostOps0_2, List.flatten_cons, List.flatten_nil, List.append_nil, List.cons_append, List.nil_append]
  after_reads_at

/-- The block of window 3 at a grid point: 256 tokens of a batch. -/
theorem blk3 (c : Dev nD) (t : Fin cfg0.N) (b : Fin 8) (n : Fin 4352) (q : Fin 256) (l : Fin 256) (hb : b.val = (grid0.coords t 0).val)
    (hn : n.val = (grid0.coords t 1).val * 256 + q.val) :
    iblk m c 3 t (ix3 0 q l) = (m ((c.tc : Thread nD τ).loc main_arg3)) (ix3 b n l) := by
  blk_ext [iblk, V, idx t]

/-- The block of window 6 at a grid point: 256 tokens of a batch. -/
theorem blk6 (c : Dev nD) (t : Fin cfg0.N) (b : Fin 8) (n : Fin 4352) (q : Fin 256) (l : Fin 256) (hb : b.val = (grid0.coords t 0).val)
    (hn : n.val = (grid0.coords t 1).val * 256 + q.val) :
    iblk m c 6 t (ix3 0 q l) = (m ((c.tc : Thread nD τ).loc main_arg6)) (ix3 b n l) := by
  blk_ext [iblk, V, idx t]

/-- Where the result's block lies in the result. -/
theorem emb9 (t : Fin cfg0.N) (b : Fin 8) (n : Fin 4352) (q : Fin 256) (l : Fin 1024) (hb : b.val = (grid0.coords t 0).val)
    (hn : n.val = (grid0.coords t 1).val * 256 + q.val) :
    ((cfg0.win 9).blk t).view.emb (ix3 0 q l) = (ix3 b n l : S8x4352x1024.Idx) := by
  blk_ext [idx t]

/-- The block of window 4 at a point of the latent tokens. -/
theorem blk4 (c : Dev nD) (t : Fin cfg0.N) (b : Fin 8) (n : Fin 4352) (q l : Fin 256) (hb : b.val = (grid0.coords t 0).val)
    (hn : n.val = (grid0.coords t 1).val * 256 + q.val) (h : n.val < 4096) :
    iblk m c 4 t (ix3 0 q l) = (m ((c.tc : Thread nD τ).loc main_arg4)) (ix3 b ⟨n, h⟩ l) := by
  have h16 : min (grid0.coords t 1).val 15 = (grid0.coords t 1).val := by omega
  blk_ext [iblk, V, idx t]

/-- The block of window 7 at a point of the latent tokens. -/
theorem blk7 (c : Dev nD) (t : Fin cfg0.N) (b : Fin 8) (n : Fin 4352) (q l : Fin 256) (hb : b.val = (grid0.coords t 0).val)
    (hn : n.val = (grid0.coords t 1).val * 256 + q.val) (h : n.val < 4096) :
    iblk m c 7 t (ix3 0 q l) = (m ((c.tc : Thread nD τ).loc main_arg7)) (ix3 b ⟨n, h⟩ l) := by
  have h16 : min (grid0.coords t 1).val 15 = (grid0.coords t 1).val := by omega
  blk_ext [iblk, V, idx t]

/-- The block of window 5 at the point of the context tokens. -/
theorem blk5 (c : Dev nD) (t : Fin cfg0.N) (b : Fin 8) (n : Fin 4352) (q l : Fin 256) (hb : b.val = (grid0.coords t 0).val)
    (hn : n.val = (grid0.coords t 1).val * 256 + q.val) (h : ¬ n.val < 4096) :
    iblk m c 5 t (ix3 0 q l) = (m ((c.tc : Thread nD τ).loc main_arg5)) (ix3 b ⟨n.val - 4096, by omega⟩ l) := by
  have h1 : (grid0.coords t 1).val < 17 := (grid0.coords t 1).isLt
  blk_ext [iblk, V, idx t]

/-- The block of window 8 at the point of the context tokens. -/
theorem blk8 (c : Dev nD) (t : Fin cfg0.N) (b : Fin 8) (n : Fin 4352) (q l : Fin 256) (hb : b.val = (grid0.coords t 0).val)
    (hn : n.val = (grid0.coords t 1).val * 256 + q.val) (h : ¬ n.val < 4096) :
    iblk m c 8 t (ix3 0 q l) = (m ((c.tc : Thread nD τ).loc main_arg8)) (ix3 b ⟨n.val - 4096, by omega⟩ l) := by
  have h1 : (grid0.coords t 1).val < 17 := (grid0.coords t 1).isLt
  blk_ext [iblk, V, idx t]

/-- The group's block the point takes is the group's rows of its tokens. -/
theorem pick (c : Dev nD) (t : Fin cfg0.N) (b : Fin 8) (n : Fin 4352) (q l : Fin 256) (hb : b.val = (grid0.coords t 0).val)
    (hn : n.val = (grid0.coords t 1).val * 256 + q.val) :
    Scalar.select (Scalar.cmpi CmpIPredicate.eq (BitVec.ofNat 32 (grid0.coords t 1).val) 16#32) (iblk m c 5 t (ix3 0 q l)) (iblk m c 4 t (ix3 0 q l))
        = both (m ((c.tc : Thread nD τ).loc main_arg4)) (m ((c.tc : Thread nD τ).loc main_arg5)) b n l
    ∧ Scalar.select (Scalar.cmpi CmpIPredicate.eq (BitVec.ofNat 32 (grid0.coords t 1).val) 16#32) (iblk m c 8 t (ix3 0 q l)) (iblk m c 7 t (ix3 0 q l))
        = both (m ((c.tc : Thread nD τ).loc main_arg7)) (m ((c.tc : Thread nD τ).loc main_arg8)) b n l := by
  have h1 : (grid0.coords t 1).val < 17 := (grid0.coords t 1).isLt
  by_cases h : n.val < 4096
  · have hc : Scalar.cmpi CmpIPredicate.eq (BitVec.ofNat 32 (grid0.coords t 1).val) 16#32 = 0#1 := by
      have h2 : (grid0.coords t 1).val < 16 := by omega
      generalize (grid0.coords t 1).val = z at h2
      interval_cases z <;> rfl
    rw [hc, blk4 m c t b n q l hb hn h, blk7 m c t b n q l hb hn h]
    unfold both
    rw [dif_pos h, dif_pos h]
    exact ⟨rfl, rfl⟩
  · have hc : Scalar.cmpi CmpIPredicate.eq (BitVec.ofNat 32 (grid0.coords t 1).val) 16#32 = 1#1 := by
      have h2 : (grid0.coords t 1).val = 16 := by omega
      rw [h2]; rfl
    rw [hc, blk5 m c t b n q l hb hn h, blk8 m c t b n q l hb hn h]
    unfold both
    rw [dif_neg h, dif_neg h]
    exact ⟨rfl, rfl⟩

/-- The call's result array after the run. -/
theorem final (c : Dev nD) :
    (dats m 0 c).arrAt 9 cfg0.N = fun i : S8x4352x1024.Idx => (fun b n => gated 2 (m ((c.tc : Thread nD τ).loc main_arg0)) (m ((c.tc : Thread nD τ).loc main_arg1)) (m ((c.tc : Thread nD τ).loc main_arg2))
      (heads (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) b n) b n) (i 0) (i 1) (i 2) := by
  refine (dats m 0 c).arrAt_eq_of_covers 9 _ (by decide +kernel) fun t hf y => ?_
  obtain ⟨q, l, rfl⟩ : ∃ (q : Fin 256) (l : Fin 1024), y = ix3 0 q l := ⟨y 1, y 2, by blk_ext⟩
  have h0 : (grid0.coords t 0).val < 8 := (grid0.coords t 0).isLt
  have h1 : (grid0.coords t 1).val < 17 := (grid0.coords t 1).isLt
  obtain ⟨b, hb⟩ : ∃ b : Fin 8, b.val = (grid0.coords t 0).val := ⟨⟨_, h0⟩, rfl⟩
  obtain ⟨n, hn⟩ : ∃ n : Fin 4352, n.val = (grid0.coords t 1).val * 256 + q.val := ⟨⟨(grid0.coords t 1).val * 256 + q.val, by omega⟩, rfl⟩
  rw [emb9 t b n q l hb hn]
  blk_simp
  rw [after0_9, out_apply]
  have h2 := blk1 m c t b n q 2 l hb hn
  simp only [blk0 m c t b n q _ hb hn, blk2, blk3 m c t b n q _ hb hn, blk6 m c t b n q _ hb hn, (pick m c t b n q _ hb hn).1,
    (pick m c t b n q _ hb hn).2]
  show _ = gated 2 _ _ _ (heads _ _ _ _ _ _ b n) b n l
  unfold gated
  rw [← h2]
  rfl

end Cert.OutProjIdeal.Block

end
-- ==== Proof.OutRef.lean ====
/- The output projection's reference, read at an index. -/
module

public import proofs.«01_k».proof.Proof.Rows
public import proofs.«01_k».proof.Proof.Gen.OutProjRefIdeal.Read
public import Idealize.ShloMosaic.Lib.Pointwise
public import Idealize.ShloMosaic.Lib.Pipeline.ValueKit

@[expose] public section

set_option maxRecDepth 16384

noncomputable section

namespace Cert.OutProjRefIdeal.Row

open Cert.OutProjRefIdeal Cert.OutProjRefIdeal.Gen Cert.OutProjRefIdeal.Read Idealize.ShloMosaic Idealize.ShloMosaic.TcCoe Cert.Rows

variable (x0 : (⟨S8x4352x1024, .f32⟩ : BufTy).Contents (Elt Ideal)) (x1 : (⟨S9x6x1024, .f32⟩ : BufTy).Contents (Elt Ideal)) (x2 : (⟨S1024x1024, .f32⟩ : BufTy).Contents (Elt Ideal)) (x3 : (⟨S8x4352x256, .f32⟩ : BufTy).Contents (Elt Ideal)) (x4 : (⟨S8x4096x256, .bf16⟩ : BufTy).Contents (Elt Ideal)) (x5 : (⟨S8x256x256, .bf16⟩ : BufTy).Contents (Elt Ideal)) (x6 : (⟨S8x4352x256, .f32⟩ : BufTy).Contents (Elt Ideal)) (x7 : (⟨S8x4096x256, .f32⟩ : BufTy).Contents (Elt Ideal)) (x8 : (⟨S8x256x256, .f32⟩ : BufTy).Contents (Elt Ideal))

/-- The reference's result at token `n` of batch `b` and channel `l`. -/
theorem out_apply (b : Fin 8) (n : Fin 4352) (l : Fin 1024) :
    val_main_v24 (F := Ideal) x0 x1 x2 x3 x4 x5 x6 x7 x8 (ix3 b n l) = gated 2 x0 x1 x2 (heads x3 x4 x5 x6 x7 x8 b n) b n l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24]
  unfold gated modRow heads beside both
  by_cases h : n.val < 4096
  · rw [dif_pos h]
    simp only [if_pos h, dif_pos h]
  · rw [dif_neg h]
    have hn : (⟨4096 + (n.val - 4096), by omega⟩ : Fin 4352) = n := Fin.ext (by simp only []; omega)
    simp only [if_neg h, dif_neg h, hn]

end Cert.OutProjRefIdeal.Row

end
-- ==== Proof.InRows.lean ====
/- What the input projection computes at one token, free of any program. -/
module

public import proofs.«01_k».proof.Proof.Rows

@[expose] public section

noncomputable section

namespace Cert.Rows

open Idealize.ShloMosaic

/-- Column `j` of the projection at token `n` of batch `b`. -/
def proj (X : (⟨3, ![8, 4352, 1024]⟩ : Shape).Idx → EReal) (M : (⟨3, ![9, 6, 1024]⟩ : Shape).Idx → EReal)
    (W : (⟨1, ![1024]⟩ : Shape).Idx → EReal) (A : (⟨2, ![1024, 3856]⟩ : Shape).Idx → EReal) (b : Fin 8) (n : Fin 4352) (j : Fin 3856) : EReal :=
  ∑ d : Fin 1024, modNorm (fun d => X (ix3 b n d)) (fun d => W (ix1 d)) (fun d => M (ix3 (modRow b n) 0 d))
      (fun d => M (ix3 (modRow b n) 1 d)) d * A (ix2 d j)

/-- The projection's columns with 112 columns of zeros after the first 1040. -/
def projPad (X : (⟨3, ![8, 4352, 1024]⟩ : Shape).Idx → EReal) (M : (⟨3, ![9, 6, 1024]⟩ : Shape).Idx → EReal)
    (W : (⟨1, ![1024]⟩ : Shape).Idx → EReal) (A : (⟨2, ![1024, 3856]⟩ : Shape).Idx → EReal) (b : Fin 8) (n : Fin 4352) (l : Fin 1152) : EReal :=
  if h : l.val < 1040 then proj X M W A b n ⟨l, by omega⟩ else 0

/-- The rotary frequency of pair `e`. -/
def freq (e : ℕ) : EReal :=
  Ideal.pow (Ideal.ofBits .f32 0x461C4000#32)
    (Ideal.div (-FloatOps.sitofp (F := Ideal) .f32 (BitVec.ofNat 32 e)) (Ideal.ofBits .f32 0x41000000#32))

/-- The rotary angle of a grid coordinate and a pair. -/
def coordAngle (p e : ℕ) : EReal := FloatOps.sitofp (F := Ideal) .f32 (BitVec.ofNat 32 p) * freq e

/-- The rotary angle of lane `j` of a head at latent token `n`: the first half of the lanes turns with the row, the second with the column. -/
def angle (n j : ℕ) : EReal := if j < 16 then coordAngle (n / 64) (j % 8) else coordAngle (n % 64) (j % 8)

/-- The axial rotation of the eight heads' lanes at token `n`; the context tokens stay as they are. -/
def rope (n : ℕ) (y : Fin 256 → EReal) (l : Fin 256) : EReal :=
  if n < 4096 then
    if l.val % 16 < 8 then y l * Ideal.cos (angle n (l.val % 32)) - y ⟨(l.val + 8) % 256, by omega⟩ * Ideal.sin (angle n (l.val % 32))
    else y l * Ideal.cos (angle n (l.val % 32)) + y ⟨(l.val + 248) % 256, by omega⟩ * Ideal.sin (angle n (l.val % 32))
  else y l

/-- A lane after its head's root mean square normalization with weight `w`. -/
def headNorm (p : Fin 256 → EReal) (w : Fin 32 → EReal) (l : Fin 256) : EReal :=
  p l * Ideal.rsqrt (Ideal.div (∑ e : Fin 32, p ⟨32 * (l.val / 32) + e, by omega⟩ * p ⟨32 * (l.val / 32) + e, by omega⟩)
      (Ideal.ofBits .f32 0x42000000#32) + Ideal.ofBits .f32 0x358637BD#32) * w ⟨l.val % 32, by omega⟩

/-- A lane of the normalized and rotated queries or keys, from the lanes of the projection. -/
def turned (p : Fin 256 → EReal) (w : Fin 32 → EReal) (n : ℕ) (l : Fin 256) : EReal := rope n (headNorm p w) l

/-- The values with their rows of ones and zeros: head `l / 128` takes 128 rows, of which the first 64 are its channels and the next is one. -/
def valueRow (p : Fin 256 → EReal) (l : Fin 512) : EReal :=
  if h : l.val % 128 < 64 then p ⟨l.val / 128 * 64 + l.val % 128, by omega⟩ else if l.val % 128 = 64 then 1 else 0

/-- The f32 thirty-two is thirty-two. -/
theorem thirtytwo : Ideal.ofBits .f32 0x42000000#32 = ((32 : ℝ) : EReal) := by
  simp [Ideal.ofBits, Ideal.ieee, -EReal.coe_mul]
  norm_num

/-- The f32 one thirty-second is the inverse of thirty-two. -/
theorem inv_thirtytwo : Ideal.ofBits .f32 0x3D000000#32 = (((32 : ℝ)⁻¹ : ℝ) : EReal) := by
  simp [Ideal.ofBits, Ideal.ieee, -EReal.coe_mul]
  norm_num

/-- The mean as a product with 1/32 is the mean as a quotient by 32. -/
theorem mean32_eq (x : EReal) : x * Ideal.ofBits .f32 0x3D000000#32 = Ideal.div x (Ideal.ofBits .f32 0x42000000#32) := by
  rw [thirtytwo, inv_thirtytwo]
  unfold Ideal.div
  rw [if_neg (by norm_num), EReal.coe_inv]

/-- The cosine table's entry: one at the context tokens. -/
def cosAt (n l : ℕ) : EReal := if n < 4096 then Ideal.cos (angle n (l % 32)) else 1

/-- The signed sine table's entry: zero at the context tokens. -/
def sinAt (n l : ℕ) : EReal :=
  if n < 4096 then if l % 16 < 8 then -Ideal.sin (angle n (l % 32)) else Ideal.sin (angle n (l % 32)) else 0

/-- The rotation by the two tables. -/
theorem rope_eq (n : ℕ) (y : Fin 256 → EReal) (l : Fin 256) :
    rope n y l = y l * cosAt n l
      + (if l.val % 16 < 8 then y ⟨(l.val + 8) % 256, by omega⟩ else y ⟨(l.val + 248) % 256, by omega⟩) * sinAt n l := by
  unfold rope cosAt sinAt
  by_cases h : n < 4096
  · simp only [if_pos h]
    by_cases h2 : l.val % 16 < 8
    · simp only [if_pos h2]
      rw [mul_neg, sub_eq_add_neg]
    · simp only [if_neg h2]
  · simp only [if_neg h]
    rw [mul_one, mul_zero, add_zero]

end Cert.Rows

end
-- ==== Proof.InBlock.lean ====
/- The input projection's block computations, read at an index. -/
module

public import proofs.«01_k».proof.Proof.InRows
public import proofs.«01_k».proof.Proof.AttnMath
public import proofs.«01_k».proof.Proof.Gen.InProjIdeal.Frame
public import Idealize.ShloMosaic.Lib.Pointwise

@[expose] public section

set_option maxRecDepth 16384

noncomputable section

namespace Cert.InProjIdeal.Block

open Cert.InProjIdeal Cert.InProjIdeal.Gen Idealize.ShloMosaic Idealize.ShloMosaic.TcCoe Cert.Rows Cert.AttnMath

/-- The projection's block, read at an index. -/
theorem pay4_apply (x0 : Vec Ideal S1x256x1024 .f32) (x2 : Vec Ideal S1x1024 .f32) (x1 : Vec Ideal S1x8x1024 .f32)
    (x3 : Vec Ideal S1024x3968 .bf16) (q : Fin 256) (l : Fin 3968) :
    k0_pay4 (F := Ideal) x0 x2 x1 x3 (ix2 q l) =
      ∑ d : Fin 1024, modNorm (fun d => x0 (ix3 0 q d)) (fun d => x2 (ix2 0 d)) (fun d => x1 (ix3 0 0 d))
          (fun d => x1 (ix3 0 1 d)) d * x3 (ix2 d l) := by
  pointwise [k0_pay4]
  rfl

/-- The lanes in the first half of their axis's pairs. -/
theorem pay16_apply (q l : Fin 256) :
    k0_pay17 k0_pay16 8#32 (ix2 q l) = if l.val % 16 < 8 then 1#1 else 0#1 := by
  pointwise [k0_pay16, k0_pay17]
  revert l
  decide +kernel

/-- The word one read as a number. -/
theorem one_word : FloatOps.sitofp (F := Ideal) FTy.f32 1#32 = (1 : EReal) := by
  show (((BitVec.toInt 1#32 : ℤ) : ℝ) : EReal) = 1
  norm_num

/-- The word zero read as a number. -/
theorem zero_word : FloatOps.sitofp (F := Ideal) FTy.f32 0#32 = (0 : EReal) := by
  show (((BitVec.toInt 0#32 : ℤ) : ℝ) : EReal) = 0
  norm_num

/-- The matrix that has a one where two lanes are of the same head. -/
theorem pay15_apply (x l : Fin 256) :
    k0_pay15 (F := Ideal) k0_pay14 (ix2 x l) = if x.val / 32 = l.val / 32 then (1 : EReal) else 0 := by
  have hdiv : ∀ l : Fin 256, Scalar.select
            (IntOp.andi
              (IntOp.cmpi CmpIPredicate.ne
                (IntOp.subi (BitVec.setWidth 32 (IntOp.cmpi CmpIPredicate.sgt (BitVec.ofNat 32 l.val) 0#32))
                  (BitVec.setWidth 32 (IntOp.cmpi CmpIPredicate.slt (BitVec.ofNat 32 l.val) 0#32)))
                (Scalar.subi (Scalar.extui (Scalar.cmpi CmpIPredicate.sgt 32#32 0#32))
                  (Scalar.extui (Scalar.cmpi CmpIPredicate.slt 32#32 0#32))))
              (IntOp.cmpi CmpIPredicate.ne (IntOp.remsi ArithUnit.vector (BitVec.ofNat 32 l.val) 32#32) 0#32))
            (IntOp.subi (IntOp.divsi ArithUnit.vector (BitVec.ofNat 32 l.val) 32#32) 1#32)
            (IntOp.divsi ArithUnit.vector (BitVec.ofNat 32 l.val) 32#32) = BitVec.ofNat 32 (l.val / 32) := by
    decide +kernel
  have hbit : ∀ l c : Fin 8, BitVec.setWidth 32 (IntOp.cmpi CmpIPredicate.eq (BitVec.ofNat 32 l.val) (BitVec.ofNat 32 c.val))
      = if l = c then 1#32 else 0#32 := by decide +kernel
  pointwise [k0_pay14, k0_pay15]
  rw [hdiv, hdiv l, hbit ⟨x.val / 32, by omega⟩ ⟨l.val / 32, by omega⟩]
  by_cases h : x.val / 32 = l.val / 32
  · rw [if_pos h, if_pos (Fin.ext h), one_word]
  · rw [if_neg h, if_neg (fun e => h (congrArg Fin.val e)), zero_word]

/-- A sum over all lanes, masked to the lanes of one head, is the sum over that head's lanes. -/
theorem sum_head (f : Fin 256 → EReal) (l : Fin 256) :
    ∑ x : Fin 256, f x * (if x.val / 32 = l.val / 32 then (1 : EReal) else 0) = ∑ e : Fin 32, f ⟨32 * (l.val / 32) + e, by omega⟩ := by
  refine sum_window f (32 * (l.val / 32)) (by omega) _ (fun d => ?_) fun x hx => ?_
  · rw [if_pos (by show (32 * (l.val / 32) + d.val) / 32 = l.val / 32; omega), mul_one]
  · rw [if_neg (by omega), mul_zero]

/-- A choice by a bit that says whether a statement holds. -/
theorem select_bit (c : Prop) [Decidable c] (a b : EReal) : Scalar.select (if c then 1#1 else 0#1) a b = if c then a else b := by
  by_cases h : c
  · simp only [if_pos h]; rfl
  · simp only [if_neg h]; rfl

/-- The normalized and turned queries, scaled, from the projection's lanes, the two tables and the tiled weight. -/
theorem pay18_apply (p : FVec Ideal S256x768 .f32) (c s : FVec Ideal S256x256 .f32) (w : FVec Ideal S1x256 .f32) (w' : Fin 32 → EReal)
    (q l : Fin 256) (n : ℕ) (hw : ∀ l : Fin 256, w (ix2 0 l) = w' ⟨l.val % 32, by omega⟩) (hc : c (ix2 q l) = cosAt n l) (hs : s (ix2 q l) = sinAt n l) :
    k0_pay18 p c s w (k0_pay15 (F := Ideal) k0_pay14) k0_pay16 8#32 (ix2 q l)
      = turned (fun x => p (ix2 q ⟨x, by omega⟩)) w' n l * Ideal.ofBits .f32 0x3E3504F3#32 := by
  pointwise [k0_pay18]
  simp only [pay15_apply, pay16_apply, show l.val + 256 - 248 = l.val + 8 by omega, show l.val + 256 - 8 = l.val + 248 by omega]
  have h0 := sum_head (fun x => p (ix2 q ⟨x, by omega⟩) * p (ix2 q ⟨x, by omega⟩)) l
  have h1 := sum_head (fun x => p (ix2 q ⟨x, by omega⟩) * p (ix2 q ⟨x, by omega⟩)) ⟨(l.val + 8) % 256, by omega⟩
  have h2 := sum_head (fun x => p (ix2 q ⟨x, by omega⟩) * p (ix2 q ⟨x, by omega⟩)) ⟨(l.val + 248) % 256, by omega⟩
  simp only at h0 h1 h2
  rw [h0, h1, h2, select_bit, hw, hw, hw, hc, hs]
  simp only [mean32_eq]
  unfold turned
  rw [rope_eq]
  rfl

/-- The normalized and turned keys, from the projection's lanes, the two tables and the tiled weight. -/
theorem pay19_apply (p : FVec Ideal S256x768 .f32) (c s : FVec Ideal S256x256 .f32) (w : FVec Ideal S1x256 .f32) (w' : Fin 32 → EReal)
    (q l : Fin 256) (n : ℕ) (hw : ∀ l : Fin 256, w (ix2 0 l) = w' ⟨l.val % 32, by omega⟩) (hc : c (ix2 q l) = cosAt n l) (hs : s (ix2 q l) = sinAt n l) :
    k0_pay19 p c s w (k0_pay15 (F := Ideal) k0_pay14) k0_pay16 8#32 (ix2 q l)
      = turned (fun x => p (ix2 q ⟨256 + x, by omega⟩)) w' n l := by
  pointwise [k0_pay19]
  simp only [pay15_apply, pay16_apply, show l.val + 256 - 248 = l.val + 8 by omega, show l.val + 256 - 8 = l.val + 248 by omega]
  have h0 := sum_head (fun x => p (ix2 q ⟨256 + x, by omega⟩) * p (ix2 q ⟨256 + x, by omega⟩)) l
  have h1 := sum_head (fun x => p (ix2 q ⟨256 + x, by omega⟩) * p (ix2 q ⟨256 + x, by omega⟩)) ⟨(l.val + 8) % 256, by omega⟩
  have h2 := sum_head (fun x => p (ix2 q ⟨256 + x, by omega⟩) * p (ix2 q ⟨256 + x, by omega⟩)) ⟨(l.val + 248) % 256, by omega⟩
  simp only at h0 h1 h2
  rw [h0, h1, h2, select_bit, hw, hw, hw, hc, hs]
  simp only [mean32_eq]
  unfold turned
  rw [rope_eq]
  rfl

/-- The bit that says whether two small numbers are equal, as a word. -/
theorem eq_word (a b : ℕ) (ha : a < 512) (hb : b < 512) :
    BitVec.setWidth 32 (IntOp.cmpi CmpIPredicate.eq (BitVec.ofNat 32 a) (BitVec.ofNat 32 b)) = if a = b then 1#32 else 0#32 := by
  by_cases h : a = b
  · subst h
    rw [if_pos rfl]
    simp [IntOp.cmpi]
  · rw [if_neg h]
    have hne : BitVec.ofNat 32 a ≠ BitVec.ofNat 32 b := by
      intro e
      have := congrArg BitVec.toNat e
      simp only [BitVec.toNat_ofNat] at this
      omega
    simp only [IntOp.cmpi, beq_eq_false_iff_ne.2 hne]
    rfl

/-- The values, put by a 0/1 matrix onto the rows that have a row of ones and rows of zeros after each head's. -/
theorem pay3_apply (p : FVec Ideal S256x768 .f32) (l : Fin 512) (q : Fin 256) :
    k0_pay3 (k0_pay22 p (iota .tc S512x256 32 [0] iota_S512x256_d0_w32) (iota .tc S512x256 32 [1] iota_S512x256_d1_w32) 64#32 k0_pay20 k0_pay21) (ix3 0 l q)
      = valueRow (fun x => p (ix2 q ⟨512 + x, by omega⟩)) l := by
  have hrow : ∀ l : Fin 512, IntOp.cmpi CmpIPredicate.eq (Scalar.select
          (IntOp.andi
            (IntOp.xori (IntOp.cmpi CmpIPredicate.slt (IntOp.remsi ArithUnit.vector (BitVec.ofNat 32 l.val) (Scalar.select (Scalar.cmpi CmpIPredicate.eq 128#32 0#32) 1#32 128#32)) 0#32) (Scalar.cmpi CmpIPredicate.slt (Scalar.select (Scalar.cmpi CmpIPredicate.eq 128#32 0#32) 1#32 128#32) 0#32))
            (IntOp.cmpi CmpIPredicate.ne (IntOp.remsi ArithUnit.vector (BitVec.ofNat 32 l.val) (Scalar.select (Scalar.cmpi CmpIPredicate.eq 128#32 0#32) 1#32 128#32)) 0#32))
          (IntOp.addi (IntOp.remsi ArithUnit.vector (BitVec.ofNat 32 l.val) (Scalar.select (Scalar.cmpi CmpIPredicate.eq 128#32 0#32) 1#32 128#32)) (Scalar.select (Scalar.cmpi CmpIPredicate.eq 128#32 0#32) 1#32 128#32))
          (IntOp.remsi ArithUnit.vector (BitVec.ofNat 32 l.val) (Scalar.select (Scalar.cmpi CmpIPredicate.eq 128#32 0#32) 1#32 128#32))) 64#32 = if l.val % 128 = 64 then 1#1 else 0#1 := by
    decide +kernel
  have hcol : ∀ x : Fin 256, IntOp.addi (IntOp.muli (Scalar.select
            (IntOp.andi
              (IntOp.cmpi CmpIPredicate.ne
                (IntOp.subi (BitVec.setWidth 32 (IntOp.cmpi CmpIPredicate.sgt (BitVec.ofNat 32 x.val) 0#32))
                  (BitVec.setWidth 32 (IntOp.cmpi CmpIPredicate.slt (BitVec.ofNat 32 x.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 x.val) 64#32) 0#32))
            (IntOp.subi (IntOp.divsi ArithUnit.vector (BitVec.ofNat 32 x.val) 64#32) 1#32)
            (IntOp.divsi ArithUnit.vector (BitVec.ofNat 32 x.val) 64#32)) 128#32) (Scalar.select
          (IntOp.andi
            (IntOp.xori (IntOp.cmpi CmpIPredicate.slt (IntOp.remsi ArithUnit.vector (BitVec.ofNat 32 x.val) (Scalar.select (Scalar.cmpi CmpIPredicate.eq 64#32 0#32) 1#32 64#32)) 0#32) (Scalar.cmpi CmpIPredicate.slt (Scalar.select (Scalar.cmpi CmpIPredicate.eq 64#32 0#32) 1#32 64#32) 0#32))
            (IntOp.cmpi CmpIPredicate.ne (IntOp.remsi ArithUnit.vector (BitVec.ofNat 32 x.val) (Scalar.select (Scalar.cmpi CmpIPredicate.eq 64#32 0#32) 1#32 64#32)) 0#32))
          (IntOp.addi (IntOp.remsi ArithUnit.vector (BitVec.ofNat 32 x.val) (Scalar.select (Scalar.cmpi CmpIPredicate.eq 64#32 0#32) 1#32 64#32)) (Scalar.select (Scalar.cmpi CmpIPredicate.eq 64#32 0#32) 1#32 64#32))
          (IntOp.remsi ArithUnit.vector (BitVec.ofNat 32 x.val) (Scalar.select (Scalar.cmpi CmpIPredicate.eq 64#32 0#32) 1#32 64#32)))
      = BitVec.ofNat 32 (x.val / 64 * 128 + x.val % 64) := by
    decide +kernel
  pointwise [k0_pay3, k0_pay22, k0_pay20, k0_pay21]
  simp only [hrow, hcol]
  rw [select_bit]
  have hw : ∀ x : Fin 256, FloatOps.sitofp (F := Ideal) FTy.f32 (BitVec.setWidth 32 (IntOp.cmpi CmpIPredicate.eq (BitVec.ofNat 32 l.val) (BitVec.ofNat 32 (x.val / 64 * 128 + x.val % 64))))
      = if l.val = x.val / 64 * 128 + x.val % 64 then (1 : EReal) else 0 := by
    intro x
    rw [eq_word _ _ l.isLt (by omega)]
    by_cases h : l.val = x.val / 64 * 128 + x.val % 64
    · rw [if_pos h, if_pos h, one_word]
    · rw [if_neg h, if_neg h, zero_word]
  unfold valueRow
  by_cases h1 : l.val % 128 = 64
  · rw [if_pos h1, dif_neg (by omega), if_pos h1]
  · rw [if_neg h1]
    by_cases h2 : l.val % 128 < 64
    · rw [dif_pos h2]
      refine (Finset.sum_eq_single (⟨l.val / 128 * 64 + l.val % 128, by omega⟩ : Fin 256) (fun x _ hx => ?_) (fun h => absurd (Finset.mem_univ _) h)).trans ?_
      · rw [hw, if_neg (fun e => hx (Fin.ext (by simp only; omega))), zero_mul]
      · rw [hw, if_pos (by simp only; omega), one_mul]
    · rw [dif_neg h2, if_neg h1]
      refine Finset.sum_eq_zero fun x _ => ?_
      rw [hw, if_neg (by omega), zero_mul]

variable (x0 : Vec Ideal S1x256x1024 .f32) (x1 : Vec Ideal S1x8x1024 .f32) (x2 : Vec Ideal S1x1024 .f32) (x3 : Vec Ideal S1024x3968 .bf16) (x4 x5 : Vec Ideal S256x256 .f32) (x6 x7 : Vec Ideal S1x256 .f32)

/-- The projection's block over the loaded windows. -/
theorem pay23_eq : k0_pay23 x0 x1 x2 x3 x4 x5 x6 x7 = k0_pay4 x0 x2 x1 x3 := by
  have hz3 : (![0, 0, 0] : Fin 3 → ℕ) = fun _ => 0 := by decide
  have hz2 : (![0, 0] : Fin 2 → ℕ) = fun _ => 0 := by decide
  unfold k0_pay23
  rw [show View.ld x0 r0_0 = x0 from View.ld_unit_zero hz3 _ _, show View.ld x1 r0_2 = x1 from View.ld_unit_zero hz3 _ _, show View.ld x2 r0_1 = x2 from View.ld_unit_zero hz2 _ _, show View.ld x3 r0_3 = x3 from View.ld_unit_zero hz2 _ _]

/-- The lanes of the queries, keys and values in the projection. -/
theorem pay24_apply (q : Fin 256) (l : Fin 768) :
    k0_pay24 x0 x1 x2 x3 x4 x5 x6 x7 (ix2 q l) = k0_pay4 x0 x2 x1 x3 (ix2 q ⟨3200 + l, by omega⟩) := by
  unfold k0_pay24
  rw [pay23_eq]
  pointwise [k0_pay9]

/-- The cosine table's block. -/
theorem pay25_apply (q l : Fin 256) : k0_pay25 x0 x1 x2 x3 x4 x5 x6 x7 (ix2 q l) = x4 (ix2 q l) := by
  have hz3 : (![0, 0, 0] : Fin 3 → ℕ) = fun _ => 0 := by decide
  have hz2 : (![0, 0] : Fin 2 → ℕ) = fun _ => 0 := by decide
  unfold k0_pay25
  rw [show View.ld x4 r0_7 = x4 from View.ld_unit_zero hz2 _ _]
  pointwise [k0_pay10]

/-- The sine table's block. -/
theorem pay26_apply (q l : Fin 256) : k0_pay26 x0 x1 x2 x3 x4 x5 x6 x7 (ix2 q l) = x5 (ix2 q l) := by
  have hz3 : (![0, 0, 0] : Fin 3 → ℕ) = fun _ => 0 := by decide
  have hz2 : (![0, 0] : Fin 2 → ℕ) = fun _ => 0 := by decide
  unfold k0_pay26
  rw [show View.ld x5 r0_7 = x5 from View.ld_unit_zero hz2 _ _]
  pointwise [k0_pay11]

/-- What a grid point stores of the first result. -/
theorem out8_apply (q : Fin 256) (l : Fin 1152) :
    out0_8 x0 x1 x2 x3 x4 x5 x6 x7 (ix3 0 q l) = k0_pay4 x0 x2 x1 x3 (ix2 q ⟨l, by omega⟩) := by
  have hz3 : (![0, 0, 0] : Fin 3 → ℕ) = fun _ => 0 := by decide
  have hz2 : (![0, 0] : Fin 2 → ℕ) = fun _ => 0 := by decide
  unfold out0_8
  rw [View.canon_unit_zero hz3, show View.ld x0 r0_0 = x0 from View.ld_unit_zero hz3 _ _, show View.ld x1 r0_2 = x1 from View.ld_unit_zero hz3 _ _, show View.ld x2 r0_1 = x2 from View.ld_unit_zero hz2 _ _, show View.ld x3 r0_3 = x3 from View.ld_unit_zero hz2 _ _]
  generalize hp : k0_pay4 x0 x2 x1 x3 = p
  unfold k0_pay5
  rw [hp]
  pointwise

/-- What a grid point stores of the second result. -/
theorem out9_apply (q : Fin 256) (l : Fin 768) :
    out0_9 x0 x1 x2 x3 x4 x5 x6 x7 (ix3 0 q l) = k0_pay4 x0 x2 x1 x3 (ix2 q ⟨1152 + l, by omega⟩) := by
  have hz3 : (![0, 0, 0] : Fin 3 → ℕ) = fun _ => 0 := by decide
  have hz2 : (![0, 0] : Fin 2 → ℕ) = fun _ => 0 := by decide
  unfold out0_9
  rw [View.canon_unit_zero hz3, show View.ld x0 r0_0 = x0 from View.ld_unit_zero hz3 _ _, show View.ld x1 r0_2 = x1 from View.ld_unit_zero hz3 _ _, show View.ld x2 r0_1 = x2 from View.ld_unit_zero hz2 _ _, show View.ld x3 r0_3 = x3 from View.ld_unit_zero hz2 _ _]
  generalize hp : k0_pay4 x0 x2 x1 x3 = p
  unfold k0_pay7 k0_pay6
  rw [hp]
  pointwise

/-- What a grid point stores of the third result. -/
theorem out10_apply (q : Fin 256) (l : Fin 1280) :
    out0_10 x0 x1 x2 x3 x4 x5 x6 x7 (ix3 0 q l) = k0_pay4 x0 x2 x1 x3 (ix2 q ⟨1920 + l, by omega⟩) := by
  have hz3 : (![0, 0, 0] : Fin 3 → ℕ) = fun _ => 0 := by decide
  have hz2 : (![0, 0] : Fin 2 → ℕ) = fun _ => 0 := by decide
  unfold out0_10
  rw [View.canon_unit_zero hz3, pay23_eq]
  pointwise [k0_pay8]

/-- What a grid point stores of the queries. -/
theorem out11_apply (w' : Fin 32 → EReal) (q l : Fin 256) (n : ℕ) (hw : ∀ l : Fin 256, x6 (ix2 0 l) = w' ⟨l.val % 32, by omega⟩)
    (hc : x4 (ix2 q l) = cosAt n l) (hs : x5 (ix2 q l) = sinAt n l) :
    out0_11 x0 x1 x2 x3 x4 x5 x6 x7 (ix3 0 q l)
      = turned (fun x => k0_pay4 x0 x2 x1 x3 (ix2 q ⟨3200 + x, by omega⟩)) w' n l * Ideal.ofBits .f32 0x3E3504F3#32 := by
  have hz3 : (![0, 0, 0] : Fin 3 → ℕ) = fun _ => 0 := by decide
  have hz2 : (![0, 0] : Fin 2 → ℕ) = fun _ => 0 := by decide
  unfold out0_11
  rw [View.canon_unit_zero hz3, show View.ld x6 r0_8 = x6 from View.ld_unit_zero hz2 _ _]
  refine Eq.trans (b := k0_pay18 (k0_pay24 x0 x1 x2 x3 x4 x5 x6 x7) (k0_pay25 x0 x1 x2 x3 x4 x5 x6 x7) (k0_pay26 x0 x1 x2 x3 x4 x5 x6 x7) (k0_pay12 x6) (k0_pay15 (F := Ideal) k0_pay14) k0_pay16 8#32 (ix2 q l)) ?_ ?_
  · pointwise [k0_pay1]
    rfl
  · rw [pay18_apply _ _ _ _ w' q l n (fun l => by rw [← hw]; pointwise [k0_pay12]) ((pay25_apply ..).trans hc) ((pay26_apply ..).trans hs)]
    simp only [pay24_apply]

/-- What a grid point stores of the keys. -/
theorem out12_apply (w' : Fin 32 → EReal) (q l : Fin 256) (n : ℕ) (hw : ∀ l : Fin 256, x7 (ix2 0 l) = w' ⟨l.val % 32, by omega⟩)
    (hc : x4 (ix2 q l) = cosAt n l) (hs : x5 (ix2 q l) = sinAt n l) :
    out0_12 x0 x1 x2 x3 x4 x5 x6 x7 (ix3 0 q l)
      = turned (fun x => k0_pay4 x0 x2 x1 x3 (ix2 q ⟨3456 + x, by omega⟩)) w' n l := by
  have hz3 : (![0, 0, 0] : Fin 3 → ℕ) = fun _ => 0 := by decide
  have hz2 : (![0, 0] : Fin 2 → ℕ) = fun _ => 0 := by decide
  unfold out0_12
  rw [View.canon_unit_zero hz3, show View.ld x7 r0_8 = x7 from View.ld_unit_zero hz2 _ _]
  refine Eq.trans (b := k0_pay19 (k0_pay24 x0 x1 x2 x3 x4 x5 x6 x7) (k0_pay25 x0 x1 x2 x3 x4 x5 x6 x7) (k0_pay26 x0 x1 x2 x3 x4 x5 x6 x7) (k0_pay13 x7) (k0_pay15 (F := Ideal) k0_pay14) k0_pay16 8#32 (ix2 q l)) ?_ ?_
  · pointwise [k0_pay2]
    rfl
  · rw [pay19_apply _ _ _ _ w' q l n (fun l => by rw [← hw]; pointwise [k0_pay13]) ((pay25_apply ..).trans hc) ((pay26_apply ..).trans hs)]
    simp only [pay24_apply, ← Nat.add_assoc]

/-- What a grid point stores of the values. -/
theorem out13_apply (l : Fin 512) (q : Fin 256) :
    out0_13 x0 x1 x2 x3 x4 x5 x6 x7 (ix3 0 l q)
      = valueRow (fun x => k0_pay4 x0 x2 x1 x3 (ix2 q ⟨3712 + x, by omega⟩)) l := by
  have hz3 : (![0, 0, 0] : Fin 3 → ℕ) = fun _ => 0 := by decide
  have hz2 : (![0, 0] : Fin 2 → ℕ) = fun _ => 0 := by decide
  unfold out0_13
  rw [View.canon_unit_zero hz3, pay3_apply]
  simp only [pay24_apply, ← Nat.add_assoc]

end Cert.InProjIdeal.Block

end
-- ==== Proof.InTab.lean ====
/- The input projection call's prepared operands, read at an index from the argument arrays. -/
module

public import proofs.«01_k».proof.Proof.InRows
public import proofs.«01_k».proof.Proof.Gen.InProjIdeal.Value
public import Idealize.ShloMosaic.Lib.Pointwise
public import Idealize.ShloMosaic.Lib.StableHlo.ReadAt

@[expose] public section

set_option maxRecDepth 16384

noncomputable section

namespace Cert.InProjIdeal.Block

open Cert.InProjIdeal Cert.InProjIdeal.Gen Idealize.ShloMosaic Idealize.ShloMosaic.TcCoe Cert.Rows Idealize.SL.Sem

variable (m : (ℓ : Loc nD τ sig) → Buf (Elt Ideal) ℓ)

/-- The cosine table the call is handed. -/
theorem cosTab (c : Dev nD) (n : Fin 4352) (l : Fin 256) : V m c main_v37 (ix2 n l) = cosAt n l := by
  simp only [V, hostOps0, hostOps0_1, hostOps0_2, List.flatten_cons, List.flatten_nil, List.append_nil, List.cons_append, List.nil_append]
  after_reads_at
  after_reads_at
  unfold cosAt angle coordAngle freq
  by_cases h : n.val < 4096
  · simp only [dif_pos h, if_pos h]
    by_cases h1 : l.val % 32 < 8
    · rw [dif_pos h1, if_pos (by omega), show l.val % 32 % 8 = l.val % 32 by omega]
    · rw [dif_neg h1]
      by_cases h2 : l.val % 32 - 8 < 8
      · rw [dif_pos h2, if_pos (by omega), show l.val % 32 % 8 = l.val % 32 - 8 by omega]
      · rw [dif_neg h2, if_neg (by omega)]
        by_cases h3 : l.val % 32 - 8 - 8 < 8
        · rw [dif_pos h3, show l.val % 32 % 8 = l.val % 32 - 8 - 8 by omega]
        · rw [dif_neg h3, show l.val % 32 % 8 = l.val % 32 - 8 - 8 - 8 by omega]
  · rw [dif_neg h, if_neg h]

/-- The signed sine table the call is handed. -/
theorem sinTab (c : Dev nD) (n : Fin 4352) (l : Fin 256) : V m c main_v42 (ix2 n l) = sinAt n l := by
  simp only [V, hostOps0, hostOps0_1, hostOps0_2, List.flatten_cons, List.flatten_nil, List.append_nil, List.cons_append, List.nil_append]
  after_reads_at
  after_reads_at
  unfold sinAt angle coordAngle freq
  by_cases h : n.val < 4096
  · simp only [dif_pos h, if_pos h]
    by_cases h1 : l.val % 32 < 8
    · rw [dif_pos h1, if_pos (by omega), if_pos (by omega), show l.val % 32 % 8 = l.val % 32 by omega]
    · rw [dif_neg h1]
      by_cases h2 : l.val % 32 - 8 < 8
      · rw [dif_pos h2, if_neg (by omega), if_pos (by omega), show l.val % 32 % 8 = l.val % 32 - 8 by omega]
      · rw [dif_neg h2]
        by_cases h3 : l.val % 32 - 8 - 8 < 8
        · rw [dif_pos h3, if_pos (by omega), if_neg (by omega), show l.val % 32 % 8 = l.val % 32 - 8 - 8 by omega]
        · rw [dif_neg h3, if_neg (by omega), if_neg (by omega), show l.val % 32 % 8 = l.val % 32 - 8 - 8 - 8 by omega]
  · rw [dif_neg h, if_neg h]

/-- The weight the call is handed: 112 columns of zeros after the first 1040. -/
theorem wTab (c : Dev nD) (d : Fin 1024) (l : Fin 3968) :
    (V m c main_v47 (ix2 d l) : EReal) = if h : l.val < 1040 then ((m ((c.tc : Thread nD τ).loc main_arg3)) (ix2 d ⟨l, by omega⟩) : EReal)
      else if h2 : l.val < 1152 then (0 : EReal) else ((m ((c.tc : Thread nD τ).loc main_arg3)) (ix2 d ⟨l.val - 112, by omega⟩) : EReal) := by
  simp only [V, hostOps0, hostOps0_1, hostOps0_2, List.flatten_cons, List.flatten_nil, List.append_nil, List.cons_append, List.nil_append]
  after_reads_at
  after_reads_at
  by_cases h : l.val < 1040
  · rw [dif_pos h, dif_pos h]
  · rw [dif_neg h, dif_neg h]
    by_cases h2 : l.val < 1152
    · rw [dif_pos (by omega), dif_pos h2]
    · rw [dif_neg (by omega), dif_neg h2]
      simp only [show 1040 + (l.val - 1040 - 112) = l.val - 112 by omega]

/-- The tiled query weight. -/
theorem qTab (c : Dev nD) (l : Fin 256) :
    V m c main_v51 (ix2 0 l) = (m ((c.tc : Thread nD τ).loc main_arg4)) (ix1 ⟨l.val % 32, by omega⟩) := by
  simp only [V, hostOps0, hostOps0_1, hostOps0_2, List.flatten_cons, List.flatten_nil, List.append_nil, List.cons_append, List.nil_append]
  after_reads_at

/-- The tiled key weight. -/
theorem kTab (c : Dev nD) (l : Fin 256) :
    V m c main_v55 (ix2 0 l) = (m ((c.tc : Thread nD τ).loc main_arg5)) (ix1 ⟨l.val % 32, by omega⟩) := by
  simp only [V, hostOps0, hostOps0_1, hostOps0_2, List.flatten_cons, List.flatten_nil, List.append_nil, List.cons_append, List.nil_append]
  after_reads_at

end Cert.InProjIdeal.Block

end
-- ==== Proof.InValue.lean ====
/- The input projection call's result arrays after the run, read at an index from the argument arrays. -/
module

public import proofs.«01_k».proof.Proof.InBlock
public import proofs.«01_k».proof.Proof.InTab
public import Idealize.ShloMosaic.Lib.Pipeline.ValueKit

@[expose] public section

set_option maxRecDepth 16384

noncomputable section

namespace Cert.InProjIdeal.Block

open Cert.InProjIdeal Cert.InProjIdeal.Gen Idealize.ShloMosaic Idealize.ShloMosaic.TcCoe Cert.Rows Idealize.SL.Sem
open Idealize.ShloMosaic.Pipeline (Dat)

variable (m : (ℓ : Loc nD τ sig) → Buf (Elt Ideal) ℓ)

/-- The block indices of the operands' windows at a grid point. -/
theorem idx : ∀ t : Fin grid0.N, win0_0.index t = ![(grid0.coords t 0).val, (grid0.coords t 1).val, 0] ∧ win0_1.index t = ![if (grid0.coords t 1).val = 16 then 8 else (grid0.coords t 0).val, 0, 0]
    ∧ win0_2.index t = ![0, 0] ∧ win0_3.index t = ![0, 0] ∧ win0_4.index t = ![(grid0.coords t 1).val, 0] ∧ win0_5.index t = ![(grid0.coords t 1).val, 0]
    ∧ win0_6.index t = ![0, 0] ∧ win0_7.index t = ![0, 0] := by decide +kernel

/-- The block indices of the results' windows at a grid point. -/
theorem idxOut : ∀ t : Fin grid0.N, win0_8.index t = ![(grid0.coords t 0).val, (grid0.coords t 1).val, 0] ∧ win0_9.index t = ![(grid0.coords t 0).val, (grid0.coords t 1).val, 0]
    ∧ win0_10.index t = ![(grid0.coords t 0).val, (grid0.coords t 1).val, 0] ∧ win0_11.index t = ![(grid0.coords t 0).val, (grid0.coords t 1).val, 0]
    ∧ win0_12.index t = ![(grid0.coords t 0).val, (grid0.coords t 1).val, 0] ∧ win0_13.index t = ![(grid0.coords t 0).val, 0, (grid0.coords t 1).val] := by decide +kernel

/-- The block of window 0 at a grid point: 256 tokens of a batch. -/
theorem blk0 (c : Dev nD) (t : Fin cfg0.N) (b : Fin 8) (n : Fin 4352) (q : Fin 256) (l : Fin 1024) (hb : b.val = (grid0.coords t 0).val)
    (hn : n.val = (grid0.coords t 1).val * 256 + q.val) :
    iblk m c 0 t (ix3 0 q l) = (m ((c.tc : Thread nD τ).loc main_arg0)) (ix3 b n l) := by
  blk_ext [iblk, V, idx t]

/-- The modulation table's block at a grid point: the batch's rows, the last rows at the context tokens' point. -/
theorem blk1 (c : Dev nD) (t : Fin cfg0.N) (b : Fin 8) (n : Fin 4352) (q : Fin 256) (r : Fin 6) (d : Fin 1024)
    (hb : b.val = (grid0.coords t 0).val)
    (hn : n.val = (grid0.coords t 1).val * 256 + q.val) :
    iblk m c 1 t (ix3 0 ⟨r, by omega⟩ d) = (m ((c.tc : Thread nD τ).loc main_arg1)) (ix3 (modRow b n) r d) := by
  have hr : (modRow b n).val = if (grid0.coords t 1).val = 16 then 8 else (grid0.coords t 0).val := by
    have h1 : (grid0.coords t 1).val < 17 := (grid0.coords t 1).isLt
    unfold modRow
    by_cases h : (grid0.coords t 1).val = 16
    · rw [if_pos h, if_neg (by omega)]; rfl
    · rw [if_neg h, if_pos (by omega)]; exact hb
  have h : iblk m c 1 t (ix3 0 ⟨r, by omega⟩ d) = V m c main_v56 (ix3 (modRow b n) ⟨r, by omega⟩ d) := by
    generalize modRow b n = z at hr ⊢
    blk_ext [iblk, idx t]
  rw [h]
  simp only [V, hostOps0, hostOps0_1, hostOps0_2, List.flatten_cons, List.flatten_nil, List.append_nil, List.cons_append, List.nil_append]
  after_reads_at

/-- The norm weight's block is the weight as one row. -/
theorem blk2 (c : Dev nD) (t : Fin cfg0.N) (l : Fin 1024) :
    iblk m c 2 t (ix2 0 l) = (m ((c.tc : Thread nD τ).loc main_arg2)) (ix1 l) := by
  have h : iblk m c 2 t (ix2 0 l) = V m c main_v57 (ix2 0 l) := by
    blk_ext [iblk, idx t]
  rw [h]
  simp only [V, hostOps0, hostOps0_1, hostOps0_2, List.flatten_cons, List.flatten_nil, List.append_nil, List.cons_append, List.nil_append]
  after_reads_at

/-- The weight's block is the whole padded weight. -/
theorem blk3 (c : Dev nD) (t : Fin cfg0.N) (d : Fin 1024) (l : Fin 3968) :
    (iblk m c 3 t (ix2 d l) : EReal) = if h : l.val < 1040 then ((m ((c.tc : Thread nD τ).loc main_arg3)) (ix2 d ⟨l, by omega⟩) : EReal)
      else if h2 : l.val < 1152 then (0 : EReal) else ((m ((c.tc : Thread nD τ).loc main_arg3)) (ix2 d ⟨l.val - 112, by omega⟩) : EReal) := by
  have h : iblk m c 3 t (ix2 d l) = V m c main_v47 (ix2 d l) := by
    blk_ext [iblk, idx t]
  exact h.trans (wTab m c d l)

/-- The cosine table's block. -/
theorem blk4 (c : Dev nD) (t : Fin cfg0.N) (n : Fin 4352) (q l : Fin 256) (hn : n.val = (grid0.coords t 1).val * 256 + q.val) :
    iblk m c 4 t (ix2 q l) = cosAt n l := by
  have h : iblk m c 4 t (ix2 q l) = V m c main_v37 (ix2 n l) := by
    blk_ext [iblk, idx t]
  exact h.trans (cosTab m c n l)

/-- The sine table's block. -/
theorem blk5 (c : Dev nD) (t : Fin cfg0.N) (n : Fin 4352) (q l : Fin 256) (hn : n.val = (grid0.coords t 1).val * 256 + q.val) :
    iblk m c 5 t (ix2 q l) = sinAt n l := by
  have h : iblk m c 5 t (ix2 q l) = V m c main_v42 (ix2 n l) := by
    blk_ext [iblk, idx t]
  exact h.trans (sinTab m c n l)

/-- The tiled query weight's block. -/
theorem blk6 (c : Dev nD) (t : Fin cfg0.N) (l : Fin 256) :
    iblk m c 6 t (ix2 0 l) = (m ((c.tc : Thread nD τ).loc main_arg4)) (ix1 ⟨l.val % 32, by omega⟩) := by
  have h : iblk m c 6 t (ix2 0 l) = V m c main_v51 (ix2 0 l) := by
    blk_ext [iblk, idx t]
  exact h.trans (qTab m c l)

/-- The tiled key weight's block. -/
theorem blk7 (c : Dev nD) (t : Fin cfg0.N) (l : Fin 256) :
    iblk m c 7 t (ix2 0 l) = (m ((c.tc : Thread nD τ).loc main_arg5)) (ix1 ⟨l.val % 32, by omega⟩) := by
  have h : iblk m c 7 t (ix2 0 l) = V m c main_v55 (ix2 0 l) := by
    blk_ext [iblk, idx t]
  exact h.trans (kTab m c l)

/-- The projection's block at a grid point, read at a column of the padded weight. -/
theorem proj_blk (c : Dev nD) (t : Fin cfg0.N) (b : Fin 8) (n : Fin 4352) (q : Fin 256) (l : Fin 3968)
    (hb : b.val = (grid0.coords t 0).val)
    (hn : n.val = (grid0.coords t 1).val * 256 + q.val) :
    k0_pay4 (F := Ideal) (iblk m c 0 t) (iblk m c 2 t) (iblk m c 1 t) (iblk m c 3 t) (ix2 q l)
      = if h : l.val < 1040 then proj (m ((c.tc : Thread nD τ).loc main_arg0)) (m ((c.tc : Thread nD τ).loc main_arg1)) (m ((c.tc : Thread nD τ).loc main_arg2)) (m ((c.tc : Thread nD τ).loc main_arg3)) b n ⟨l, by omega⟩
        else if h2 : l.val < 1152 then 0 else proj (m ((c.tc : Thread nD τ).loc main_arg0)) (m ((c.tc : Thread nD τ).loc main_arg1)) (m ((c.tc : Thread nD τ).loc main_arg2)) (m ((c.tc : Thread nD τ).loc main_arg3)) b n ⟨l.val - 112, by omega⟩ := by
  rw [pay4_apply]
  have h0 := fun d => blk0 m c t b n q d hb hn
  have h3 := fun d => blk1 m c t b n q 0 d hb hn
  have h4 := fun d => blk1 m c t b n q 1 d hb hn
  have h2 := fun d => blk2 m c t d
  have hw := fun d => blk3 m c t d l
  unfold proj
  rw [← funext h0, ← funext h3, ← funext h4, ← funext h2]
  by_cases h : l.val < 1040
  · rw [dif_pos h]
    simp only [dif_pos h] at hw
    exact Finset.sum_congr rfl fun d _ => by rw [hw d]; rfl
  · rw [dif_neg h]
    simp only [dif_neg h] at hw
    by_cases h2 : l.val < 1152
    · rw [dif_pos h2]
      simp only [dif_pos h2] at hw
      exact Finset.sum_eq_zero fun d _ => by rw [hw d, mul_zero]
    · rw [dif_neg h2]
      simp only [dif_neg h2] at hw
      exact Finset.sum_congr rfl fun d _ => by rw [hw d]; rfl

/-- Where result 1's block lies in the result. -/
theorem emb8 (t : Fin cfg0.N) (b : Fin 8) (n : Fin 4352) (q : Fin 256) (l : Fin 1152) (hb : b.val = (grid0.coords t 0).val)
    (hn : n.val = (grid0.coords t 1).val * 256 + q.val) :
    ((cfg0.win 8).blk t).view.emb (ix3 0 q l) = (ix3 b n l : S8x4352x1152.Idx) := by
  blk_ext [idxOut t]

/-- Where result 2's block lies in the result. -/
theorem emb9 (t : Fin cfg0.N) (b : Fin 8) (n : Fin 4352) (q : Fin 256) (l : Fin 768) (hb : b.val = (grid0.coords t 0).val)
    (hn : n.val = (grid0.coords t 1).val * 256 + q.val) :
    ((cfg0.win 9).blk t).view.emb (ix3 0 q l) = (ix3 b n l : S8x4352x768.Idx) := by
  blk_ext [idxOut t]

/-- Where result 3's block lies in the result. -/
theorem emb10 (t : Fin cfg0.N) (b : Fin 8) (n : Fin 4352) (q : Fin 256) (l : Fin 1280) (hb : b.val = (grid0.coords t 0).val)
    (hn : n.val = (grid0.coords t 1).val * 256 + q.val) :
    ((cfg0.win 10).blk t).view.emb (ix3 0 q l) = (ix3 b n l : S8x4352x1280.Idx) := by
  blk_ext [idxOut t]

/-- Where result 4's block lies in the result. -/
theorem emb11 (t : Fin cfg0.N) (b : Fin 8) (n : Fin 4352) (q : Fin 256) (l : Fin 256) (hb : b.val = (grid0.coords t 0).val)
    (hn : n.val = (grid0.coords t 1).val * 256 + q.val) :
    ((cfg0.win 11).blk t).view.emb (ix3 0 q l) = (ix3 b n l : S8x4352x256.Idx) := by
  blk_ext [idxOut t]

/-- Where result 5's block lies in the result. -/
theorem emb12 (t : Fin cfg0.N) (b : Fin 8) (n : Fin 4352) (q : Fin 256) (l : Fin 256) (hb : b.val = (grid0.coords t 0).val)
    (hn : n.val = (grid0.coords t 1).val * 256 + q.val) :
    ((cfg0.win 12).blk t).view.emb (ix3 0 q l) = (ix3 b n l : S8x4352x256.Idx) := by
  blk_ext [idxOut t]

/-- Where the values' block lies in the values. -/
theorem emb13 (t : Fin cfg0.N) (b : Fin 8) (n : Fin 4352) (q : Fin 256) (l : Fin 512) (hb : b.val = (grid0.coords t 0).val)
    (hn : n.val = (grid0.coords t 1).val * 256 + q.val) :
    ((cfg0.win 13).blk t).view.emb (ix3 0 l q) = (ix3 b l n : S8x512x4352.Idx) := by
  blk_ext [idxOut t]

/-- The first result array after the run. -/
theorem final8 (c : Dev nD) :
    (dats m 0 c).arrAt 8 cfg0.N = fun i : S8x4352x1152.Idx => projPad (m ((c.tc : Thread nD τ).loc main_arg0)) (m ((c.tc : Thread nD τ).loc main_arg1)) (m ((c.tc : Thread nD τ).loc main_arg2)) (m ((c.tc : Thread nD τ).loc main_arg3)) (i 0) (i 1) (i 2) := by
  refine (dats m 0 c).arrAt_eq_of_covers 8 _ (by decide +kernel) fun t hf y => ?_
  obtain ⟨q, l, rfl⟩ : ∃ (q : Fin 256) (l : Fin 1152), y = ix3 0 q l := ⟨y 1, y 2, by blk_ext⟩
  have h0 : (grid0.coords t 0).val < 8 := (grid0.coords t 0).isLt
  have h1 : (grid0.coords t 1).val < 17 := (grid0.coords t 1).isLt
  obtain ⟨b, hb⟩ : ∃ b : Fin 8, b.val = (grid0.coords t 0).val := ⟨⟨_, h0⟩, rfl⟩
  obtain ⟨n, hn⟩ : ∃ n : Fin 4352, n.val = (grid0.coords t 1).val * 256 + q.val := ⟨⟨(grid0.coords t 1).val * 256 + q.val, by omega⟩, rfl⟩
  rw [emb8 t b n q l hb hn]
  blk_simp
  show _ = projPad (m ((c.tc : Thread nD τ).loc main_arg0)) (m ((c.tc : Thread nD τ).loc main_arg1)) (m ((c.tc : Thread nD τ).loc main_arg2)) (m ((c.tc : Thread nD τ).loc main_arg3)) b n l
  rw [after0_8, out8_apply, proj_blk m c t b n q _ hb hn]
  unfold projPad
  by_cases h : l.val < 1040
  · rw [dif_pos h, dif_pos h]
  · rw [dif_neg h, dif_neg h, dif_pos l.isLt]

/-- The second result array after the run. -/
theorem final9 (c : Dev nD) :
    (dats m 0 c).arrAt 9 cfg0.N = fun i : S8x4352x768.Idx => proj (m ((c.tc : Thread nD τ).loc main_arg0)) (m ((c.tc : Thread nD τ).loc main_arg1)) (m ((c.tc : Thread nD τ).loc main_arg2)) (m ((c.tc : Thread nD τ).loc main_arg3)) (i 0) (i 1) ⟨1040 + (i 2).val, by have : (i 2).val < 768 := (i 2).isLt; omega⟩ := by
  refine (dats m 0 c).arrAt_eq_of_covers 9 _ (by decide +kernel) fun t hf y => ?_
  obtain ⟨q, l, rfl⟩ : ∃ (q : Fin 256) (l : Fin 768), y = ix3 0 q l := ⟨y 1, y 2, by blk_ext⟩
  have h0 : (grid0.coords t 0).val < 8 := (grid0.coords t 0).isLt
  have h1 : (grid0.coords t 1).val < 17 := (grid0.coords t 1).isLt
  obtain ⟨b, hb⟩ : ∃ b : Fin 8, b.val = (grid0.coords t 0).val := ⟨⟨_, h0⟩, rfl⟩
  obtain ⟨n, hn⟩ : ∃ n : Fin 4352, n.val = (grid0.coords t 1).val * 256 + q.val := ⟨⟨(grid0.coords t 1).val * 256 + q.val, by omega⟩, rfl⟩
  rw [emb9 t b n q l hb hn]
  blk_simp
  show _ = proj (m ((c.tc : Thread nD τ).loc main_arg0)) (m ((c.tc : Thread nD τ).loc main_arg1)) (m ((c.tc : Thread nD τ).loc main_arg2)) (m ((c.tc : Thread nD τ).loc main_arg3)) b n ⟨1040 + l.val, by omega⟩
  rw [after0_9, out9_apply, proj_blk m c t b n q _ hb hn, dif_neg (by simp only; omega), dif_neg (by simp only; omega)]
  exact congrArg _ (Fin.ext (by simp only; omega))

/-- The third result array after the run. -/
theorem final10 (c : Dev nD) :
    (dats m 0 c).arrAt 10 cfg0.N = fun i : S8x4352x1280.Idx => proj (m ((c.tc : Thread nD τ).loc main_arg0)) (m ((c.tc : Thread nD τ).loc main_arg1)) (m ((c.tc : Thread nD τ).loc main_arg2)) (m ((c.tc : Thread nD τ).loc main_arg3)) (i 0) (i 1) ⟨1808 + (i 2).val, by have : (i 2).val < 1280 := (i 2).isLt; omega⟩ := by
  refine (dats m 0 c).arrAt_eq_of_covers 10 _ (by decide +kernel) fun t hf y => ?_
  obtain ⟨q, l, rfl⟩ : ∃ (q : Fin 256) (l : Fin 1280), y = ix3 0 q l := ⟨y 1, y 2, by blk_ext⟩
  have h0 : (grid0.coords t 0).val < 8 := (grid0.coords t 0).isLt
  have h1 : (grid0.coords t 1).val < 17 := (grid0.coords t 1).isLt
  obtain ⟨b, hb⟩ : ∃ b : Fin 8, b.val = (grid0.coords t 0).val := ⟨⟨_, h0⟩, rfl⟩
  obtain ⟨n, hn⟩ : ∃ n : Fin 4352, n.val = (grid0.coords t 1).val * 256 + q.val := ⟨⟨(grid0.coords t 1).val * 256 + q.val, by omega⟩, rfl⟩
  rw [emb10 t b n q l hb hn]
  blk_simp
  show _ = proj (m ((c.tc : Thread nD τ).loc main_arg0)) (m ((c.tc : Thread nD τ).loc main_arg1)) (m ((c.tc : Thread nD τ).loc main_arg2)) (m ((c.tc : Thread nD τ).loc main_arg3)) b n ⟨1808 + l.val, by omega⟩
  rw [after0_10, out10_apply, proj_blk m c t b n q _ hb hn, dif_neg (by simp only; omega), dif_neg (by simp only; omega)]
  exact congrArg _ (Fin.ext (by simp only; omega))

/-- The queries' array after the run. -/
theorem final11 (c : Dev nD) :
    (dats m 0 c).arrAt 11 cfg0.N = fun i : S8x4352x256.Idx => turned (fun x : Fin 256 => proj (m ((c.tc : Thread nD τ).loc main_arg0)) (m ((c.tc : Thread nD τ).loc main_arg1)) (m ((c.tc : Thread nD τ).loc main_arg2)) (m ((c.tc : Thread nD τ).loc main_arg3)) (i 0) (i 1) ⟨3088 + x.val, by omega⟩) (fun e : Fin 32 => (m ((c.tc : Thread nD τ).loc main_arg4)) (ix1 e)) (i 1).val (i 2) * Ideal.ofBits .f32 0x3E3504F3#32 := by
  refine (dats m 0 c).arrAt_eq_of_covers 11 _ (by decide +kernel) fun t hf y => ?_
  obtain ⟨q, l, rfl⟩ : ∃ (q : Fin 256) (l : Fin 256), y = ix3 0 q l := ⟨y 1, y 2, by blk_ext⟩
  have h0 : (grid0.coords t 0).val < 8 := (grid0.coords t 0).isLt
  have h1 : (grid0.coords t 1).val < 17 := (grid0.coords t 1).isLt
  obtain ⟨b, hb⟩ : ∃ b : Fin 8, b.val = (grid0.coords t 0).val := ⟨⟨_, h0⟩, rfl⟩
  obtain ⟨n, hn⟩ : ∃ n : Fin 4352, n.val = (grid0.coords t 1).val * 256 + q.val := ⟨⟨(grid0.coords t 1).val * 256 + q.val, by omega⟩, rfl⟩
  rw [emb11 t b n q l hb hn]
  blk_simp
  show _ = turned (fun x : Fin 256 => proj (m ((c.tc : Thread nD τ).loc main_arg0)) (m ((c.tc : Thread nD τ).loc main_arg1)) (m ((c.tc : Thread nD τ).loc main_arg2)) (m ((c.tc : Thread nD τ).loc main_arg3)) b n ⟨3088 + x.val, by omega⟩) (fun e : Fin 32 => (m ((c.tc : Thread nD τ).loc main_arg4)) (ix1 e)) n l * Ideal.ofBits .f32 0x3E3504F3#32
  have hp : (fun x : Fin 256 => k0_pay4 (F := Ideal) (iblk m c 0 t) (iblk m c 2 t) (iblk m c 1 t) (iblk m c 3 t) (ix2 q ⟨3200 + x, by omega⟩))
      = (fun x : Fin 256 => proj (m ((c.tc : Thread nD τ).loc main_arg0)) (m ((c.tc : Thread nD τ).loc main_arg1)) (m ((c.tc : Thread nD τ).loc main_arg2)) (m ((c.tc : Thread nD τ).loc main_arg3)) b n ⟨3088 + x.val, by omega⟩) := by
    funext x
    rw [proj_blk m c t b n q _ hb hn, dif_neg (by simp only; omega), dif_neg (by simp only; omega)]
    exact congrArg _ (Fin.ext (by simp only; omega))
  rw [after0_11, out11_apply _ _ _ _ _ _ _ _ (fun e => (m ((c.tc : Thread nD τ).loc main_arg4)) (ix1 e)) q l n (fun l => blk6 m c t l) (blk4 m c t n q l hn) (blk5 m c t n q l hn)]
  rw [hp]

/-- The keys' array after the run. -/
theorem final12 (c : Dev nD) :
    (dats m 0 c).arrAt 12 cfg0.N = fun i : S8x4352x256.Idx => turned (fun x : Fin 256 => proj (m ((c.tc : Thread nD τ).loc main_arg0)) (m ((c.tc : Thread nD τ).loc main_arg1)) (m ((c.tc : Thread nD τ).loc main_arg2)) (m ((c.tc : Thread nD τ).loc main_arg3)) (i 0) (i 1) ⟨3344 + x.val, by omega⟩) (fun e : Fin 32 => (m ((c.tc : Thread nD τ).loc main_arg5)) (ix1 e)) (i 1).val (i 2) := by
  refine (dats m 0 c).arrAt_eq_of_covers 12 _ (by decide +kernel) fun t hf y => ?_
  obtain ⟨q, l, rfl⟩ : ∃ (q : Fin 256) (l : Fin 256), y = ix3 0 q l := ⟨y 1, y 2, by blk_ext⟩
  have h0 : (grid0.coords t 0).val < 8 := (grid0.coords t 0).isLt
  have h1 : (grid0.coords t 1).val < 17 := (grid0.coords t 1).isLt
  obtain ⟨b, hb⟩ : ∃ b : Fin 8, b.val = (grid0.coords t 0).val := ⟨⟨_, h0⟩, rfl⟩
  obtain ⟨n, hn⟩ : ∃ n : Fin 4352, n.val = (grid0.coords t 1).val * 256 + q.val := ⟨⟨(grid0.coords t 1).val * 256 + q.val, by omega⟩, rfl⟩
  rw [emb12 t b n q l hb hn]
  blk_simp
  show _ = turned (fun x : Fin 256 => proj (m ((c.tc : Thread nD τ).loc main_arg0)) (m ((c.tc : Thread nD τ).loc main_arg1)) (m ((c.tc : Thread nD τ).loc main_arg2)) (m ((c.tc : Thread nD τ).loc main_arg3)) b n ⟨3344 + x.val, by omega⟩) (fun e : Fin 32 => (m ((c.tc : Thread nD τ).loc main_arg5)) (ix1 e)) n l
  have hp : (fun x : Fin 256 => k0_pay4 (F := Ideal) (iblk m c 0 t) (iblk m c 2 t) (iblk m c 1 t) (iblk m c 3 t) (ix2 q ⟨3456 + x, by omega⟩))
      = (fun x : Fin 256 => proj (m ((c.tc : Thread nD τ).loc main_arg0)) (m ((c.tc : Thread nD τ).loc main_arg1)) (m ((c.tc : Thread nD τ).loc main_arg2)) (m ((c.tc : Thread nD τ).loc main_arg3)) b n ⟨3344 + x.val, by omega⟩) := by
    funext x
    rw [proj_blk m c t b n q _ hb hn, dif_neg (by simp only; omega), dif_neg (by simp only; omega)]
    exact congrArg _ (Fin.ext (by simp only; omega))
  rw [after0_12, out12_apply _ _ _ _ _ _ _ _ (fun e => (m ((c.tc : Thread nD τ).loc main_arg5)) (ix1 e)) q l n (fun l => blk7 m c t l) (blk4 m c t n q l hn) (blk5 m c t n q l hn)]
  rw [hp]

/-- The values' array after the run. -/
theorem final13 (c : Dev nD) :
    (dats m 0 c).arrAt 13 cfg0.N = fun i : S8x512x4352.Idx => valueRow (fun x : Fin 256 => proj (m ((c.tc : Thread nD τ).loc main_arg0)) (m ((c.tc : Thread nD τ).loc main_arg1)) (m ((c.tc : Thread nD τ).loc main_arg2)) (m ((c.tc : Thread nD τ).loc main_arg3)) (i 0) (i 2) ⟨3600 + x.val, by omega⟩) (i 1) := by
  refine (dats m 0 c).arrAt_eq_of_covers 13 _ (by decide +kernel) fun t hf y => ?_
  obtain ⟨q, l, rfl⟩ : ∃ (q : Fin 256) (l : Fin 512), y = ix3 0 l q := ⟨y 2, y 1, by blk_ext⟩
  have h0 : (grid0.coords t 0).val < 8 := (grid0.coords t 0).isLt
  have h1 : (grid0.coords t 1).val < 17 := (grid0.coords t 1).isLt
  obtain ⟨b, hb⟩ : ∃ b : Fin 8, b.val = (grid0.coords t 0).val := ⟨⟨_, h0⟩, rfl⟩
  obtain ⟨n, hn⟩ : ∃ n : Fin 4352, n.val = (grid0.coords t 1).val * 256 + q.val := ⟨⟨(grid0.coords t 1).val * 256 + q.val, by omega⟩, rfl⟩
  rw [emb13 t b n q l hb hn]
  blk_simp
  show _ = valueRow (fun x : Fin 256 => proj (m ((c.tc : Thread nD τ).loc main_arg0)) (m ((c.tc : Thread nD τ).loc main_arg1)) (m ((c.tc : Thread nD τ).loc main_arg2)) (m ((c.tc : Thread nD τ).loc main_arg3)) b n ⟨3600 + x.val, by omega⟩) l
  have hp : (fun x : Fin 256 => k0_pay4 (F := Ideal) (iblk m c 0 t) (iblk m c 2 t) (iblk m c 1 t) (iblk m c 3 t) (ix2 q ⟨3712 + x, by omega⟩))
      = (fun x : Fin 256 => proj (m ((c.tc : Thread nD τ).loc main_arg0)) (m ((c.tc : Thread nD τ).loc main_arg1)) (m ((c.tc : Thread nD τ).loc main_arg2)) (m ((c.tc : Thread nD τ).loc main_arg3)) b n ⟨3600 + x.val, by omega⟩) := by
    funext x
    rw [proj_blk m c t b n q _ hb hn, dif_neg (by simp only; omega), dif_neg (by simp only; omega)]
    exact congrArg _ (Fin.ext (by simp only; omega))
  rw [after0_13, out13_apply, hp]

end Cert.InProjIdeal.Block

end
-- ==== Proof.InRef.lean ====
/- The input projection's reference, read at an index. -/
module

public import proofs.«01_k».proof.Proof.InRows
public import proofs.«01_k».proof.Proof.Gen.InProjRefIdeal.Read
public import Idealize.ShloMosaic.Lib.Pointwise
public import Idealize.ShloMosaic.Lib.Pipeline.ValueKit

@[expose] public section

set_option maxRecDepth 16384

noncomputable section

namespace Cert.InProjRefIdeal.Row

open Cert.InProjRefIdeal Cert.InProjRefIdeal.Gen Cert.InProjRefIdeal.Read Idealize.ShloMosaic Idealize.ShloMosaic.TcCoe Cert.Rows

variable (x0 : (⟨S8x4352x1024, .f32⟩ : BufTy).Contents (Elt Ideal)) (x1 : (⟨S9x6x1024, .f32⟩ : BufTy).Contents (Elt Ideal)) (x2 : (⟨S1024, .f32⟩ : BufTy).Contents (Elt Ideal)) (x3 : (⟨S1024x3856, .f32⟩ : BufTy).Contents (Elt Ideal)) (x4 x5 : (⟨S32, .f32⟩ : BufTy).Contents (Elt Ideal))

/-- The latent tokens' projection. -/
theorem v31_apply (b : Fin 8) (n : Fin 4096) (l : Fin 3856) :
    val_main_v31 (F := Ideal) x0 x1 x2 x3 (ix3 b n l) = proj x0 x1 x2 x3 b ⟨n, by omega⟩ l := by
  pointwise [val_main_v0, val_main_v2, val_main_v3, val_main_v4, val_main_v5, val_main_v6, val_main_v7, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_0, val_main_cst_1, val_main_cst_2]
  unfold proj modRow
  have h : ((⟨n.val, by omega⟩ : Fin 4352)).val < 4096 := n.isLt
  simp only [if_pos h]
  rfl

/-- The context tokens' projection. -/
theorem v53_apply (b : Fin 8) (n : Fin 256) (l : Fin 3856) :
    val_main_v53 (F := Ideal) x0 x1 x2 x3 (ix3 b n l) = proj x0 x1 x2 x3 b ⟨4096 + n, by omega⟩ l := by
  pointwise [val_main_v1, val_main_v8, val_main_v9, val_main_v10, val_main_v11, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_cst_3, val_main_cst_4, val_main_cst_5, val_main_cst_6]
  unfold proj modRow
  have h : ¬ ((⟨4096 + n.val, by omega⟩ : Fin 4352)).val < 4096 := by simp only; omega
  simp only [if_neg h]
  rfl

/-- The projection of all tokens. -/
theorem v211_apply (b : Fin 8) (n : Fin 4352) (l : Fin 3856) :
    val_main_v211 (F := Ideal) x0 x1 x2 x3 (ix3 b n l) = proj x0 x1 x2 x3 b n l := by
  pointwise [val_main_v211]
  by_cases h : n.val < 4096
  · rw [dif_pos h, v31_apply]
  · rw [dif_neg h, v53_apply]
    exact congrArg (fun z => proj x0 x1 x2 x3 b z l) (Fin.ext (by simp only; omega))

/-- The first result at token `n` of batch `b` and column `l`. -/
theorem out0_apply (b : Fin 8) (n : Fin 4352) (l : Fin 1152) :
    val_main_v219 (F := Ideal) x0 x1 x2 x3 (ix3 b n l) = projPad x0 x1 x2 x3 b n l := by
  pointwise [val_main_v218, val_main_v219, val_main_c, val_main_call0_v0]
  have zero : FloatOps.sitofp (F := Ideal) FTy.f32 0#32 = (0 : EReal) := by
    show (((BitVec.toInt 0#32 : ℤ) : ℝ) : EReal) = 0
    norm_num
  unfold projPad
  by_cases h : l.val < 1040
  · rw [dif_pos h, dif_pos h, v211_apply]
  · rw [dif_neg h, dif_neg h, zero]

/-- The second result at token `n` of batch `b` and column `l`. -/
theorem out1_apply (b : Fin 8) (n : Fin 4352) (l : Fin 768) :
    val_main_v220 (F := Ideal) x0 x1 x2 x3 (ix3 b n l) = proj x0 x1 x2 x3 b n ⟨1040 + l.val, by omega⟩ := by
  pointwise [val_main_v220]
  exact v211_apply ..

/-- The third result at token `n` of batch `b` and column `l`. -/
theorem out2_apply (b : Fin 8) (n : Fin 4352) (l : Fin 1280) :
    val_main_v221 (F := Ideal) x0 x1 x2 x3 (ix3 b n l) = proj x0 x1 x2 x3 b n ⟨1808 + l.val, by omega⟩ := by
  pointwise [val_main_v221]
  exact v211_apply ..

/-- The values' rows per head, the row of ones and the rows of zeros after each head's channels. -/
theorem v217_apply (b : Fin 8) (g : Fin 4) (r : Fin 128) (n : Fin 4352) :
    (val_main_v217 (F := Ideal) x0 x1 x2 x3 (ix4 b g r n) : EReal) = if h : r.val < 64 then (val_main_v214 (F := Ideal) x0 x1 x2 x3 (ix4 b g ⟨r, h⟩ n) : EReal) else if r.val = 64 then (1 : EReal) else 0 := by
  pointwise [val_main_v217, val_main_v215, val_main_v216, val_main_cst_22, val_main_cst_23]
  by_cases h : r.val < 64
  · rw [dif_pos h, dif_pos h]
  · rw [dif_neg h, dif_neg h]
    by_cases h2 : r.val = 64
    · rw [dif_pos (by omega), if_pos h2]
    · rw [dif_neg (by omega), if_neg h2]

/-- A head's channels of the values, transposed. -/
theorem v214_apply (b : Fin 8) (g : Fin 4) (r : Fin 64) (n : Fin 4352) :
    val_main_v214 (F := Ideal) x0 x1 x2 x3 (ix4 b g r n) = proj x0 x1 x2 x3 b n ⟨3600 + (g.val * 64 + r.val), by omega⟩ := by
  have h1 : val_main_v214 (F := Ideal) x0 x1 x2 x3 (ix4 b g r n) = val_main_v213 (F := Ideal) x0 x1 x2 x3 (ix4 b n g r) := by
    pointwise [val_main_v214]
  have h2 : val_main_v213 (F := Ideal) x0 x1 x2 x3 (ix4 b n g r) = val_main_v211 (F := Ideal) x0 x1 x2 x3 (ix3 b n ⟨3600 + (g.val * 64 + r.val), by omega⟩) := by
    pointwise [val_main_v212, val_main_v213]
  rw [h1, h2, v211_apply]

/-- The heads' rows stacked. -/
theorem v222_apply (b : Fin 8) (l : Fin 512) (n : Fin 4352) :
    val_main_v222 (F := Ideal) x0 x1 x2 x3 (ix3 b l n) = val_main_v217 (F := Ideal) x0 x1 x2 x3 (ix4 b ⟨l.val / 128, by omega⟩ ⟨l.val % 128, by omega⟩ n) := by
  unfold val_main_v222
  generalize val_main_v217 (F := Ideal) x0 x1 x2 x3 = f
  pointwise

/-- The values at row `l` and token `n` of batch `b`. -/
theorem out5_apply (b : Fin 8) (l : Fin 512) (n : Fin 4352) :
    val_main_v223 (F := Ideal) x0 x1 x2 x3 (ix3 b l n) = valueRow (fun x : Fin 256 => proj x0 x1 x2 x3 b n ⟨3600 + x.val, by omega⟩) l := by
  have h := v222_apply x0 x1 x2 x3 b l n
  unfold val_main_v223
  generalize val_main_v222 (F := Ideal) x0 x1 x2 x3 = f at h ⊢
  pointwise
  rw [h, v217_apply]
  unfold valueRow
  by_cases h1 : l.val % 128 < 64
  · rw [dif_pos h1, dif_pos h1, v214_apply]
  · rw [dif_neg h1, dif_neg h1]

end Cert.InProjRefIdeal.Row

end
-- ==== Proof.InRefNorm.lean ====
/- The input projection's reference: the normalized queries and keys, read at an index. -/
module

public import proofs.«01_k».proof.Proof.InRows
public import proofs.«01_k».proof.Proof.InRef
public import Idealize.ShloMosaic.Lib.Pointwise
public import Idealize.ShloMosaic.Lib.Pipeline.ValueKit

@[expose] public section

set_option maxRecDepth 16384

noncomputable section

namespace Cert.InProjRefIdeal.Row

open Cert.InProjRefIdeal Cert.InProjRefIdeal.Gen Cert.InProjRefIdeal.Read Idealize.ShloMosaic Idealize.ShloMosaic.TcCoe Cert.Rows

variable (x0 : (⟨S8x4352x1024, .f32⟩ : BufTy).Contents (Elt Ideal)) (x1 : (⟨S9x6x1024, .f32⟩ : BufTy).Contents (Elt Ideal)) (x2 : (⟨S1024, .f32⟩ : BufTy).Contents (Elt Ideal)) (x3 : (⟨S1024x3856, .f32⟩ : BufTy).Contents (Elt Ideal)) (x4 x5 : (⟨S32, .f32⟩ : BufTy).Contents (Elt Ideal))

/-- The cosine of a row angle. -/
theorem v77_apply (n : Fin 4096) (e : Fin 8) : val_main_v77 (F := Ideal) (ix2 n e) = Ideal.cos (coordAngle (n.val / 64) e.val) := by
  pointwise [val_main_cst_7, val_main_cst_8, val_main_v54, val_main_v55, val_main_v56, val_main_v57, val_main_v58, val_main_v59, val_main_v60, val_main_v61, val_main_v62, val_main_v67, val_main_v68, val_main_v69, val_main_v70, val_main_v71, val_main_v77]
  rfl

/-- The sine of a row angle. -/
theorem v78_apply (n : Fin 4096) (e : Fin 8) : val_main_v78 (F := Ideal) (ix2 n e) = Ideal.sin (coordAngle (n.val / 64) e.val) := by
  pointwise [val_main_cst_7, val_main_cst_8, val_main_v54, val_main_v55, val_main_v56, val_main_v57, val_main_v58, val_main_v59, val_main_v60, val_main_v61, val_main_v62, val_main_v67, val_main_v68, val_main_v69, val_main_v70, val_main_v71, val_main_v78]
  rfl

/-- The cosine of a column angle. -/
theorem v79_apply (n : Fin 4096) (e : Fin 8) : val_main_v79 (F := Ideal) (ix2 n e) = Ideal.cos (coordAngle (n.val % 64) e.val) := by
  pointwise [val_main_cst_7, val_main_cst_8, val_main_v54, val_main_v55, val_main_v56, val_main_v57, val_main_v58, val_main_v59, val_main_v63, val_main_v64, val_main_v65, val_main_v66, val_main_v72, val_main_v73, val_main_v74, val_main_v75, val_main_v76, val_main_v79]
  rfl

/-- The sine of a column angle. -/
theorem v80_apply (n : Fin 4096) (e : Fin 8) : val_main_v80 (F := Ideal) (ix2 n e) = Ideal.sin (coordAngle (n.val % 64) e.val) := by
  pointwise [val_main_cst_7, val_main_cst_8, val_main_v54, val_main_v55, val_main_v56, val_main_v57, val_main_v58, val_main_v59, val_main_v63, val_main_v64, val_main_v65, val_main_v66, val_main_v72, val_main_v73, val_main_v74, val_main_v75, val_main_v76, val_main_v80]
  rfl

/-- The normalized queries of the latent tokens, before the rotation. -/
theorem v99_apply (b : Fin 8) (n : Fin 4096) (l : Fin 256) :
    val_main_v99 (F := Ideal) x0 x1 x2 x3 x4 (ix5 b n ⟨l.val / 64, by omega⟩ ⟨l.val / 32 % 2, by omega⟩ ⟨l.val % 32, by omega⟩)
      = headNorm (fun x : Fin 256 => proj x0 x1 x2 x3 b ⟨n, by omega⟩ ⟨3088 + x.val, by omega⟩) (fun e => x4 (ix1 e)) l := by
  have h0 : ∀ (g : Fin 4) (h : Fin 2) (e : Fin 32), val_main_v86 (F := Ideal) x0 x1 x2 x3 (ix5 b n g h e)
      = proj x0 x1 x2 x3 b ⟨n, by omega⟩ ⟨3088 + (g.val * 64 + h.val * 32 + e.val), by omega⟩ := by
    intro g h e
    have h1 : val_main_v86 (F := Ideal) x0 x1 x2 x3 (ix5 b n g h e) = val_main_v31 (F := Ideal) x0 x1 x2 x3 (ix3 b n ⟨3088 + (g.val * 64 + h.val * 32 + e.val), by omega⟩) := by
      pointwise [val_main_v85, val_main_v86]
    rw [h1, v31_apply]
  pointwise [val_main_v87, val_main_v88, val_main_v89, val_main_v90, val_main_v91, val_main_v92, val_main_v93, val_main_v94, val_main_v95, val_main_v96, val_main_v97, val_main_v98, val_main_v99, val_main_cst_9, val_main_cst_10, val_main_cst_11]
  simp only [h0]
  unfold headNorm
  have hl : ∀ e : ℕ, l.val / 64 * 64 + l.val / 32 % 2 * 32 + e = 32 * (l.val / 32) + e := fun e => by omega
  simp only [hl, show 32 * (l.val / 32) + l.val % 32 = l.val by omega]

/-- The normalized keys of the latent tokens, before the rotation. -/
theorem v114_apply (b : Fin 8) (n : Fin 4096) (l : Fin 256) :
    val_main_v114 (F := Ideal) x0 x1 x2 x3 x5 (ix5 b n ⟨l.val / 64, by omega⟩ ⟨l.val / 32 % 2, by omega⟩ ⟨l.val % 32, by omega⟩)
      = headNorm (fun x : Fin 256 => proj x0 x1 x2 x3 b ⟨n, by omega⟩ ⟨3344 + x.val, by omega⟩) (fun e => x5 (ix1 e)) l := by
  have h0 : ∀ (g : Fin 4) (h : Fin 2) (e : Fin 32), val_main_v101 (F := Ideal) x0 x1 x2 x3 (ix5 b n g h e)
      = proj x0 x1 x2 x3 b ⟨n, by omega⟩ ⟨3344 + (g.val * 64 + h.val * 32 + e.val), by omega⟩ := by
    intro g h e
    have h1 : val_main_v101 (F := Ideal) x0 x1 x2 x3 (ix5 b n g h e) = val_main_v31 (F := Ideal) x0 x1 x2 x3 (ix3 b n ⟨3344 + (g.val * 64 + h.val * 32 + e.val), by omega⟩) := by
      pointwise [val_main_v100, val_main_v101]
    rw [h1, v31_apply]
  pointwise [val_main_v102, val_main_v103, val_main_v104, val_main_v105, val_main_v106, val_main_v107, val_main_v108, val_main_v109, val_main_v110, val_main_v111, val_main_v112, val_main_v113, val_main_v114, val_main_cst_12, val_main_cst_13, val_main_cst_14]
  simp only [h0]
  unfold headNorm
  have hl : ∀ e : ℕ, l.val / 64 * 64 + l.val / 32 % 2 * 32 + e = 32 * (l.val / 32) + e := fun e => by omega
  simp only [hl, show 32 * (l.val / 32) + l.val % 32 = l.val by omega]

/-- The normalized queries of the context tokens, before the rotation. -/
theorem v129_apply (b : Fin 8) (n : Fin 256) (l : Fin 256) :
    val_main_v129 (F := Ideal) x0 x1 x2 x3 x4 (ix5 b n ⟨l.val / 64, by omega⟩ ⟨l.val / 32 % 2, by omega⟩ ⟨l.val % 32, by omega⟩)
      = headNorm (fun x : Fin 256 => proj x0 x1 x2 x3 b ⟨4096 + n, by omega⟩ ⟨3088 + x.val, by omega⟩) (fun e => x4 (ix1 e)) l := by
  have h0 : ∀ (g : Fin 4) (h : Fin 2) (e : Fin 32), val_main_v116 (F := Ideal) x0 x1 x2 x3 (ix5 b n g h e)
      = proj x0 x1 x2 x3 b ⟨4096 + n, by omega⟩ ⟨3088 + (g.val * 64 + h.val * 32 + e.val), by omega⟩ := by
    intro g h e
    have h1 : val_main_v116 (F := Ideal) x0 x1 x2 x3 (ix5 b n g h e) = val_main_v53 (F := Ideal) x0 x1 x2 x3 (ix3 b n ⟨3088 + (g.val * 64 + h.val * 32 + e.val), by omega⟩) := by
      pointwise [val_main_v115, val_main_v116]
    rw [h1, v53_apply]
  pointwise [val_main_v117, val_main_v118, val_main_v119, val_main_v120, val_main_v121, val_main_v122, val_main_v123, val_main_v124, val_main_v125, val_main_v126, val_main_v127, val_main_v128, val_main_v129, val_main_cst_15, val_main_cst_16, val_main_cst_17]
  simp only [h0]
  unfold headNorm
  have hl : ∀ e : ℕ, l.val / 64 * 64 + l.val / 32 % 2 * 32 + e = 32 * (l.val / 32) + e := fun e => by omega
  simp only [hl, show 32 * (l.val / 32) + l.val % 32 = l.val by omega]

/-- The normalized keys of the context tokens, before the rotation. -/
theorem v144_apply (b : Fin 8) (n : Fin 256) (l : Fin 256) :
    val_main_v144 (F := Ideal) x0 x1 x2 x3 x5 (ix5 b n ⟨l.val / 64, by omega⟩ ⟨l.val / 32 % 2, by omega⟩ ⟨l.val % 32, by omega⟩)
      = headNorm (fun x : Fin 256 => proj x0 x1 x2 x3 b ⟨4096 + n, by omega⟩ ⟨3344 + x.val, by omega⟩) (fun e => x5 (ix1 e)) l := by
  have h0 : ∀ (g : Fin 4) (h : Fin 2) (e : Fin 32), val_main_v131 (F := Ideal) x0 x1 x2 x3 (ix5 b n g h e)
      = proj x0 x1 x2 x3 b ⟨4096 + n, by omega⟩ ⟨3344 + (g.val * 64 + h.val * 32 + e.val), by omega⟩ := by
    intro g h e
    have h1 : val_main_v131 (F := Ideal) x0 x1 x2 x3 (ix5 b n g h e) = val_main_v53 (F := Ideal) x0 x1 x2 x3 (ix3 b n ⟨3344 + (g.val * 64 + h.val * 32 + e.val), by omega⟩) := by
      pointwise [val_main_v130, val_main_v131]
    rw [h1, v53_apply]
  pointwise [val_main_v132, val_main_v133, val_main_v134, val_main_v135, val_main_v136, val_main_v137, val_main_v138, val_main_v139, val_main_v140, val_main_v141, val_main_v142, val_main_v143, val_main_v144, val_main_cst_18, val_main_cst_19, val_main_cst_20]
  simp only [h0]
  unfold headNorm
  have hl : ∀ e : ℕ, l.val / 64 * 64 + l.val / 32 % 2 * 32 + e = 32 * (l.val / 32) + e := fun e => by omega
  simp only [hl, show 32 * (l.val / 32) + l.val % 32 = l.val by omega]

end Cert.InProjRefIdeal.Row

end
-- ==== Proof.InRefTurn.lean ====
/- The input projection's reference: the rotated queries and keys, read at an index. -/
module

public import proofs.«01_k».proof.Proof.InRows
public import proofs.«01_k».proof.Proof.InRefNorm
public import Idealize.ShloMosaic.Lib.Pointwise
public import Idealize.ShloMosaic.Lib.Pipeline.ValueKit

@[expose] public section

set_option maxRecDepth 16384

noncomputable section

namespace Cert.InProjRefIdeal.Row

open Cert.InProjRefIdeal Cert.InProjRefIdeal.Gen Cert.InProjRefIdeal.Read Idealize.ShloMosaic Idealize.ShloMosaic.TcCoe Cert.Rows

variable (x0 : (⟨S8x4352x1024, .f32⟩ : BufTy).Contents (Elt Ideal)) (x1 : (⟨S9x6x1024, .f32⟩ : BufTy).Contents (Elt Ideal)) (x2 : (⟨S1024, .f32⟩ : BufTy).Contents (Elt Ideal)) (x3 : (⟨S1024x3856, .f32⟩ : BufTy).Contents (Elt Ideal)) (x4 x5 : (⟨S32, .f32⟩ : BufTy).Contents (Elt Ideal))

/-- A read at a lane's head, group and channel. -/
theorem lane_read (v : S8x4096x4x2x32.Idx → EReal) (Y : Fin 256 → EReal) (b : Fin 8) (n : Fin 4096)
    (hy : ∀ l : Fin 256, v (ix5 b n ⟨l.val / 64, by omega⟩ ⟨l.val / 32 % 2, by omega⟩ ⟨l.val % 32, by omega⟩) = Y l)
    (l : Fin 256) (g : Fin 4) (h : Fin 2) (e : Fin 32) (hg : g.val = l.val / 64) (hh : h.val = l.val / 32 % 2) (he : e.val = l.val % 32) :
    v (ix5 b n g h e) = Y l := by
  have e1 : g = ⟨l.val / 64, by omega⟩ := Fin.ext hg
  have e2 : h = ⟨l.val / 32 % 2, by omega⟩ := Fin.ext hh
  have e3 : e = ⟨l.val % 32, by omega⟩ := Fin.ext he
  rw [e1, e2, e3]
  exact hy l

/-- The rotation, written over a head's two axes and their two halves, is the rotation of the lanes. -/
theorem turn_lane (v : S8x4096x4x2x32.Idx → EReal) (Y : Fin 256 → EReal) (b : Fin 8) (n : Fin 4096)
    (hy : ∀ l : Fin 256, v (ix5 b n ⟨l.val / 64, by omega⟩ ⟨l.val / 32 % 2, by omega⟩ ⟨l.val % 32, by omega⟩) = Y l) (l : Fin 256) :
    (if h1 : l.val % 32 < 16 then
        if h2 : l.val % 32 < 8 then
          (v (ix5 b n ⟨l.val / 64, by omega⟩ ⟨l.val / 32 % 2, by omega⟩ ⟨l.val % 32, by omega⟩) * Ideal.cos (coordAngle (n.val / 64) (l.val % 32)) - v (ix5 b n ⟨l.val / 64, by omega⟩ ⟨l.val / 32 % 2, by omega⟩ ⟨8 + l.val % 32, by omega⟩) * Ideal.sin (coordAngle (n.val / 64) (l.val % 32)) : EReal)
        else v (ix5 b n ⟨l.val / 64, by omega⟩ ⟨l.val / 32 % 2, by omega⟩ ⟨8 + (l.val % 32 - 8), by omega⟩) * Ideal.cos (coordAngle (n.val / 64) (l.val % 32 - 8)) + v (ix5 b n ⟨l.val / 64, by omega⟩ ⟨l.val / 32 % 2, by omega⟩ ⟨l.val % 32 - 8, by omega⟩) * Ideal.sin (coordAngle (n.val / 64) (l.val % 32 - 8))
      else if h2 : l.val % 32 - 16 < 8 then
          v (ix5 b n ⟨l.val / 64, by omega⟩ ⟨l.val / 32 % 2, by omega⟩ ⟨16 + (l.val % 32 - 16), by omega⟩) * Ideal.cos (coordAngle (n.val % 64) (l.val % 32 - 16)) - v (ix5 b n ⟨l.val / 64, by omega⟩ ⟨l.val / 32 % 2, by omega⟩ ⟨16 + (8 + (l.val % 32 - 16)), by omega⟩) * Ideal.sin (coordAngle (n.val % 64) (l.val % 32 - 16))
        else v (ix5 b n ⟨l.val / 64, by omega⟩ ⟨l.val / 32 % 2, by omega⟩ ⟨16 + (8 + (l.val % 32 - 16 - 8)), by omega⟩) * Ideal.cos (coordAngle (n.val % 64) (l.val % 32 - 16 - 8)) + v (ix5 b n ⟨l.val / 64, by omega⟩ ⟨l.val / 32 % 2, by omega⟩ ⟨16 + (l.val % 32 - 16 - 8), by omega⟩) * Ideal.sin (coordAngle (n.val % 64) (l.val % 32 - 16 - 8))) = rope n Y l := by
  unfold rope angle
  rw [if_pos n.isLt]
  by_cases h1 : l.val % 32 < 16
  · rw [dif_pos h1, if_pos h1]
    by_cases h2 : l.val % 32 < 8
    · rw [dif_pos h2, if_pos (by omega), lane_read v Y b n hy l ⟨l.val / 64, by omega⟩ ⟨l.val / 32 % 2, by omega⟩ ⟨l.val % 32, by omega⟩ rfl rfl (by first | rfl | (simp only; omega)),
        lane_read v Y b n hy ⟨(l.val + 8) % 256, by omega⟩ ⟨l.val / 64, by omega⟩ ⟨l.val / 32 % 2, by omega⟩ ⟨8 + l.val % 32, by omega⟩ (by simp only; omega) (by simp only; omega) (by simp only; omega), show l.val % 32 % 8 = l.val % 32 by omega]
    · rw [dif_neg h2, if_neg (by omega), lane_read v Y b n hy l ⟨l.val / 64, by omega⟩ ⟨l.val / 32 % 2, by omega⟩ ⟨8 + (l.val % 32 - 8), by omega⟩ rfl rfl (by first | rfl | (simp only; omega)),
        lane_read v Y b n hy ⟨(l.val + 248) % 256, by omega⟩ ⟨l.val / 64, by omega⟩ ⟨l.val / 32 % 2, by omega⟩ ⟨l.val % 32 - 8, by omega⟩ (by simp only; omega) (by simp only; omega) (by simp only; omega), show l.val % 32 % 8 = l.val % 32 - 8 by omega]
  · rw [dif_neg h1, if_neg h1]
    by_cases h2 : l.val % 32 - 16 < 8
    · rw [dif_pos h2, if_pos (by omega), lane_read v Y b n hy l ⟨l.val / 64, by omega⟩ ⟨l.val / 32 % 2, by omega⟩ ⟨16 + (l.val % 32 - 16), by omega⟩ rfl rfl (by first | rfl | (simp only; omega)),
        lane_read v Y b n hy ⟨(l.val + 8) % 256, by omega⟩ ⟨l.val / 64, by omega⟩ ⟨l.val / 32 % 2, by omega⟩ ⟨16 + (8 + (l.val % 32 - 16)), by omega⟩ (by simp only; omega) (by simp only; omega) (by simp only; omega), show l.val % 32 % 8 = l.val % 32 - 16 by omega]
    · rw [dif_neg h2, if_neg (by omega), lane_read v Y b n hy l ⟨l.val / 64, by omega⟩ ⟨l.val / 32 % 2, by omega⟩ ⟨16 + (8 + (l.val % 32 - 16 - 8)), by omega⟩ rfl rfl (by first | rfl | (simp only; omega)),
        lane_read v Y b n hy ⟨(l.val + 248) % 256, by omega⟩ ⟨l.val / 64, by omega⟩ ⟨l.val / 32 % 2, by omega⟩ ⟨16 + (l.val % 32 - 16 - 8), by omega⟩ (by simp only; omega) (by simp only; omega) (by simp only; omega), show l.val % 32 % 8 = l.val % 32 - 16 - 8 by omega]

/-- The rotated queries of the latent tokens, from the normalized ones. -/
theorem v173_raw (b : Fin 8) (n : Fin 4096) (g : Fin 4) (h : Fin 2) (e : Fin 32) :
    val_main_v173 (F := Ideal) x0 x1 x2 x3 x4 (ix5 b n g h e) =
      (if h1 : e.val < 16 then
        if h2 : e.val < 8 then
          (val_main_v99 (F := Ideal) x0 x1 x2 x3 x4 (ix5 b n g h ⟨e.val, by omega⟩) * Ideal.cos (coordAngle (n.val / 64) (e.val)) - val_main_v99 (F := Ideal) x0 x1 x2 x3 x4 (ix5 b n g h ⟨8 + e.val, by omega⟩) * Ideal.sin (coordAngle (n.val / 64) (e.val)) : EReal)
        else val_main_v99 (F := Ideal) x0 x1 x2 x3 x4 (ix5 b n g h ⟨8 + (e.val - 8), by omega⟩) * Ideal.cos (coordAngle (n.val / 64) (e.val - 8)) + val_main_v99 (F := Ideal) x0 x1 x2 x3 x4 (ix5 b n g h ⟨e.val - 8, by omega⟩) * Ideal.sin (coordAngle (n.val / 64) (e.val - 8))
      else if h2 : e.val - 16 < 8 then
          val_main_v99 (F := Ideal) x0 x1 x2 x3 x4 (ix5 b n g h ⟨16 + (e.val - 16), by omega⟩) * Ideal.cos (coordAngle (n.val % 64) (e.val - 16)) - val_main_v99 (F := Ideal) x0 x1 x2 x3 x4 (ix5 b n g h ⟨16 + (8 + (e.val - 16)), by omega⟩) * Ideal.sin (coordAngle (n.val % 64) (e.val - 16))
        else val_main_v99 (F := Ideal) x0 x1 x2 x3 x4 (ix5 b n g h ⟨16 + (8 + (e.val - 16 - 8)), by omega⟩) * Ideal.cos (coordAngle (n.val % 64) (e.val - 16 - 8)) + val_main_v99 (F := Ideal) x0 x1 x2 x3 x4 (ix5 b n g h ⟨16 + (e.val - 16 - 8), by omega⟩) * Ideal.sin (coordAngle (n.val % 64) (e.val - 16 - 8))) := by
  pointwise [val_main_v81, val_main_v82, val_main_v83, val_main_v84, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173]
  simp only [v77_apply, v78_apply, v79_apply, v80_apply]

/-- The rotated queries of the latent tokens. -/
theorem v173_apply (b : Fin 8) (n : Fin 4096) (l : Fin 256) :
    val_main_v173 (F := Ideal) x0 x1 x2 x3 x4 (ix5 b n ⟨l.val / 64, by omega⟩ ⟨l.val / 32 % 2, by omega⟩ ⟨l.val % 32, by omega⟩)
      = turned (fun x : Fin 256 => proj x0 x1 x2 x3 b ⟨n, by omega⟩ ⟨3088 + x.val, by omega⟩) (fun e => x4 (ix1 e)) n l := by
  have hy := v99_apply x0 x1 x2 x3 x4 b n
  rw [v173_raw]
  generalize val_main_v99 (F := Ideal) x0 x1 x2 x3 x4 = v at hy ⊢
  exact turn_lane v _ b n hy l

/-- The rotated keys of the latent tokens, from the normalized ones. -/
theorem v202_raw (b : Fin 8) (n : Fin 4096) (g : Fin 4) (h : Fin 2) (e : Fin 32) :
    val_main_v202 (F := Ideal) x0 x1 x2 x3 x5 (ix5 b n g h e) =
      (if h1 : e.val < 16 then
        if h2 : e.val < 8 then
          (val_main_v114 (F := Ideal) x0 x1 x2 x3 x5 (ix5 b n g h ⟨e.val, by omega⟩) * Ideal.cos (coordAngle (n.val / 64) (e.val)) - val_main_v114 (F := Ideal) x0 x1 x2 x3 x5 (ix5 b n g h ⟨8 + e.val, by omega⟩) * Ideal.sin (coordAngle (n.val / 64) (e.val)) : EReal)
        else val_main_v114 (F := Ideal) x0 x1 x2 x3 x5 (ix5 b n g h ⟨8 + (e.val - 8), by omega⟩) * Ideal.cos (coordAngle (n.val / 64) (e.val - 8)) + val_main_v114 (F := Ideal) x0 x1 x2 x3 x5 (ix5 b n g h ⟨e.val - 8, by omega⟩) * Ideal.sin (coordAngle (n.val / 64) (e.val - 8))
      else if h2 : e.val - 16 < 8 then
          val_main_v114 (F := Ideal) x0 x1 x2 x3 x5 (ix5 b n g h ⟨16 + (e.val - 16), by omega⟩) * Ideal.cos (coordAngle (n.val % 64) (e.val - 16)) - val_main_v114 (F := Ideal) x0 x1 x2 x3 x5 (ix5 b n g h ⟨16 + (8 + (e.val - 16)), by omega⟩) * Ideal.sin (coordAngle (n.val % 64) (e.val - 16))
        else val_main_v114 (F := Ideal) x0 x1 x2 x3 x5 (ix5 b n g h ⟨16 + (8 + (e.val - 16 - 8)), by omega⟩) * Ideal.cos (coordAngle (n.val % 64) (e.val - 16 - 8)) + val_main_v114 (F := Ideal) x0 x1 x2 x3 x5 (ix5 b n g h ⟨16 + (e.val - 16 - 8), by omega⟩) * Ideal.sin (coordAngle (n.val % 64) (e.val - 16 - 8))) := by
  pointwise [val_main_v81, val_main_v82, val_main_v83, val_main_v84, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202]
  simp only [v77_apply, v78_apply, v79_apply, v80_apply]

/-- The rotated keys of the latent tokens. -/
theorem v202_apply (b : Fin 8) (n : Fin 4096) (l : Fin 256) :
    val_main_v202 (F := Ideal) x0 x1 x2 x3 x5 (ix5 b n ⟨l.val / 64, by omega⟩ ⟨l.val / 32 % 2, by omega⟩ ⟨l.val % 32, by omega⟩)
      = turned (fun x : Fin 256 => proj x0 x1 x2 x3 b ⟨n, by omega⟩ ⟨3344 + x.val, by omega⟩) (fun e => x5 (ix1 e)) n l := by
  have hy := v114_apply x0 x1 x2 x3 x5 b n
  rw [v202_raw]
  generalize val_main_v114 (F := Ideal) x0 x1 x2 x3 x5 = v at hy ⊢
  exact turn_lane v _ b n hy l

/-- The normalized and rotated queries of all tokens. -/
theorem v203_apply (b : Fin 8) (n : Fin 4352) (l : Fin 256) :
    val_main_v204 (F := Ideal) x0 x1 x2 x3 x4 (ix3 b n l)
      = turned (fun x : Fin 256 => proj x0 x1 x2 x3 b n ⟨3088 + x.val, by omega⟩) (fun e => x4 (ix1 e)) n l := by
  have h1 : val_main_v204 (F := Ideal) x0 x1 x2 x3 x4 (ix3 b n l) = val_main_v203 (F := Ideal) x0 x1 x2 x3 x4 (ix5 b n ⟨l.val / 64, by omega⟩ ⟨l.val / 32 % 2, by omega⟩ ⟨l.val % 32, by omega⟩) := by
    unfold val_main_v204
    generalize val_main_v203 (F := Ideal) x0 x1 x2 x3 x4 = f
    pointwise
  have h2 : val_main_v203 (F := Ideal) x0 x1 x2 x3 x4 (ix5 b n ⟨l.val / 64, by omega⟩ ⟨l.val / 32 % 2, by omega⟩ ⟨l.val % 32, by omega⟩)
      = if hn : n.val < 4096 then val_main_v173 (F := Ideal) x0 x1 x2 x3 x4 (ix5 b ⟨n, hn⟩ ⟨l.val / 64, by omega⟩ ⟨l.val / 32 % 2, by omega⟩ ⟨l.val % 32, by omega⟩)
        else val_main_v129 (F := Ideal) x0 x1 x2 x3 x4 (ix5 b ⟨n - 4096, by omega⟩ ⟨l.val / 64, by omega⟩ ⟨l.val / 32 % 2, by omega⟩ ⟨l.val % 32, by omega⟩) := by
    pointwise [val_main_v203]
  rw [h1, h2]
  by_cases h : n.val < 4096
  · rw [dif_pos h, v173_apply]
  · rw [dif_neg h, v129_apply]
    have hn : (⟨4096 + (n.val - 4096), by omega⟩ : Fin 4352) = n := Fin.ext (by simp only; omega)
    unfold turned rope
    rw [if_neg h]
    simp only [hn]

/-- The normalized and rotated keys of all tokens. -/
theorem v208_apply (b : Fin 8) (n : Fin 4352) (l : Fin 256) :
    val_main_v209 (F := Ideal) x0 x1 x2 x3 x5 (ix3 b n l)
      = turned (fun x : Fin 256 => proj x0 x1 x2 x3 b n ⟨3344 + x.val, by omega⟩) (fun e => x5 (ix1 e)) n l := by
  have h1 : val_main_v209 (F := Ideal) x0 x1 x2 x3 x5 (ix3 b n l) = val_main_v208 (F := Ideal) x0 x1 x2 x3 x5 (ix5 b n ⟨l.val / 64, by omega⟩ ⟨l.val / 32 % 2, by omega⟩ ⟨l.val % 32, by omega⟩) := by
    unfold val_main_v209
    generalize val_main_v208 (F := Ideal) x0 x1 x2 x3 x5 = f
    pointwise
  have h2 : val_main_v208 (F := Ideal) x0 x1 x2 x3 x5 (ix5 b n ⟨l.val / 64, by omega⟩ ⟨l.val / 32 % 2, by omega⟩ ⟨l.val % 32, by omega⟩)
      = if hn : n.val < 4096 then val_main_v202 (F := Ideal) x0 x1 x2 x3 x5 (ix5 b ⟨n, hn⟩ ⟨l.val / 64, by omega⟩ ⟨l.val / 32 % 2, by omega⟩ ⟨l.val % 32, by omega⟩)
        else val_main_v144 (F := Ideal) x0 x1 x2 x3 x5 (ix5 b ⟨n - 4096, by omega⟩ ⟨l.val / 64, by omega⟩ ⟨l.val / 32 % 2, by omega⟩ ⟨l.val % 32, by omega⟩) := by
    pointwise [val_main_v208]
  rw [h1, h2]
  by_cases h : n.val < 4096
  · rw [dif_pos h, v202_apply]
  · rw [dif_neg h, v144_apply]
    have hn : (⟨4096 + (n.val - 4096), by omega⟩ : Fin 4352) = n := Fin.ext (by simp only; omega)
    unfold turned rope
    rw [if_neg h]
    simp only [hn]

/-- The queries at token `n` of batch `b` and lane `l`. -/
theorem out3_apply (b : Fin 8) (n : Fin 4352) (l : Fin 256) :
    val_main_v207 (F := Ideal) x0 x1 x2 x3 x4 (ix3 b n l)
      = turned (fun x : Fin 256 => proj x0 x1 x2 x3 b n ⟨3088 + x.val, by omega⟩) (fun e => x4 (ix1 e)) n l * Ideal.ofBits .f32 0x3E3504F3#32 := by
  rw [← v203_apply]
  unfold val_main_v207 val_main_v206
  generalize val_main_v204 (F := Ideal) x0 x1 x2 x3 x4 = f
  pointwise [val_main_v205, val_main_cst_21]

/-- The keys at token `n` of batch `b` and lane `l`. -/
theorem out4_apply (b : Fin 8) (n : Fin 4352) (l : Fin 256) :
    val_main_v210 (F := Ideal) x0 x1 x2 x3 x5 (ix3 b n l)
      = turned (fun x : Fin 256 => proj x0 x1 x2 x3 b n ⟨3344 + x.val, by omega⟩) (fun e => x5 (ix1 e)) n l := by
  rw [← v208_apply]
  unfold val_main_v210
  generalize val_main_v209 (F := Ideal) x0 x1 x2 x3 x5 = f
  pointwise

end Cert.InProjRefIdeal.Row

end
-- ==== Proof.InEq.lean ====
module

public import proofs.«01_k».proof.Defs
public import proofs.«01_k».proof.Proof.InValue
public import proofs.«01_k».proof.Proof.InRefTurn
public import proofs.«01_k».proof.Proof.Gen.InProjRefIdeal.Run

@[expose] public section

set_option maxHeartbeats 4000000
set_option maxRecDepth 16384

noncomputable section

namespace Cert.InProjRefIdeal.Row

open Idealize.ShloMosaic Idealize.ShloMosaic.TcCoe Idealize.SL.Sem
open Cert.Rows
open Cert.InProjRefIdeal.Read

/-- The first result as a whole array, over any arguments. -/
theorem whole0 (m : (ℓ : Loc nD τ sig) → Buf (Elt Ideal) ℓ) (c : Dev nD) :
    (val_main_v219 (F := Ideal) (m ((c.tc : Thread nD τ).loc main_arg0)) (m ((c.tc : Thread nD τ).loc main_arg1)) (m ((c.tc : Thread nD τ).loc main_arg2)) (m ((c.tc : Thread nD τ).loc main_arg3))) = fun i : S8x4352x1152.Idx => projPad (m ((c.tc : Thread nD τ).loc main_arg0)) (m ((c.tc : Thread nD τ).loc main_arg1)) (m ((c.tc : Thread nD τ).loc main_arg2)) (m ((c.tc : Thread nD τ).loc main_arg3)) (i 0) (i 1) (i 2) := by
  refine funext fun i => ?_
  obtain ⟨b, n, l, rfl⟩ : ∃ (b : Fin 8) (n : Fin 4352) (l : Fin 1152), i = ix3 b n l := ⟨i 0, i 1, i 2, by blk_ext⟩
  exact out0_apply _ _ _ _ b n l

/-- The second result as a whole array, over any arguments. -/
theorem whole1 (m : (ℓ : Loc nD τ sig) → Buf (Elt Ideal) ℓ) (c : Dev nD) :
    (val_main_v220 (F := Ideal) (m ((c.tc : Thread nD τ).loc main_arg0)) (m ((c.tc : Thread nD τ).loc main_arg1)) (m ((c.tc : Thread nD τ).loc main_arg2)) (m ((c.tc : Thread nD τ).loc main_arg3))) = fun i : S8x4352x768.Idx => proj (m ((c.tc : Thread nD τ).loc main_arg0)) (m ((c.tc : Thread nD τ).loc main_arg1)) (m ((c.tc : Thread nD τ).loc main_arg2)) (m ((c.tc : Thread nD τ).loc main_arg3)) (i 0) (i 1) ⟨1040 + (i 2).val, by have : (i 2).val < 768 := (i 2).isLt; omega⟩ := by
  refine funext fun i => ?_
  obtain ⟨b, n, l, rfl⟩ : ∃ (b : Fin 8) (n : Fin 4352) (l : Fin 768), i = ix3 b n l := ⟨i 0, i 1, i 2, by blk_ext⟩
  exact out1_apply _ _ _ _ b n l

/-- The third result as a whole array, over any arguments. -/
theorem whole2 (m : (ℓ : Loc nD τ sig) → Buf (Elt Ideal) ℓ) (c : Dev nD) :
    (val_main_v221 (F := Ideal) (m ((c.tc : Thread nD τ).loc main_arg0)) (m ((c.tc : Thread nD τ).loc main_arg1)) (m ((c.tc : Thread nD τ).loc main_arg2)) (m ((c.tc : Thread nD τ).loc main_arg3))) = fun i : S8x4352x1280.Idx => proj (m ((c.tc : Thread nD τ).loc main_arg0)) (m ((c.tc : Thread nD τ).loc main_arg1)) (m ((c.tc : Thread nD τ).loc main_arg2)) (m ((c.tc : Thread nD τ).loc main_arg3)) (i 0) (i 1) ⟨1808 + (i 2).val, by have : (i 2).val < 1280 := (i 2).isLt; omega⟩ := by
  refine funext fun i => ?_
  obtain ⟨b, n, l, rfl⟩ : ∃ (b : Fin 8) (n : Fin 4352) (l : Fin 1280), i = ix3 b n l := ⟨i 0, i 1, i 2, by blk_ext⟩
  exact out2_apply _ _ _ _ b n l

/-- The fourth result as a whole array, over any arguments. -/
theorem whole3 (m : (ℓ : Loc nD τ sig) → Buf (Elt Ideal) ℓ) (c : Dev nD) :
    (val_main_v207 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) = fun i : S8x4352x256.Idx => turned (fun x : Fin 256 => proj (m ((c.tc : Thread nD τ).loc main_arg0)) (m ((c.tc : Thread nD τ).loc main_arg1)) (m ((c.tc : Thread nD τ).loc main_arg2)) (m ((c.tc : Thread nD τ).loc main_arg3)) (i 0) (i 1) ⟨3088 + x.val, by omega⟩) (fun e : Fin 32 => (m ((c.tc : Thread nD τ).loc main_arg4)) (ix1 e)) (i 1).val (i 2) * Ideal.ofBits .f32 0x3E3504F3#32 := by
  refine funext fun i => ?_
  obtain ⟨b, n, l, rfl⟩ : ∃ (b : Fin 8) (n : Fin 4352) (l : Fin 256), i = ix3 b n l := ⟨i 0, i 1, i 2, by blk_ext⟩
  exact out3_apply _ _ _ _ _ b n l

/-- The fifth result as a whole array, over any arguments. -/
theorem whole4 (m : (ℓ : Loc nD τ sig) → Buf (Elt Ideal) ℓ) (c : Dev nD) :
    (val_main_v210 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))) = fun i : S8x4352x256.Idx => turned (fun x : Fin 256 => proj (m ((c.tc : Thread nD τ).loc main_arg0)) (m ((c.tc : Thread nD τ).loc main_arg1)) (m ((c.tc : Thread nD τ).loc main_arg2)) (m ((c.tc : Thread nD τ).loc main_arg3)) (i 0) (i 1) ⟨3344 + x.val, by omega⟩) (fun e : Fin 32 => (m ((c.tc : Thread nD τ).loc main_arg5)) (ix1 e)) (i 1).val (i 2) := by
  refine funext fun i => ?_
  obtain ⟨b, n, l, rfl⟩ : ∃ (b : Fin 8) (n : Fin 4352) (l : Fin 256), i = ix3 b n l := ⟨i 0, i 1, i 2, by blk_ext⟩
  exact out4_apply _ _ _ _ _ b n l

/-- The sixth result as a whole array, over any arguments. -/
theorem whole5 (m : (ℓ : Loc nD τ sig) → Buf (Elt Ideal) ℓ) (c : Dev nD) :
    (val_main_v223 (F := Ideal) (m ((c.tc : Thread nD τ).loc main_arg0)) (m ((c.tc : Thread nD τ).loc main_arg1)) (m ((c.tc : Thread nD τ).loc main_arg2)) (m ((c.tc : Thread nD τ).loc main_arg3))) = fun i : S8x512x4352.Idx => valueRow (fun x : Fin 256 => proj (m ((c.tc : Thread nD τ).loc main_arg0)) (m ((c.tc : Thread nD τ).loc main_arg1)) (m ((c.tc : Thread nD τ).loc main_arg2)) (m ((c.tc : Thread nD τ).loc main_arg3)) (i 0) (i 2) ⟨3600 + x.val, by omega⟩) (i 1) := by
  refine funext fun i => ?_
  obtain ⟨b, n, l, rfl⟩ : ∃ (b : Fin 8) (n : Fin 512) (l : Fin 4352), i = ix3 b n l := ⟨i 0, i 1, i 2, by blk_ext⟩
  exact out5_apply _ _ _ _ b n l

/-- What the input projection's plain mathematics leaves: the six results, and its arguments as they were. -/
theorem run_whole (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v219) = (fun i : S8x4352x1152.Idx => projPad (m ((c.tc : Thread nD τ).loc main_arg0)) (m ((c.tc : Thread nD τ).loc main_arg1)) (m ((c.tc : Thread nD τ).loc main_arg2)) (m ((c.tc : Thread nD τ).loc main_arg3)) (i 0) (i 1) (i 2))
      ∧ r.2.mem ((c.tc : Thread nD τ).loc main_v220) = (fun i : S8x4352x768.Idx => proj (m ((c.tc : Thread nD τ).loc main_arg0)) (m ((c.tc : Thread nD τ).loc main_arg1)) (m ((c.tc : Thread nD τ).loc main_arg2)) (m ((c.tc : Thread nD τ).loc main_arg3)) (i 0) (i 1) ⟨1040 + (i 2).val, by have : (i 2).val < 768 := (i 2).isLt; omega⟩)
      ∧ r.2.mem ((c.tc : Thread nD τ).loc main_v221) = (fun i : S8x4352x1280.Idx => proj (m ((c.tc : Thread nD τ).loc main_arg0)) (m ((c.tc : Thread nD τ).loc main_arg1)) (m ((c.tc : Thread nD τ).loc main_arg2)) (m ((c.tc : Thread nD τ).loc main_arg3)) (i 0) (i 1) ⟨1808 + (i 2).val, by have : (i 2).val < 1280 := (i 2).isLt; omega⟩)
      ∧ r.2.mem ((c.tc : Thread nD τ).loc main_v207) = (fun i : S8x4352x256.Idx => turned (fun x : Fin 256 => proj (m ((c.tc : Thread nD τ).loc main_arg0)) (m ((c.tc : Thread nD τ).loc main_arg1)) (m ((c.tc : Thread nD τ).loc main_arg2)) (m ((c.tc : Thread nD τ).loc main_arg3)) (i 0) (i 1) ⟨3088 + x.val, by omega⟩) (fun e : Fin 32 => (m ((c.tc : Thread nD τ).loc main_arg4)) (ix1 e)) (i 1).val (i 2) * Ideal.ofBits .f32 0x3E3504F3#32)
      ∧ r.2.mem ((c.tc : Thread nD τ).loc main_v210) = (fun i : S8x4352x256.Idx => turned (fun x : Fin 256 => proj (m ((c.tc : Thread nD τ).loc main_arg0)) (m ((c.tc : Thread nD τ).loc main_arg1)) (m ((c.tc : Thread nD τ).loc main_arg2)) (m ((c.tc : Thread nD τ).loc main_arg3)) (i 0) (i 1) ⟨3344 + x.val, by omega⟩) (fun e : Fin 32 => (m ((c.tc : Thread nD τ).loc main_arg5)) (ix1 e)) (i 1).val (i 2))
      ∧ r.2.mem ((c.tc : Thread nD τ).loc main_v223) = (fun i : S8x512x4352.Idx => valueRow (fun x : Fin 256 => proj (m ((c.tc : Thread nD τ).loc main_arg0)) (m ((c.tc : Thread nD τ).loc main_arg1)) (m ((c.tc : Thread nD τ).loc main_arg2)) (m ((c.tc : Thread nD τ).loc main_arg3)) (i 0) (i 2) ⟨3600 + x.val, by omega⟩) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans ((val_main_v219_eq (StableHlo.launchContents m c)).trans (whole0 m c)),
    (h c).2.1.trans ((val_main_v220_eq (StableHlo.launchContents m c)).trans (whole1 m c)),
    (h c).2.2.1.trans ((val_main_v221_eq (StableHlo.launchContents m c)).trans (whole2 m c)),
    (h c).2.2.2.1.trans ((val_main_v207_eq (StableHlo.launchContents m c)).trans (whole3 m c)),
    (h c).2.2.2.2.1.trans ((val_main_v210_eq (StableHlo.launchContents m c)).trans (whole4 m c)),
    (h c).2.2.2.2.2.1.trans ((val_main_v223_eq (StableHlo.launchContents m c)).trans (whole5 m c)),
    (h c).2.2.2.2.2.2⟩) (Cert.InProjRefIdeal.Value.run m ρ)

end Cert.InProjRefIdeal.Row

namespace Cert.InEq

open Idealize.ShloMosaic Idealize.ShloMosaic.TcCoe Idealize.SL.Sem

/-- The input projection: the optimised call and the plain mathematics leave the same six arrays. -/
theorem inProj : Cert.algebraic_InProjIdeal_InProjRefIdeal := by
  intro m g m' g' _ hagree
  refine ⟨_, _, _, _, _, _, Cert.InProjIdeal.Value.run_blocks m g,
    (θ_run Cert.InProjRefIdeal.defs _ _).mono (fun r h c => ?_) (Cert.InProjRefIdeal.Row.run_whole m' g')⟩
  have a0 := (hagree c).1
  have a1 := (hagree c).2.1
  have a2 := (hagree c).2.2.1
  have a3 := (hagree c).2.2.2.1
  have a4 := (hagree c).2.2.2.2.1
  have a5 := (hagree c).2.2.2.2.2
  refine ⟨(h c).1.trans ?_, (h c).2.1.trans ?_, (h c).2.2.1.trans ?_, (h c).2.2.2.1.trans ?_, (h c).2.2.2.2.1.trans ?_,
    (h c).2.2.2.2.2.1.trans ?_, (h c).2.2.2.2.2.2⟩
  · rw [a0, a1, a2, a3]; exact (Cert.InProjIdeal.Block.final8 m c).symm
  · rw [a0, a1, a2, a3]; exact (Cert.InProjIdeal.Block.final9 m c).symm
  · rw [a0, a1, a2, a3]; exact (Cert.InProjIdeal.Block.final10 m c).symm
  · rw [a0, a1, a2, a3, a4]; exact (Cert.InProjIdeal.Block.final11 m c).symm
  · rw [a0, a1, a2, a3, a5]; exact (Cert.InProjIdeal.Block.final12 m c).symm
  · rw [a0, a1, a2, a3]; exact (Cert.InProjIdeal.Block.final13 m c).symm

end Cert.InEq

end
-- ==== Proof.CtxBlock.lean ====
/- What one grid point of the context tokens' attention kernel writes, read at an index of its block. -/
module

public import proofs.«01_k».proof.Proof.Gen.AttnCtxIdeal.Value
public import proofs.«01_k».proof.Proof.AttnMath
public import Idealize.ShloMosaic.Lib.Pointwise
public import Idealize.ShloMosaic.Lib.Pipeline.ValueKit

@[expose] public section

set_option maxRecDepth 16384

noncomputable section

namespace Cert.AttnCtxIdeal.Block

open Cert.AttnCtxIdeal Cert.AttnCtxIdeal.Gen Idealize.ShloMosaic Idealize.ShloMosaic.TcCoe Cert.AttnMath

/-- The score of key `k` against query `q` on the 32 lanes from `lo` on. -/
def score (x : Vec Ideal S1x256x256 .bf16) (y : Vec Ideal S1x256x256 .bf16) (lo : ℕ) (h : lo + 32 ≤ 256) (q : Fin 256)
    (k : Fin 256) : EReal :=
  ∑ d : Fin 32, y (ix3 0 k ⟨lo + d, by omega⟩) * x (ix3 0 q ⟨lo + d, by omega⟩)

/-- A sum over the lanes, masked to thirty-two of them, is the sum over those. -/
theorem sum_masked (f : Fin 256 → EReal) (b : Fin 256 → BitVec 1) (lo : ℕ) (h : lo + 32 ≤ 256)
    (hb : ∀ l : Fin 256, b l = if lo ≤ l.val ∧ l.val < lo + 32 then 1#1 else 0#1) :
    ∑ l, Scalar.select (b l) (f l) 0 = ∑ d : Fin 32, f ⟨lo + d, by omega⟩ := by
  refine sum_window f lo h _ (fun d => ?_) fun l hl => ?_
  · rw [hb, if_pos ⟨by simp, by simp⟩]; rfl
  · rw [hb, if_neg hl]; rfl

/-- The first map's scores, at a key and a query of the block. -/
theorem pay5_apply (x : Vec Ideal S1x256x256 .bf16) (y : Vec Ideal S1x256x256 .bf16) (k : Fin 256) (q : Fin 256) :
    k0_pay5 (F := Ideal) x y (ix2 k q) = score x y 0 (by decide) q k := by
  pointwise [k0_pay5, k0_pay2, k0_pay3]
  exact sum_masked _ _ 0 (by decide) (by decide +kernel)

/-- The second map's scores, at a key and a query of the block. -/
theorem pay6_apply (x : Vec Ideal S1x256x256 .bf16) (y : Vec Ideal S1x256x256 .bf16) (k : Fin 256) (q : Fin 256) :
    k0_pay6 (F := Ideal) x y (ix2 k q) = score x y 32 (by decide) q k := by
  pointwise [k0_pay6, k0_pay2, k0_pay3]
  exact sum_masked _ _ 32 (by decide) (by decide +kernel)

/-- The third map's scores, at a key and a query of the block. -/
theorem pay8_apply (x : Vec Ideal S1x256x256 .bf16) (y : Vec Ideal S1x256x256 .bf16) (k : Fin 256) (q : Fin 256) :
    k0_pay8 (F := Ideal) (k0_pay2 x) (k0_pay3 y) (iota .tc S256x256 32 [1] iota_S256x256_d1_w32) (ix2 k q) = score x y 64 (by decide) q k := by
  pointwise [k0_pay8, k0_pay2, k0_pay3]
  exact sum_masked _ _ 64 (by decide) (by decide +kernel)

/-- The fourth map's scores, at a key and a query of the block. -/
theorem pay10_apply (x : Vec Ideal S1x256x256 .bf16) (y : Vec Ideal S1x256x256 .bf16) (k : Fin 256) (q : Fin 256) :
    k0_pay10 (F := Ideal) (k0_pay2 x) (k0_pay3 y) (iota .tc S256x256 32 [1] iota_S256x256_d1_w32) (ix2 k q) = score x y 96 (by decide) q k := by
  pointwise [k0_pay10, k0_pay2, k0_pay3]
  exact sum_masked _ _ 96 (by decide) (by decide +kernel)

/-- The fifth map's scores, at a key and a query of the block. -/
theorem pay13_apply (x : Vec Ideal S1x256x256 .bf16) (y : Vec Ideal S1x256x256 .bf16) (k : Fin 256) (q : Fin 256) :
    k0_pay13 (F := Ideal) (k0_pay2 x) (k0_pay3 y) (iota .tc S256x256 32 [1] iota_S256x256_d1_w32) (ix2 k q) = score x y 128 (by decide) q k := by
  pointwise [k0_pay13, k0_pay2, k0_pay3]
  exact sum_masked _ _ 128 (by decide) (by decide +kernel)

/-- The sixth map's scores, at a key and a query of the block. -/
theorem pay15_apply (x : Vec Ideal S1x256x256 .bf16) (y : Vec Ideal S1x256x256 .bf16) (k : Fin 256) (q : Fin 256) :
    k0_pay15 (F := Ideal) (k0_pay2 x) (k0_pay3 y) (iota .tc S256x256 32 [1] iota_S256x256_d1_w32) (ix2 k q) = score x y 160 (by decide) q k := by
  pointwise [k0_pay15, k0_pay2, k0_pay3]
  exact sum_masked _ _ 160 (by decide) (by decide +kernel)

/-- The eighth map's scores, at a key and a query of the block. -/
theorem pay19_apply (x : Vec Ideal S1x256x256 .bf16) (y : Vec Ideal S1x256x256 .bf16) (k : Fin 256) (q : Fin 256) :
    k0_pay19 (F := Ideal) (k0_pay2 x) (k0_pay3 y) (iota .tc S256x256 32 [1] iota_S256x256_d1_w32) (ix2 k q) = score x y 224 (by decide) q k := by
  pointwise [k0_pay19, k0_pay2, k0_pay3]
  exact sum_masked _ _ 224 (by decide) (by decide +kernel)

/-- The seventh map's exponentials. -/
theorem pay20_apply (x : Vec Ideal S1x256x256 .bf16) (y : Vec Ideal S1x256x256 .bf16) (k : Fin 256) (q : Fin 256) :
    k0_pay20 (F := Ideal) (k0_pay2 x) (k0_pay3 y) (iota .tc S256x256 32 [1] iota_S256x256_d1_w32) (ix2 k q)
      = Ideal.exp (score x y 192 (by decide) q k - top (score x y 192 (by decide) q)) := by
  have h : ∀ k, ∑ l : Fin 256, Scalar.select (IntOp.andi (IntOp.cmpi CmpIPredicate.sge (BitVec.ofNat 32 ↑l) 192#32)
          (IntOp.cmpi CmpIPredicate.slt (BitVec.ofNat 32 ↑l) 224#32))
        (y (ix3 0 k l) * x (ix3 0 q l)) 0 = score x y 192 (by decide) q k := fun k =>
    sum_masked _ _ 192 (by decide) (by decide +kernel)
  pointwise [k0_pay20, k0_pay2, k0_pay3]
  simp only [h, negInf_bf16]
  rfl

/-- One map's quotient at channel row `e` of a head's block of values `v`: the weighted sum over the sum weighted by row 64. -/
def quot (s : Fin 256 → EReal) (v : Fin 128 → Fin 256 → EReal) (e : Fin 128) : EReal := Ideal.div (wsum s (v e)) (wsum s (v 64))

/-- A map's quotient from its scores, at a channel row and a query. -/
theorem pay7_apply (s : FVec Ideal S256x256 .bf16) (v : Vec Ideal S1x128x256 .bf16) (e : Fin 128) (q : Fin 256) :
    k0_pay7 (F := Ideal) s v (ix2 e q) = quot (fun k => s (ix2 k q)) (fun e k => v (ix3 0 e k)) e := by
  pointwise [k0_pay7]; simp only [negInf_bf16]; rfl
/-- A map's quotient from its scores, at a channel row and a query. -/
theorem pay9_apply (s : FVec Ideal S256x256 .bf16) (v : Vec Ideal S1x128x256 .bf16) (e : Fin 128) (q : Fin 256) :
    k0_pay9 (F := Ideal) s v (ix2 e q) = quot (fun k => s (ix2 k q)) (fun e k => v (ix3 0 e k)) e := by
  pointwise [k0_pay9]; simp only [negInf_bf16]; rfl
/-- A map's quotient from its scores, at a channel row and a query. -/
theorem pay14_apply (s : FVec Ideal S256x256 .bf16) (v : Vec Ideal S1x128x256 .bf16) (e : Fin 128) (q : Fin 256) :
    k0_pay14 (F := Ideal) s v (ix2 e q) = quot (fun k => s (ix2 k q)) (fun e k => v (ix3 0 e k)) e := by
  pointwise [k0_pay14]; simp only [negInf_bf16]; rfl
/-- A map's quotient from its scores, at a channel row and a query. -/
theorem pay18_apply (s : FVec Ideal S256x256 .bf16) (v : Vec Ideal S1x128x256 .bf16) (e : Fin 128) (q : Fin 256) :
    k0_pay18 (F := Ideal) s v (ix2 e q) = quot (fun k => s (ix2 k q)) (fun e k => v (ix3 0 e k)) e := by
  pointwise [k0_pay18]; simp only [negInf_bf16]; rfl
/-- The third map's quotient, at a channel row and a query. -/
theorem pay12_apply (x : Vec Ideal S1x256x256 .bf16) (y : Vec Ideal S1x256x256 .bf16)
    (v : Vec Ideal S1x128x256 .bf16) (e : Fin 128) (q : Fin 256) :
    k0_pay12 (F := Ideal) (k0_pay8 (k0_pay2 x) (k0_pay3 y) (iota .tc S256x256 32 [1] iota_S256x256_d1_w32))
        (k0_pay11 (k0_pay2 x) (k0_pay3 y) (iota .tc S256x256 32 [1] iota_S256x256_d1_w32)) v (ix2 e q)
      = quot (score x y 64 (by decide) q) (fun e k => v (ix3 0 e k)) e := by
  rw [show score x y 64 (by decide) q = fun k => k0_pay8 (F := Ideal) (k0_pay2 x) (k0_pay3 y)
    (iota .tc S256x256 32 [1] iota_S256x256_d1_w32) (ix2 k q) from funext fun k => (pay8_apply x y k q).symm]
  pointwise [k0_pay12, k0_pay11]; simp only [negInf_bf16]; rfl
/-- The fifth map's quotient, at a channel row and a query. -/
theorem pay17_apply (x : Vec Ideal S1x256x256 .bf16) (y : Vec Ideal S1x256x256 .bf16)
    (v : Vec Ideal S1x128x256 .bf16) (e : Fin 128) (q : Fin 256) :
    k0_pay17 (F := Ideal) (k0_pay13 (k0_pay2 x) (k0_pay3 y) (iota .tc S256x256 32 [1] iota_S256x256_d1_w32))
        (k0_pay16 (k0_pay2 x) (k0_pay3 y) (iota .tc S256x256 32 [1] iota_S256x256_d1_w32)) v (ix2 e q)
      = quot (score x y 128 (by decide) q) (fun e k => v (ix3 0 e k)) e := by
  rw [show score x y 128 (by decide) q = fun k => k0_pay13 (F := Ideal) (k0_pay2 x) (k0_pay3 y)
    (iota .tc S256x256 32 [1] iota_S256x256_d1_w32) (ix2 k q) from funext fun k => (pay13_apply x y k q).symm]
  pointwise [k0_pay17, k0_pay16]; simp only [negInf_bf16]; rfl

/-- The weight of the second map, from the four vectors of the lambda block. -/
def lamOf (l : Vec Ideal S4x32 .f32) : EReal :=
  Ideal.exp (∑ d : Fin 32, l (ix2 0 d) * l (ix2 1 d)) - Ideal.exp (∑ d : Fin 32, l (ix2 2 d) * l (ix2 3 d))
    + Ideal.ofBits .f32 0x3E4CCCCD#32

/-- The lambda the body computes from the lambda vectors. -/
theorem pay4_apply (l : Vec Ideal S4x32 .f32) : k0_pay4 (F := Ideal) l (ix2 0 0) = lamOf l := by
  pointwise [k0_pay4]; rfl

/-- One head's output at channel row `e`: its first map's quotient less `w` times its second's. -/
def headDiff (w : EReal) (s t : Fin 256 → EReal) (v : Fin 128 → Fin 256 → EReal) (e : Fin 128) : EReal :=
  quot s v e - w * quot t v e

/-- The differences of the maps, the heads side by side: lane `l` is channel `l % 64` of head `l / 64`. -/
theorem pay21_apply (w : FVec Ideal S1x1 .f32) (a b c d e f : FVec Ideal S128x256 .f32) (s t : FVec Ideal S256x256 .bf16)
    (v : Vec Ideal S1x128x256 .bf16) (u : Fin 256 → EReal) (q l : Fin 256)
    (ht : ∀ k, t (ix2 k q) = Ideal.exp (u k - top u)) :
    k0_pay21 (F := Ideal) w a b c d e f s t v v (ix2 q l) =
      if l.val / 64 = 0 then a (ix2 ⟨l.val % 64, by omega⟩ q) - w (ix2 0 0) * b (ix2 ⟨l.val % 64, by omega⟩ q)
      else if l.val / 64 = 1 then c (ix2 ⟨l.val % 64, by omega⟩ q) - w (ix2 0 0) * d (ix2 ⟨l.val % 64, by omega⟩ q)
      else if l.val / 64 = 2 then e (ix2 ⟨l.val % 64, by omega⟩ q) - w (ix2 0 0) * f (ix2 ⟨l.val % 64, by omega⟩ q)
      else headDiff (w (ix2 0 0)) u (fun k => s (ix2 k q)) (fun e k => v (ix3 0 e k)) ⟨l.val % 64, by omega⟩ := by
  pointwise [k0_pay21]
  simp only [ht, negInf_bf16]
  have h4 : l.val / 64 = 0 ∨ l.val / 64 = 1 ∨ l.val / 64 = 2 ∨ l.val / 64 = 3 := by omega
  rcases h4 with h | h | h | h
  · have e1 : l.val = l.val % 64 := by omega
    have c1 : l.val < 64 := by omega
    rw [dif_pos c1, if_pos h]
    simp only [← e1]
  · have e1 : l.val - 64 = l.val % 64 := by omega
    have c1 : ¬ l.val < 64 := by omega
    have n0 : ¬ l.val / 64 = 0 := by omega
    have c2 : l.val - 64 < 64 := by omega
    rw [dif_neg c1, dif_pos c2, if_neg n0, if_pos h]
    simp only [e1]
  · have e1 : l.val - 64 - 64 = l.val % 64 := by omega
    have c1 : ¬ l.val < 64 := by omega
    have c2 : ¬ l.val - 64 < 64 := by omega
    have n0 : ¬ l.val / 64 = 0 := by omega
    have n1 : ¬ l.val / 64 = 1 := by omega
    have c3 : l.val - 64 - 64 < 64 := by omega
    rw [dif_neg c1, dif_neg c2, dif_pos c3, if_neg n0, if_neg n1, if_pos h]
    simp only [e1]
  · have e1 : l.val - 64 - 64 - 64 = l.val % 64 := by omega
    have c1 : ¬ l.val < 64 := by omega
    have c2 : ¬ l.val - 64 < 64 := by omega
    have n0 : ¬ l.val / 64 = 0 := by omega
    have n1 : ¬ l.val / 64 = 1 := by omega
    have n2 : ¬ l.val / 64 = 2 := by omega
    have c3 : ¬ l.val - 64 - 64 < 64 := by omega
    rw [dif_neg c1, dif_neg c2, dif_neg c3, if_neg n0, if_neg n1, if_neg n2]
    simp only [e1]
    rfl

/-- The sum of squares over the lanes of a lane's group of 64, as the kernel computes it: against a 0/1 matrix. -/
theorem pay25_apply (x : FVec Ideal S256x256 .f32) (q c : Fin 256) :
    k0_pay25 x (iota .tc S256x256 32 [0] iota_S256x256_d0_w32) 64#32 k0_pay22 k0_pay23 (Scalar.extui (Scalar.cmpi .sgt 64#32 0#32)) (ix2 q c)
      = ∑ e : Fin 64, x (ix2 q ⟨64 * (c.val / 64) + e, by omega⟩) * x (ix2 q ⟨64 * (c.val / 64) + e, by omega⟩) := by
  have hdiv : ∀ l : Fin 256, Scalar.select
                (IntOp.andi
                  (IntOp.cmpi CmpIPredicate.ne
                    (IntOp.subi (BitVec.setWidth 32 (IntOp.cmpi CmpIPredicate.sgt (BitVec.ofNat 32 l.val) 0#32))
                      (BitVec.setWidth 32 (IntOp.cmpi CmpIPredicate.slt (BitVec.ofNat 32 l.val) 0#32)))
                    (Scalar.subi (Scalar.extui (Scalar.cmpi CmpIPredicate.sgt 64#32 0#32))
                      (Scalar.extui (Scalar.cmpi CmpIPredicate.slt 64#32 0#32))))
                  (IntOp.cmpi CmpIPredicate.ne (IntOp.remsi ArithUnit.vector (BitVec.ofNat 32 l.val) 64#32) 0#32))
                (IntOp.subi (IntOp.divsi ArithUnit.vector (BitVec.ofNat 32 l.val) 64#32) 1#32)
                (IntOp.divsi ArithUnit.vector (BitVec.ofNat 32 l.val) 64#32) = BitVec.ofNat 32 (l.val / 64) := by
    decide +kernel
  have hbit : ∀ l c : Fin 4, BitVec.setWidth 32 (IntOp.cmpi CmpIPredicate.eq (BitVec.ofNat 32 l.val) (BitVec.ofNat 32 c.val))
      = if l = c then 1#32 else 0#32 := by decide +kernel
  have one : FloatOps.sitofp (F := Ideal) FTy.f32 1#32 = (1 : EReal) := by
    show (((BitVec.toInt 1#32 : ℤ) : ℝ) : EReal) = 1
    norm_num
  have zero : FloatOps.sitofp (F := Ideal) FTy.f32 0#32 = (0 : EReal) := by
    show (((BitVec.toInt 0#32 : ℤ) : ℝ) : EReal) = 0
    norm_num
  pointwise [k0_pay25, k0_pay22, k0_pay23]
  refine sum_window (fun l => x (ix2 q l) * x (ix2 q l)) (64 * (c.val / 64)) (by omega) _ (fun d => ?_) fun l hl => ?_
  · rw [hdiv, hdiv c, hbit ⟨(64 * (c.val / 64) + d.val) / 64, by omega⟩ ⟨c.val / 64, by omega⟩,
      if_pos (Fin.ext (by show (64 * (c.val / 64) + d.val) / 64 = c.val / 64; omega)), one, mul_one]
  · rw [hdiv, hdiv c, hbit ⟨l.val / 64, by omega⟩ ⟨c.val / 64, by omega⟩,
      if_neg (fun e => by have := congrArg Fin.val e; simp only at this; omega), zero, mul_zero]

/-- The normalized block from the differences, their mean squares and the weights. -/
theorem pay1_apply (x : FVec Ideal S256x256 .f32) (w : FVec Ideal S1x256 .f32) (z : FVec Ideal S256x256 .f32) (q c : Fin 256) :
    k0_pay1 (F := Ideal) x w z (ix3 0 q c)
      = x (ix2 q c) * Ideal.rsqrt (z (ix2 q c) * Ideal.ofBits .f32 0x3C800000#32 + Ideal.ofBits .f32 0x358637BD#32)
          * w (ix2 0 c) * Ideal.ofBits .f32 0x3F4CCCCD#32 := by
  pointwise [k0_pay1]

/-- Scores on equal lanes are equal. -/
theorem score_congr (x : Vec Ideal S1x256x256 .bf16) (y : Vec Ideal S1x256x256 .bf16) {lo lo' : ℕ} (h : lo + 32 ≤ 256)
    (e : lo' = lo) (h' : lo' + 32 ≤ 256) : score x y lo h = score x y lo' h' := by
  subst e; rfl

/-- The attention of one query row before its normalization, at lane `l`. -/
def attnLane (x0 : Vec Ideal S1x256x256 .bf16) (x1 : Vec Ideal S1x256x256 .bf16) (x2 : Vec Ideal S1x512x256 .bf16)
    (x3 : Vec Ideal S4x32 .f32) (q l : Fin 256) : EReal :=
  headDiff (lamOf x3) (score x0 x1 (64 * (l.val / 64)) (by omega) q) (score x0 x1 (64 * (l.val / 64) + 32) (by omega) q)
    (fun e k => x2 (ix3 0 ⟨128 * (l.val / 64) + e, by omega⟩ k)) ⟨l.val % 64, by omega⟩

/-- The block of attention differences, read at query `q` and lane `l`. -/
theorem pay29_apply (x0 : Vec Ideal S1x256x256 .bf16) (x1 : Vec Ideal S1x256x256 .bf16) (x2 : Vec Ideal S1x512x256 .bf16)
    (x3 : Vec Ideal S4x32 .f32) (x4 : Vec Ideal S1x256 .f32) (q l : Fin 256) :
    k0_pay29 (F := Ideal) x0 x1 x2 x3 x4 (ix2 q l) = attnLane x0 x1 x2 x3 q l := by
  have hz3 : (![0, 0, 0] : Fin 3 → ℕ) = fun _ => 0 := by decide
  have hz2 : (![0, 0] : Fin 2 → ℕ) = fun _ => 0 := by decide
  have e0 : View.ld x0 r0_0 = x0 := View.ld_unit_zero hz3 _ _
  have e1 : View.ld x1 r0_0 = x1 := View.ld_unit_zero hz3 _ _
  have e3 : View.ld x3 r0_1 = x3 := View.ld_unit_zero hz2 _ _
  have v0 : ∀ (e : Fin 128) (k : Fin 256), View.ld x2 r0_2 (ix3 0 e k) = x2 (ix3 0 ⟨128 * 0 + e, by omega⟩ k) := by
    intro e k; pointwise
  have v1 : ∀ (e : Fin 128) (k : Fin 256), View.ld x2 r0_3 (ix3 0 e k) = x2 (ix3 0 ⟨128 * 1 + e, by omega⟩ k) := by
    intro e k; pointwise
  have v2 : ∀ (e : Fin 128) (k : Fin 256), View.ld x2 r0_4 (ix3 0 e k) = x2 (ix3 0 ⟨128 * 2 + e, by omega⟩ k) := by
    intro e k; pointwise
  have v3 : ∀ (e : Fin 128) (k : Fin 256), View.ld x2 r0_5 (ix3 0 e k) = x2 (ix3 0 ⟨128 * 3 + e, by omega⟩ k) := by
    intro e k; pointwise
  unfold k0_pay29 k0_pay26 k0_pay27 k0_pay28
  rw [e0, e1, e3, pay21_apply _ _ _ _ _ _ _ _ _ _ _ _ _ fun k => pay20_apply x0 x1 k q, pay7_apply, pay9_apply, pay12_apply,
    pay14_apply, pay17_apply, pay18_apply, pay4_apply]
  simp only [pay5_apply, pay6_apply, v0, v1, v2, v3]
  rw [show (fun k => k0_pay10 (F := Ideal) (k0_pay2 x0) (k0_pay3 x1) (iota .tc S256x256 32 [1] iota_S256x256_d1_w32) (ix2 k q))
      = score x0 x1 96 (by decide) q from funext fun k => pay10_apply x0 x1 k q,
    show (fun k => k0_pay15 (F := Ideal) (k0_pay2 x0) (k0_pay3 x1) (iota .tc S256x256 32 [1] iota_S256x256_d1_w32) (ix2 k q))
      = score x0 x1 160 (by decide) q from funext fun k => pay15_apply x0 x1 k q,
    show (fun k => k0_pay19 (F := Ideal) (k0_pay2 x0) (k0_pay3 x1) (iota .tc S256x256 32 [1] iota_S256x256_d1_w32) (ix2 k q))
      = score x0 x1 224 (by decide) q from funext fun k => pay19_apply x0 x1 k q]
  unfold attnLane
  have h4 : l.val / 64 = 0 ∨ l.val / 64 = 1 ∨ l.val / 64 = 2 ∨ l.val / 64 = 3 := by omega
  rcases h4 with h | h | h | h
  · rw [if_pos h, score_congr x0 x1 (lo := 64 * (l.val / 64)) (lo' := 0) _ (by omega) (by decide),
      score_congr x0 x1 (lo := 64 * (l.val / 64) + 32) (lo' := 32) _ (by omega) (by decide)]
    simp only [h]; rfl
  · rw [if_neg (by omega), if_pos h, score_congr x0 x1 (lo := 64 * (l.val / 64)) (lo' := 64) _ (by omega) (by decide),
      score_congr x0 x1 (lo := 64 * (l.val / 64) + 32) (lo' := 96) _ (by omega) (by decide)]
    simp only [h]; rfl
  · rw [if_neg (by omega), if_neg (by omega), if_pos h, score_congr x0 x1 (lo := 64 * (l.val / 64)) (lo' := 128) _ (by omega) (by decide),
      score_congr x0 x1 (lo := 64 * (l.val / 64) + 32) (lo' := 160) _ (by omega) (by decide)]
    simp only [h]; rfl
  · rw [if_neg (by omega), if_neg (by omega), if_neg (by omega), score_congr x0 x1 (lo := 64 * (l.val / 64)) (lo' := 192) _ (by omega) (by decide),
      score_congr x0 x1 (lo := 64 * (l.val / 64) + 32) (lo' := 224) _ (by omega) (by decide)]
    simp only [h]

/-- One query row normalized over each group of 64 lanes, weighted by `w`, read at lane `c`. -/
def normLane (o : Fin 256 → EReal) (w : EReal) (c : Fin 256) : EReal :=
  o c * Ideal.rsqrt ((∑ e : Fin 64, o ⟨64 * (c.val / 64) + e, by omega⟩ * o ⟨64 * (c.val / 64) + e, by omega⟩)
      * Ideal.ofBits .f32 0x3C800000#32 + Ideal.ofBits .f32 0x358637BD#32) * w * Ideal.ofBits .f32 0x3F4CCCCD#32

/-- What a grid point stores, read at query `q` and lane `c` of its block. -/
theorem out_apply (x0 : Vec Ideal S1x256x256 .bf16) (x1 : Vec Ideal S1x256x256 .bf16) (x2 : Vec Ideal S1x512x256 .bf16)
    (x3 : Vec Ideal S4x32 .f32) (x4 : Vec Ideal S1x256 .f32) (q c : Fin 256) :
    out0_5 (F := Ideal) x0 x1 x2 x3 x4 (ix3 0 q c) = normLane (attnLane x0 x1 x2 x3 q) (x4 (ix2 0 c)) c := by
  have hz3 : (![0, 0, 0] : Fin 3 → ℕ) = fun _ => 0 := by decide
  have hz2 : (![0, 0] : Fin 2 → ℕ) = fun _ => 0 := by decide
  have e4 : View.ld x4 r0_6 = x4 := View.ld_unit_zero hz2 _ _
  have e24 : k0_pay24 (F := Ideal) x4 (ix2 0 c) = x4 (ix2 0 c) := by pointwise [k0_pay24]
  unfold out0_5
  rw [View.canon_unit_zero hz3, e4, pay1_apply, pay25_apply, e24]
  simp only [pay29_apply]
  rfl

end Cert.AttnCtxIdeal.Block

end
-- ==== Proof.CtxValue.lean ====
/- The context tokens' attention kernel's result array after the run, read at an index from the argument arrays. -/
module

public import proofs.«01_k».proof.Proof.CtxBlock

@[expose] public section

set_option maxRecDepth 16384

noncomputable section

namespace Cert.AttnCtxIdeal.Block

open Cert.AttnCtxIdeal Cert.AttnCtxIdeal.Gen Idealize.ShloMosaic Idealize.ShloMosaic.TcCoe Cert.AttnMath Idealize.SL.Sem
open Idealize.ShloMosaic.Pipeline (Dat)

variable (m : (ℓ : Loc nD τ sig) → Buf (Elt Ideal) ℓ)

/-- The block indices of the windows at a grid point. -/
theorem idx : ∀ t : Fin grid0.N, win0_0.index t = ![(grid0.coords t 0).val, 16, 0]
    ∧ win0_1.index t = ![(grid0.coords t 0).val, 16, 0] ∧ win0_2.index t = ![(grid0.coords t 0).val, 0, 16]
    ∧ win0_3.index t = ![0, 0] ∧ win0_4.index t = ![0, 0]
    ∧ win0_5.index t = ![(grid0.coords t 0).val, 0, 0] := by decide +kernel

/-- The score of context key `k` against context query `n` of batch `b` on the 32 lanes from `lo` on. -/
def scoreA (Q K : S8x4352x256.Idx → EReal) (lo : ℕ) (h : lo + 32 ≤ 256) (b : Fin 8) (n : Fin 256) (k : Fin 256) : EReal :=
  ∑ d : Fin 32, K (ix3 b ⟨4096 + k.val, by omega⟩ ⟨lo + d, by omega⟩) * Q (ix3 b ⟨4096 + n.val, by omega⟩ ⟨lo + d, by omega⟩)

/-- The attention of context query `n` of batch `b` before its normalization, at lane `l`. -/
def laneA (Q K : S8x4352x256.Idx → EReal) (W : S8x512x4352.Idx → EReal) (L : S4x32.Idx → EReal) (b : Fin 8) (n : Fin 256)
    (l : Fin 256) : EReal :=
  headDiff (lamOf L) (scoreA Q K (64 * (l.val / 64)) (by omega) b n) (scoreA Q K (64 * (l.val / 64) + 32) (by omega) b n)
    (fun e k => W (ix3 b ⟨128 * (l.val / 64) + e, by omega⟩ ⟨4096 + k.val, by omega⟩)) ⟨l.val % 64, by omega⟩

/-- The block of queries a grid point reads, in the whole array's indices. -/
theorem blk0 (c : Dev nD) (t : Fin cfg0.N) (b : Fin 8) (q l : Fin 256) (hb : b.val = (grid0.coords t 0).val) :
    iblk m c 0 t (ix3 0 q l) = (m ((c.tc : Thread nD τ).loc main_arg0)) (ix3 b ⟨4096 + q.val, by omega⟩ l) := by
  blk_ext [iblk, V, idx t]

/-- The block of keys a grid point reads, in the whole array's indices. -/
theorem blk1 (c : Dev nD) (t : Fin cfg0.N) (b : Fin 8) (k : Fin 256) (l : Fin 256) (hb : b.val = (grid0.coords t 0).val) :
    iblk m c 1 t (ix3 0 k l) = (m ((c.tc : Thread nD τ).loc main_arg1)) (ix3 b ⟨4096 + k.val, by omega⟩ l) := by
  blk_ext [iblk, V, idx t]

/-- The block of value rows a grid point reads, in the whole array's indices. -/
theorem blk2 (c : Dev nD) (t : Fin cfg0.N) (b : Fin 8) (e : Fin 512) (k : Fin 256) (hb : b.val = (grid0.coords t 0).val) :
    iblk m c 2 t (ix3 0 e k) = (m ((c.tc : Thread nD τ).loc main_arg2)) (ix3 b e ⟨4096 + k.val, by omega⟩) := by
  blk_ext [iblk, V, idx t]

/-- The lambda vectors a grid point reads: the whole array. -/
theorem blk3 (c : Dev nD) (t : Fin cfg0.N) (d : Fin 4) (e : Fin 32) :
    iblk m c 3 t (ix2 d e) = (m ((c.tc : Thread nD τ).loc main_arg3)) (ix2 d e) := by
  blk_ext [iblk, V, idx t]

/-- The norm weight a grid point reads: the weight of the lane's channel in its head. -/
theorem blk4 (c : Dev nD) (t : Fin cfg0.N) (l : Fin 256) :
    iblk m c 4 t (ix2 0 l) = (m ((c.tc : Thread nD τ).loc main_arg4)) (ix1 ⟨l.val % 64, by omega⟩) := by
  have h : iblk m c 4 t (ix2 0 l) = V m c main_v3 (ix2 0 l) := by
    blk_ext [iblk, idx t]
  rw [h]
  entry_read
  pointwise

/-- Where the result's block of a grid point lies in the whole array. -/
theorem emb5 (t : Fin cfg0.N) (b : Fin 8) (q l : Fin 256) (hb : b.val = (grid0.coords t 0).val) :
    ((cfg0.win 5).blk t).view.emb (ix3 0 q l) = (ix3 b q l : S8x256x256.Idx) := by
  blk_ext [idx t]

/-- What the call leaves in the result array, at every index. -/
theorem final (c : Dev nD) :
    (dats m 0 c).arrAt 5 cfg0.N = fun i : S8x256x256.Idx =>
      normLane (laneA (m ((c.tc : Thread nD τ).loc main_arg0)) (m ((c.tc : Thread nD τ).loc main_arg1))
        (m ((c.tc : Thread nD τ).loc main_arg2)) (m ((c.tc : Thread nD τ).loc main_arg3)) (i 0) (i 1))
        ((m ((c.tc : Thread nD τ).loc main_arg4)) (ix1 ⟨(i 2).val % 64, Nat.mod_lt _ (by decide)⟩)) (i 2) := by
  refine (dats m 0 c).arrAt_eq_of_covers 5 _ (by decide +kernel) fun t hf y => ?_
  obtain ⟨q, l, rfl⟩ : ∃ (q l : Fin 256), y = ix3 0 q l := ⟨y 1, y 2, by blk_ext⟩
  have h0 : (grid0.coords t 0).val < 8 := (grid0.coords t 0).isLt
  rw [emb5 t ⟨_, h0⟩ q l rfl]
  blk_simp
  rw [after0_5, out_apply, blk4 m c t l]
  have hs : ∀ (lo : ℕ) (h : lo + 32 ≤ 256), score (iblk m c 0 t) (iblk m c 1 t) lo h q
      = scoreA (m ((c.tc : Thread nD τ).loc main_arg0)) (m ((c.tc : Thread nD τ).loc main_arg1)) lo h
          ⟨_, h0⟩ q := fun lo h => by
    funext k
    refine Finset.sum_congr rfl fun d _ => ?_
    rw [blk0 m c t ⟨_, h0⟩ q _ rfl, blk1 m c t ⟨_, h0⟩ k _ rfl]
  have hl : lamOf (iblk m c 3 t) = lamOf (m ((c.tc : Thread nD τ).loc main_arg3)) := by
    unfold lamOf
    simp only [blk3]
  have ho : attnLane (iblk m c 0 t) (iblk m c 1 t) (iblk m c 2 t) (iblk m c 3 t) q
      = laneA (m ((c.tc : Thread nD τ).loc main_arg0)) (m ((c.tc : Thread nD τ).loc main_arg1))
          (m ((c.tc : Thread nD τ).loc main_arg2)) (m ((c.tc : Thread nD τ).loc main_arg3))
          ⟨_, h0⟩ q := by
    funext l
    unfold attnLane laneA
    rw [hs, hs, hl]
    congr 1
    funext e k
    exact blk2 m c t ⟨_, h0⟩ _ k rfl
  rw [ho]
  rfl

end Cert.AttnCtxIdeal.Block

end
-- ==== Proof.CtxRef.lean ====
/- The context tokens' attention reference's result read at an index from its arguments. -/
module

public import proofs.«01_k».proof.Proof.Gen.AttnCtxRefIdeal.Read
public import proofs.«01_k».proof.Proof.AttnMath
public import Idealize.ShloMosaic.Lib.Pointwise
public import Idealize.ShloMosaic.Lib.Pipeline.ValueKit

@[expose] public section

set_option maxRecDepth 16384

noncomputable section

namespace Cert.AttnCtxRefIdeal.Row

open Cert.AttnCtxRefIdeal Cert.AttnCtxRefIdeal.Gen Cert.AttnCtxRefIdeal.Read Idealize.ShloMosaic Idealize.ShloMosaic.TcCoe Cert.AttnMath

variable (x0 x1 : (⟨S8x4352x256, .bf16⟩ : BufTy).Contents (Elt Ideal)) (x2 : (⟨S8x512x4352, .bf16⟩ : BufTy).Contents (Elt Ideal))
variable (x3 : (⟨S4x32, .f32⟩ : BufTy).Contents (Elt Ideal)) (x4 : (⟨S64, .f32⟩ : BufTy).Contents (Elt Ideal))

/-- The score of key `k` against query `n` of batch `b` on the 32 lanes from `lo` on. -/
def scoreR (lo : ℕ) (h : lo + 32 ≤ 256) (b : Fin 8) (n : Fin 256) (k : Fin 256) : EReal :=
  ∑ d : Fin 32, x0 (ix3 b ⟨4096 + n.val, by omega⟩ ⟨lo + d, by omega⟩) * x1 (ix3 b ⟨4096 + k.val, by omega⟩ ⟨lo + d, by omega⟩)

/-- The reference's scores at a query and a key. -/
theorem score_apply (b : Fin 8) (h : Fin 4) (j : Fin 2) (n : Fin 256) (k : Fin 256) :
    val_main_v25 (F := Ideal) x0 x1 (ix5 b h j n k) = scoreR x0 x1 (64 * h.val + 32 * j.val) (by omega) b n k := by
  pointwise [val_main_v25, val_main_v5, val_main_v4, val_main_v3, val_main_v2, val_main_v1, val_main_v0]
  unfold scoreR
  refine Finset.sum_congr rfl fun d _ => ?_
  congr 1 <;> blk_ext

/-- The reference's largest score of a query. -/
theorem top_apply (b : Fin 8) (h : Fin 4) (j : Fin 2) (n : Fin 256) :
    val_main_v28 (F := Ideal) x0 x1 (ix4 b h j n) = top (scoreR x0 x1 (64 * h.val + 32 * j.val) (by omega) b n) := by
  have e : val_main_v26 (F := Ideal) x0 x1 (ix4 b h j n) = top (scoreR x0 x1 (64 * h.val + 32 * j.val) (by omega) b n) := by
    unfold val_main_v26
    have hs : ∀ k, val_main_v25 (F := Ideal) x0 x1 (ix5 b h j n k) = scoreR x0 x1 (64 * h.val + 32 * j.val) (by omega) b n k :=
      score_apply x0 x1 b h j n
    generalize val_main_v25 (F := Ideal) x0 x1 = y at hs ⊢
    pointwise [val_main_cst_2]
    simp only [hs, negInf_f32]
    rfl
  rw [val_main_v28_apply, e]
  pointwise [val_main_v27, val_main_cst_3]
  rw [negInf_f32]
  exact max_eq_right bot_le

/-- The reference's softmax at a query and a key. -/
theorem prob_apply (b : Fin 8) (h : Fin 4) (j : Fin 2) (n : Fin 256) (k : Fin 256) :
    val_main_v36 (F := Ideal) x0 x1 (ix5 b h j n k)
      = Ideal.div (Ideal.exp (scoreR x0 x1 (64 * h.val + 32 * j.val) (by omega) b n k - top (scoreR x0 x1 (64 * h.val + 32 * j.val) (by omega) b n)))
          (norm (scoreR x0 x1 (64 * h.val + 32 * j.val) (by omega) b n)) := by
  have hs : ∀ k, val_main_v25 (F := Ideal) x0 x1 (ix5 b h j n k) = scoreR x0 x1 (64 * h.val + 32 * j.val) (by omega) b n k :=
      score_apply x0 x1 b h j n
  have ht := top_apply x0 x1 b h j n
  unfold val_main_v36 val_main_v35 val_main_v34 val_main_v33 val_main_v32 val_main_v31 val_main_v30 val_main_v29
  generalize val_main_v25 (F := Ideal) x0 x1 = y at hs ⊢
  generalize val_main_v28 (F := Ideal) x0 x1 = z at ht ⊢
  pointwise [val_main_cst_4]
  simp only [hs, ht]
  rfl

/-- The weight of the second map, from the four vectors of the lambda parameters. -/
def lamR : EReal :=
  Ideal.exp (∑ d : Fin 32, x3 (ix2 0 d) * x3 (ix2 1 d)) - Ideal.exp (∑ d : Fin 32, x3 (ix2 2 d) * x3 (ix2 3 d))
    + Ideal.ofBits .f32 0x3E4CCCCD#32

/-- The reference's lambda. -/
theorem lam_apply (i : S_.Idx) : val_main_v24 (F := Ideal) x3 i = lamR x3 := by
  pointwise [val_main_v24, val_main_v23, val_main_v22, val_main_v21, val_main_v20, val_main_v19, val_main_v18, val_main_v17, val_main_v16, val_main_v15,
     val_main_v14, val_main_v13, val_main_v12, val_main_v11, val_main_v10, val_main_v9, val_main_cst, val_main_cst_0, val_main_cst_1]
  rfl

/-- The difference of the two maps at a query and a key. -/
theorem diff_apply (b : Fin 8) (h : Fin 4) (n : Fin 256) (k : Fin 256) :
    val_main_v43 (F := Ideal) x0 x1 x3 (ix4 b h n k) = val_main_v36 (F := Ideal) x0 x1 (ix5 b h 0 n k)
      - lamR x3 * val_main_v36 (F := Ideal) x0 x1 (ix5 b h 1 n k) := by
  rw [val_main_v43_apply, val_main_v42_apply, val_main_v41_apply, lam_apply, val_main_v40_apply, val_main_v39_apply,
    val_main_v38_apply, val_main_v37_apply]
  have e0 : idx_main_v37 (idx_main_v38 (ix4 b h n k)) = ix5 b h 0 n k := by blk_ext
  have e1 : idx_main_v39 (idx_main_v40 (ix4 b h n k)) = ix5 b h 1 n k := by blk_ext
  rw [e0, e1]
  rfl

/-- The reference's values at a channel and a key. -/
theorem value_apply (b : Fin 8) (h : Fin 4) (e : Fin 64) (k : Fin 256) :
    val_main_v8 (F := Ideal) x2 (ix4 b h e k) = x2 (ix3 b ⟨128 * h.val + e, by omega⟩ ⟨4096 + k.val, by omega⟩) := by
  rw [val_main_v8_apply, val_main_v7_apply, val_main_v6_apply]
  have e0 : idx_main_v7 (idx_main_v8 (ix4 b h e k)) = ix3 b ⟨128 * h.val + e, by omega⟩ ⟨4096 + k.val, by omega⟩ := by blk_ext
  rw [e0]
  rfl

/-- The attention of query `n` of batch `b` before its normalization, at channel `e` of head `h`. -/
def laneR (b : Fin 8) (n : Fin 256) (h : Fin 4) (e : Fin 64) : EReal :=
  diffAttn (lamR x3) (scoreR x0 x1 (64 * h.val) (by omega) b n) (scoreR x0 x1 (64 * h.val + 32) (by omega) b n)
    fun k => x2 (ix3 b ⟨128 * h.val + e, by omega⟩ ⟨4096 + k.val, by omega⟩)

/-- The reference's head output before the normalization. -/
theorem lane_apply (b : Fin 8) (n : Fin 256) (h : Fin 4) (e : Fin 64) :
    val_main_v45 (F := Ideal) x0 x1 x2 x3 (ix4 b n h e) = laneR x0 x1 x2 x3 b n h e := by
  rw [val_main_v45_apply, val_main_v44_apply]
  unfold laneR diffAttn
  refine Finset.sum_congr rfl fun k _ => ?_
  have e0 : lidx_main_v44 (idx_main_v45 (ix4 b n h e)) k = ix4 b h e k := by blk_ext
  have e1 : ridx_main_v44 (idx_main_v45 (ix4 b n h e)) k = ix4 b h n k := by blk_ext
  rw [e0, e1, value_apply, diff_apply, prob_apply, prob_apply]
  rfl

/-- The reference's result at query `n` of batch `b` and lane `l`: normalized over the channels of the lane's head. -/
theorem out_apply (b : Fin 8) (n : Fin 256) (l : Fin 256) :
    val_main_v61 (F := Ideal) x0 x1 x2 x3 x4 (ix3 b n l) =
      laneR x0 x1 x2 x3 b n ⟨l.val / 64, by omega⟩ ⟨l.val % 64, by omega⟩
        * Ideal.rsqrt (Ideal.div (∑ e : Fin 64, laneR x0 x1 x2 x3 b n ⟨l.val / 64, by omega⟩ e * laneR x0 x1 x2 x3 b n ⟨l.val / 64, by omega⟩ e)
              (Ideal.ofBits .f32 0x42800000#32) + Ideal.ofBits .f32 0x358637BD#32)
        * x4 (ix1 ⟨l.val % 64, by omega⟩) * Ideal.ofBits .f32 0x3F4CCCCD#32 := by
  have hl : ∀ h e, val_main_v45 (F := Ideal) x0 x1 x2 x3 (ix4 b n h e) = laneR x0 x1 x2 x3 b n h e := lane_apply x0 x1 x2 x3 b n
  unfold val_main_v61 val_main_v60 val_main_v59 val_main_v58 val_main_v57 val_main_v56 val_main_v55 val_main_v54 val_main_v53 val_main_v52 val_main_v51 val_main_v50 val_main_v49 val_main_v48 val_main_v47 val_main_v46
  generalize val_main_v45 (F := Ideal) x0 x1 x2 x3 = y at hl ⊢
  pointwise [val_main_cst_5, val_main_cst_6, val_main_cst_7, val_main_cst_8]
  simp only [hl]

end Cert.AttnCtxRefIdeal.Row

end
-- ==== Proof.CtxEq.lean ====
/- The context tokens' attention kernel's array equals the reference's, for finite operands and values carrying a row of ones per head. -/
module

public import proofs.«01_k».proof.Proof.CtxValue
public import proofs.«01_k».proof.Proof.CtxRef
public import proofs.«01_k».proof.Proof.AttnEq
public import proofs.«01_k».proof.Proof.Gen.Pre_attn_ctx_pre

@[expose] public section

set_option maxRecDepth 16384

noncomputable section

namespace Cert.CtxEq

open Idealize.ShloMosaic Cert.AttnMath Cert.AttnCtxIdeal.Block Cert.AttnCtxRefIdeal.Row
open Cert.AttnEq (inf_bf16 inf_f32 one_bf16 of_bit lit_real mean_eq)
open Cert.Pre_attn_ctx_pre (S8x256x256 S8x512x256 S8x4352x256 S8x512x4352 S4x32 S64)

/-- What the precondition says of the arrays, index by index. -/
structure Ok (q k : S8x4352x256.Idx → EReal) (v : S8x512x4352.Idx → EReal) (l : S4x32.Idx → EReal) : Prop where
  fin_q : ∀ (b : Fin 8) (n c : Fin 256), max (q (ix3 b ⟨4096 + n.val, by omega⟩ c)) (-(q (ix3 b ⟨4096 + n.val, by omega⟩ c))) < ⊤
  fin_k : ∀ (b : Fin 8) (n c : Fin 256), max (k (ix3 b ⟨4096 + n.val, by omega⟩ c)) (-(k (ix3 b ⟨4096 + n.val, by omega⟩ c))) < ⊤
  fin_v : ∀ (b : Fin 8) (e : Fin 512) (n : Fin 256), max (v (ix3 b e ⟨4096 + n.val, by omega⟩)) (-(v (ix3 b e ⟨4096 + n.val, by omega⟩))) < ⊤
  fin_l : ∀ i, max (l i) (-(l i)) < ⊤
  one : ∀ (b : Fin 8) (h : Fin 4) (n : Fin 256), v (ix3 b ⟨128 * h.val + 64, by omega⟩ ⟨4096 + n.val, by omega⟩) = 1

/-- The precondition's arrays of truth values, all true, give the facts index by index. -/
theorem ok_of (q k : FVec Ideal S8x4352x256 .bf16) (v : FVec Ideal S8x512x4352 .bf16) (l : FVec Ideal S4x32 .f32) (w : FVec Ideal S64 .f32)
    (h0 : (Cert.Pre_attn_ctx_pre.fn (F := Ideal) q k v l w).1 = fun _ => 1#1)
    (h1 : (Cert.Pre_attn_ctx_pre.fn (F := Ideal) q k v l w).2.1 = fun _ => 1#1)
    (h2 : (Cert.Pre_attn_ctx_pre.fn (F := Ideal) q k v l w).2.2.1 = fun _ => 1#1)
    (h3 : (Cert.Pre_attn_ctx_pre.fn (F := Ideal) q k v l w).2.2.2.1 = fun _ => 1#1)
    (h4 : (Cert.Pre_attn_ctx_pre.fn (F := Ideal) q k v l w).2.2.2.2 = fun _ => 1#1) : Ok q k v l where
  fin_q b n c := by
    have e0 : extractStridedSlice S8x256x256 ![0, 4096, 0] q Cert.Pre_attn_ctx_pre.Facts.slices_S8x4352x256_S8x256x256_0_4096_0 (ix3 b n c) = q (ix3 b ⟨4096 + n.val, by omega⟩ c) := by
      pointwise
    rw [← e0, ← inf_bf16]
    exact of_bit (congrFun h0 (ix3 b n c))
  fin_k b n c := by
    have e0 : extractStridedSlice S8x256x256 ![0, 4096, 0] k Cert.Pre_attn_ctx_pre.Facts.slices_S8x4352x256_S8x256x256_0_4096_0 (ix3 b n c) = k (ix3 b ⟨4096 + n.val, by omega⟩ c) := by
      pointwise
    rw [← e0, ← inf_bf16]
    exact of_bit (congrFun h1 (ix3 b n c))
  fin_v b e n := by
    have e0 : extractStridedSlice S8x512x256 ![0, 0, 4096] v Cert.Pre_attn_ctx_pre.Facts.slices_S8x512x4352_S8x512x256_0_0_4096 (ix3 b e n) = v (ix3 b e ⟨4096 + n.val, by omega⟩) := by
      pointwise
    rw [← e0, ← inf_bf16]
    exact of_bit (congrFun h2 (ix3 b e n))
  fin_l i := by
    rw [← inf_f32]
    exact of_bit (congrFun h3 i)
  one b h n := by
    rw [← one_bf16]
    have e := congrFun h4 (ix3 b h n)
    simp only [Cert.Pre_attn_ctx_pre.fn] at e
    have e2 := of_bit e
    refine Eq.trans ?_ e2
    symm
    pointwise
    congr 1
    blk_ext

variable {q k : S8x4352x256.Idx → EReal} {v : S8x512x4352.Idx → EReal} {l : S4x32.Idx → EReal}

/-- The two sides' scores are the same sum. -/
theorem score_eq (q k : S8x4352x256.Idx → EReal) (lo : ℕ) (h : lo + 32 ≤ 256) (b : Fin 8) (n : Fin 256) :
    scoreA q k lo h b n = scoreR q k lo h b n := by
  funext j
  exact Finset.sum_congr rfl fun d _ => mul_comm _ _

/-- With finite arguments a score is a real number. -/
theorem score_real (H : Ok q k v l) (lo : ℕ) (h : lo + 32 ≤ 256) (b : Fin 8) (n : Fin 256) :
    ∃ s : Fin 256 → ℝ, scoreR q k lo h b n = fun j => ((s j : ℝ) : EReal) := by
  obtain ⟨rq, hq⟩ := exists_reals (fun c => H.fin_q b n c)
  obtain ⟨rk, hk⟩ := exists_reals (x := fun p : Fin 256 × Fin 256 => k (ix3 b ⟨4096 + p.1.val, by omega⟩ p.2)) (fun p => H.fin_k b p.1 p.2)
  have hk' : ∀ j c : Fin 256, k (ix3 b ⟨4096 + j.val, by omega⟩ c) = (rk (j, c) : EReal) := fun j c => hk (j, c)
  refine ⟨fun j => ∑ d : Fin 32, rq ⟨lo + d, by omega⟩ * rk (j, ⟨lo + d, by omega⟩), ?_⟩
  funext j
  unfold scoreR
  simp only [hq, hk', ← EReal.coe_mul, sum_coe]

/-- With finite lambda vectors lambda is a real number. -/
theorem lam_real (H : Ok q k v l) : ∃ r : ℝ, lamR l = (r : EReal) := by
  obtain ⟨rl, hl⟩ := exists_reals H.fin_l
  obtain ⟨c, hc⟩ := lit_real
  refine ⟨Real.exp (∑ d : Fin 32, rl (ix2 0 d) * rl (ix2 1 d)) - Real.exp (∑ d : Fin 32, rl (ix2 2 d) * rl (ix2 3 d)) + c, ?_⟩
  unfold lamR
  simp only [hl, hc, ← EReal.coe_mul, sum_coe, Ideal.exp_coe, ← EReal.coe_sub, ← EReal.coe_add]

/-- A lane of the two sides before the normalization is the same. -/
theorem lane_eq (H : Ok q k v l) (b : Fin 8) (n : Fin 256) (c : Fin 256) :
    laneA q k v l b n c = laneR q k v l b n ⟨c.val / 64, by omega⟩ ⟨c.val % 64, by omega⟩ := by
  obtain ⟨s, hs⟩ := score_real H (64 * (c.val / 64)) (by omega) b n
  obtain ⟨t, ht⟩ := score_real H (64 * (c.val / 64) + 32) (by omega) b n
  obtain ⟨r, hr⟩ := lam_real H
  obtain ⟨rv, hv⟩ := exists_reals (fun j => H.fin_v b ⟨128 * (c.val / 64) + c.val % 64, by omega⟩ j)
  have h1 : ∀ j : Fin 256, v (ix3 b ⟨128 * (c.val / 64) + (64 : Fin 128).val, by omega⟩ ⟨4096 + j.val, by omega⟩) = 1 := fun j => H.one b ⟨c.val / 64, by omega⟩ j
  have hl : lamOf l = lamR l := rfl
  unfold laneA laneR headDiff quot
  simp only [h1]
  rw [score_eq, score_eq, hs, ht, hl, hr]
  have := quotient_eq (by norm_num) r s t rv
  simp only [← hv] at this
  exact this

/-- The two results at one index. -/
theorem out_eq (H : Ok q k v l) (w : S64.Idx → EReal) (b : Fin 8) (n : Fin 256) (c : Fin 256) :
    normLane (laneA q k v l b n) (w (ix1 ⟨c.val % 64, by omega⟩)) c
      = Cert.AttnCtxRefIdeal.Read.val_main_v61 (F := Ideal) q k v l w (ix3 b n c) := by
  rw [Cert.AttnCtxRefIdeal.Row.out_apply]
  unfold normLane
  rw [← mean_eq, ← lane_eq H]
  have hs : ∀ e : Fin 64, laneA q k v l b n ⟨64 * (c.val / 64) + e, by omega⟩ = laneR q k v l b n ⟨c.val / 64, by omega⟩ e := fun e => by
    rw [lane_eq H]
    have h1 : (64 * (c.val / 64) + e.val) / 64 = c.val / 64 := by omega
    have h2 : (64 * (c.val / 64) + e.val) % 64 = e.val := by omega
    congr 1 <;> exact Fin.ext (by assumption)
  simp only [hs]

end Cert.CtxEq

end
-- ==== Proof.ModValue.lean ====
/- The modulation table: the kernel's result array after the run, read at an index from the argument arrays. -/
module

public import proofs.«01_k».proof.Proof.Gen.ModulationIdeal.Value
public import Idealize.ShloMosaic.Lib.Pointwise
public import Idealize.ShloMosaic.Lib.Pipeline.ValueKit

@[expose] public section

set_option maxRecDepth 16384

noncomputable section

namespace Cert.ModulationIdeal.Block

open Cert.ModulationIdeal Cert.ModulationIdeal.Gen Idealize.ShloMosaic Idealize.ShloMosaic.TcCoe Idealize.SL.Sem
open Idealize.ShloMosaic.Pipeline (Dat)

variable (m : (ℓ : Loc nD τ sig) → Buf (Elt Ideal) ℓ)

/-- The silu of a value, its sigmoid written as a quotient. -/
def silu (x : EReal) : EReal :=
  x * Ideal.div (Ideal.ofBits .f32 0x3F800000#32) (Ideal.ofBits .f32 0x3F800000#32 + Ideal.exp (-x))

/-- The table of layer `l` at row `r` of the conditions and column `n`. -/
def table (C : S16x1024.Idx → EReal) (W : S4x1024x6144.Idx → EReal) (B : S4x6144.Idx → EReal) (l : Fin 4) (r : Fin 16)
    (n : Fin 6144) : EReal :=
  (∑ k : Fin 1024, silu (C (ix2 r k)) * W (ix3 l k n)) + B (ix2 l n)

/-- The block indices of the windows at a grid point. -/
theorem idx : ∀ t : Fin grid0.N, win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] := by decide +kernel

/-- What a grid point stores, at a row and a column of its block. -/
theorem pay1_apply (x : Vec Ideal S16x1024 .f32) (w : Vec Ideal S1x1024x1536 .f32) (b : Vec Ideal S1x1x1536 .f32) (r : Fin 16)
    (j : Fin 1536) :
    k0_pay1 (F := Ideal) x w b (ix3 0 r j) = (∑ k : Fin 1024, silu (x (ix2 r k)) * w (ix3 0 k j)) + b (ix3 0 0 j) := by
  have zero : Ideal.ofBits .f32 0x00000000#32 = 0 := by simp [Ideal.ofBits, Ideal.ieee]
  unfold silu
  pointwise [k0_pay1]
  try simp only [zero, zero_sub]

/-- The conditions a grid point reads: the whole array. -/
theorem blk0 (c : Dev nD) (t : Fin cfg0.N) (r : Fin 16) (k : Fin 1024) :
    iblk m c 0 t (ix2 r k) = (m ((c.tc : Thread nD τ).loc main_arg0)) (ix2 r k) := by
  blk_ext [iblk, V, idx t]

/-- The block of weights a grid point reads, in the whole array's indices. -/
theorem blk1 (c : Dev nD) (t : Fin cfg0.N) (l : Fin 4) (k : Fin 1024) (n : Fin 6144) (j : Fin 1536)
    (hl : l.val = (grid0.coords t 0).val) (hn : n.val = (grid0.coords t 1).val * 1536 + j.val) :
    iblk m c 1 t (ix3 0 k j) = (m ((c.tc : Thread nD τ).loc main_arg1)) (ix3 l k n) := by
  blk_ext [iblk, V, idx t]

/-- The block of the bias a grid point reads, in the whole array's indices. -/
theorem blk2 (c : Dev nD) (t : Fin cfg0.N) (l : Fin 4) (n : Fin 6144) (j : Fin 1536)
    (hl : l.val = (grid0.coords t 0).val) (hn : n.val = (grid0.coords t 1).val * 1536 + j.val) :
    iblk m c 2 t (ix3 0 0 j) = (m ((c.tc : Thread nD τ).loc main_arg2)) (ix2 l n) := by
  have h : iblk m c 2 t (ix3 0 0 j) = V m c main_v0 (ix3 l 0 n) := by
    blk_ext [iblk, idx t]
  rw [h]
  entry_read
  pointwise

/-- Where the result's block of a grid point lies in the whole array. -/
theorem emb3 (t : Fin cfg0.N) (l : Fin 4) (r : Fin 16) (n : Fin 6144) (j : Fin 1536)
    (hl : l.val = (grid0.coords t 0).val) (hn : n.val = (grid0.coords t 1).val * 1536 + j.val) :
    ((cfg0.win 3).blk t).view.emb (ix3 0 r j) = (ix3 l r n : S4x16x6144.Idx) := by
  blk_ext [idx t]

/-- What the call leaves in the result array, at every index. -/
theorem final (c : Dev nD) :
    (dats m 0 c).arrAt 3 cfg0.N = fun i : S4x16x6144.Idx =>
      table (m ((c.tc : Thread nD τ).loc main_arg0)) (m ((c.tc : Thread nD τ).loc main_arg1))
        (m ((c.tc : Thread nD τ).loc main_arg2)) (i 0) (i 1) (i 2) := by
  refine (dats m 0 c).arrAt_eq_of_covers 3 _ (by decide +kernel) fun t hf y => ?_
  obtain ⟨r, j, rfl⟩ : ∃ (r : Fin 16) (j : Fin 1536), y = ix3 0 r j := ⟨y 1, y 2, by blk_ext⟩
  have h0 : (grid0.coords t 0).val < 4 := (grid0.coords t 0).isLt
  have h1 : (grid0.coords t 1).val < 4 := (grid0.coords t 1).isLt
  obtain ⟨l, hl⟩ : ∃ l : Fin 4, l.val = (grid0.coords t 0).val := ⟨⟨_, h0⟩, rfl⟩
  obtain ⟨n, hn⟩ : ∃ n : Fin 6144, n.val = (grid0.coords t 1).val * 1536 + j.val := ⟨⟨(grid0.coords t 1).val * 1536 + j.val, by omega⟩, rfl⟩
  rw [emb3 t l r n j hl hn]
  blk_simp
  show _ = table (m ((c.tc : Thread nD τ).loc main_arg0)) (m ((c.tc : Thread nD τ).loc main_arg1))
        (m ((c.tc : Thread nD τ).loc main_arg2)) l r n
  rw [after0_3]
  frame_out
  rw [pay1_apply, blk2 m c t l n j hl hn]
  unfold table
  simp only [blk0, blk1 m c t l _ n j hl hn]

end Cert.ModulationIdeal.Block

end
-- ==== Proof.ModRef.lean ====
/- The modulation table's reference, read at an index from its arguments. -/
module

public import proofs.«01_k».proof.Proof.Gen.ModulationRefIdeal.Read
public import proofs.«01_k».proof.Proof.ModValue

@[expose] public section

set_option maxRecDepth 16384

noncomputable section

namespace Cert.ModulationRefIdeal.Row

open Cert.ModulationRefIdeal Cert.ModulationRefIdeal.Gen Cert.ModulationRefIdeal.Read Idealize.ShloMosaic Idealize.ShloMosaic.TcCoe
open Cert.ModulationIdeal.Block (silu table)

variable (x0 : (⟨S16x1024, .f32⟩ : BufTy).Contents (Elt Ideal)) (x1 : (⟨S4x1024x6144, .f32⟩ : BufTy).Contents (Elt Ideal))
variable (x2 : (⟨S4x6144, .f32⟩ : BufTy).Contents (Elt Ideal))

/-- The reference's silu of a condition. -/
theorem silu_apply (r : Fin 16) (k : Fin 1024) : val_main_v0 (F := Ideal) x0 (ix2 r k) = silu (x0 (ix2 r k)) := by
  unfold silu
  pointwise [val_main_v0, val_main_call0_v5, val_main_call0_v4, val_main_call0_v3, val_main_call0_v2, val_main_call0_v1,
    val_main_call0_v0, val_main_call0_cst, val_main_call0_cst_0]

/-- The reference's table of layer `l` at row `r` and column `n`. -/
theorem out_apply (l : Fin 4) (r : Fin 16) (n : Fin 6144) :
    val_main_v5 (F := Ideal) x0 x1 x2 (ix3 l r n) = table x0 x1 x2 l r n := by
  have hs : ∀ r k, val_main_v0 (F := Ideal) x0 (ix2 r k) = silu (x0 (ix2 r k)) := silu_apply x0
  unfold val_main_v5 val_main_v2 val_main_v1 table
  generalize val_main_v0 (F := Ideal) x0 = y at hs ⊢
  pointwise [val_main_v4, val_main_v3]
  simp only [hs]
  exact congrArg (· + _) (Finset.sum_congr rfl fun k _ => mul_comm _ _)

end Cert.ModulationRefIdeal.Row

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_attn_pre
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.MlpUp
public import proofs.«01_k».proof.Proof.Gen.MlpUp.Skeleton
public import proofs.«01_k».proof.Proof.Gen.MlpUp.Launch
public import proofs.«01_k».proof.Proof.Gen.MlpUp.Points
public import proofs.«01_k».proof.Proof.Gen.MlpUp.Frame
public import proofs.«01_k».proof.Proof.Gen.MlpUpIdeal
public import proofs.«01_k».proof.Proof.Gen.MlpUpIdeal.Skeleton
public import proofs.«01_k».proof.Proof.Gen.MlpUpIdeal.Launch
public import proofs.«01_k».proof.Proof.Gen.MlpUpIdeal.Points
public import proofs.«01_k».proof.Proof.Gen.MlpUpIdeal.Frame
public import proofs.«01_k».proof.Proof.Gen.MlpUpIdeal.Value
public import proofs.«01_k».proof.Proof.Gen.MlpUpRefIdeal
public import proofs.«01_k».proof.Proof.Gen.MlpUpRefIdeal.Run
public import proofs.«01_k».proof.Proof.Gen.MlpUpRefIdeal.Read
public import proofs.«01_k».proof.Proof.Gen.MlpDown
public import proofs.«01_k».proof.Proof.Gen.MlpDown.Skeleton
public import proofs.«01_k».proof.Proof.Gen.MlpDown.Launch
public import proofs.«01_k».proof.Proof.Gen.MlpDown.Points
public import proofs.«01_k».proof.Proof.Gen.MlpDown.Frame
public import proofs.«01_k».proof.Proof.Gen.MlpDownIdeal
public import proofs.«01_k».proof.Proof.Gen.MlpDownIdeal.Skeleton
public import proofs.«01_k».proof.Proof.Gen.MlpDownIdeal.Launch
public import proofs.«01_k».proof.Proof.Gen.MlpDownIdeal.Points
public import proofs.«01_k».proof.Proof.Gen.MlpDownIdeal.Frame
public import proofs.«01_k».proof.Proof.Gen.MlpDownIdeal.Value
public import proofs.«01_k».proof.Proof.Gen.MlpDownRefIdeal
public import proofs.«01_k».proof.Proof.Gen.MlpDownRefIdeal.Run
public import proofs.«01_k».proof.Proof.Gen.MlpDownRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.AttnCtx
public import proofs.«01_k».proof.Proof.Gen.AttnCtx.Skeleton
public import proofs.«01_k».proof.Proof.Gen.AttnCtx.Launch
public import proofs.«01_k».proof.Proof.Gen.AttnCtx.Points
public import proofs.«01_k».proof.Proof.Gen.AttnCtx.Frame
public import proofs.«01_k».proof.Proof.Gen.AttnCtxIdeal
public import proofs.«01_k».proof.Proof.Gen.AttnCtxIdeal.Skeleton
public import proofs.«01_k».proof.Proof.Gen.AttnCtxIdeal.Launch
public import proofs.«01_k».proof.Proof.Gen.AttnCtxIdeal.Points
public import proofs.«01_k».proof.Proof.Gen.AttnCtxIdeal.Frame
public import proofs.«01_k».proof.Proof.Gen.AttnCtxIdeal.Value
public import proofs.«01_k».proof.Proof.Gen.AttnCtxRefIdeal
public import proofs.«01_k».proof.Proof.Gen.AttnCtxRefIdeal.Run
public import proofs.«01_k».proof.Proof.Gen.AttnCtxRefIdeal.Read
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationIdeal.Value
public import proofs.«01_k».proof.Proof.Gen.ModulationRefIdeal
public import proofs.«01_k».proof.Proof.Gen.ModulationRefIdeal.Run
public import proofs.«01_k».proof.Proof.Gen.ModulationRefIdeal.Read
public import proofs.«01_k».proof.Proof.Gen.Pre_attn_ctx_pre
public import proofs.«01_k».proof.Proof.AttnEq
public import proofs.«01_k».proof.Proof.UpValue
public import proofs.«01_k».proof.Proof.UpRef
public import proofs.«01_k».proof.Proof.DownValue
public import proofs.«01_k».proof.Proof.DownRef
public import proofs.«01_k».proof.Proof.OutValue
public import proofs.«01_k».proof.Proof.OutRef
public import proofs.«01_k».proof.Proof.InEq
public import proofs.«01_k».proof.Proof.CtxEq
public import proofs.«01_k».proof.Proof.ModRef
public import Idealize.ShloMosaic.Adequacy
public import Idealize.ShloMosaic.Init

@[expose] public section

noncomputable section

namespace Cert.Proof

open Idealize.ShloMosaic Idealize.ShloMosaic.TcCoe Idealize.SL.Sem

/-- The attention's plain mathematics runs, leaves its arguments as they were and every counter at zero. -/
theorem attnRef_frame : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run m ρ)

/-- The attention: the optimised call and the plain mathematics leave the same array. -/
theorem attn : Cert.algebraic_AttnIdeal_AttnRefIdeal_pre_attn_pre := by
  pair_intro
  · run_from Cert.AttnIdeal.Value.run_blocks m g
  · run_from Cert.AttnRefIdeal.Value.run m' g'
    rw [Cert.AttnRefIdeal.Read.val_main_v60_eq m' c, (hagree c).1, (hagree c).2.1, (hagree c).2.2.1, (hagree c).2.2.2.1,
      (hagree c).2.2.2.2, Cert.AttnIdeal.Block.final m c]
    obtain ⟨h0, h1, h2, h3, h4⟩ := hpre c
    have hok := Cert.AttnEq.ok_of _ _ _ _ _ h0 h1 h2 h3 h4
    refine Eq.symm (funext fun i => ?_)
    obtain ⟨b, n, l, rfl⟩ : ∃ (b : Fin 8) (n : Fin 4096) (l : Fin 256), i = ix3 b n l := ⟨i 0, i 1, i 2, by blk_ext⟩
    exact Cert.AttnEq.out_eq hok _ b n l

/-- The first MLP call's plain mathematics runs, leaves its arguments as they were and every counter at zero. -/
theorem mlpUpRef_frame : Cert.quiescent_MlpUpRefIdeal := fun m ρ _ =>
  (θ_run Cert.MlpUpRefIdeal.defs _ _).mono (fun r h => ⟨fun c => (h c).2, sem_eq_zero_of_no_sems (by decide) r.2⟩)
    (Cert.MlpUpRefIdeal.Value.run m ρ)

/-- The first MLP call: the optimised call and the plain mathematics leave the same array. -/
theorem mlpUp : Cert.algebraic_MlpUpIdeal_MlpUpRefIdeal := by
  pair_intro
  · run_from Cert.MlpUpIdeal.Value.run_blocks m g
  · run_from Cert.MlpUpRefIdeal.Value.run m' g'
    rw [Cert.MlpUpRefIdeal.Read.val_main_v59_eq m' c, (hagree c).1, (hagree c).2.1, (hagree c).2.2.1, (hagree c).2.2.2,
      Cert.MlpUpIdeal.Block.final m c]
    refine Eq.symm (funext fun i => ?_)
    obtain ⟨b, n, l, rfl⟩ : ∃ (b : Fin 8) (n : Fin 4352) (l : Fin 4096), i = ix3 b n l := ⟨i 0, i 1, i 2, by blk_ext⟩
    exact (Cert.MlpUpRefIdeal.Row.out_apply _ _ _ _ b n l).symm

/-- The second MLP call's plain mathematics runs, leaves its arguments as they were and every counter at zero. -/
theorem mlpDownRef_frame : Cert.quiescent_MlpDownRefIdeal := fun m ρ _ =>
  (θ_run Cert.MlpDownRefIdeal.defs _ _).mono (fun r h => ⟨fun c => (h c).2, sem_eq_zero_of_no_sems (by decide) r.2⟩)
    (Cert.MlpDownRefIdeal.Value.run m ρ)

/-- The second MLP call: the optimised call and the plain mathematics leave the same array. -/
theorem mlpDown : Cert.algebraic_MlpDownIdeal_MlpDownRefIdeal := by
  pair_intro
  · run_from Cert.MlpDownIdeal.Value.run_blocks m g
  · run_from Cert.MlpDownRefIdeal.Value.run m' g'
    rw [Cert.MlpDownRefIdeal.Read.val_main_v19_eq, (hagree c).2.2.2,
      Cert.MlpDownIdeal.Block.final m c]
    refine Eq.symm (funext fun i => ?_)
    obtain ⟨b, n, l, rfl⟩ : ∃ (b : Fin 8) (n : Fin 4352) (l : Fin 1024), i = ix3 b n l := ⟨i 0, i 1, i 2, by blk_ext⟩
    exact (Cert.MlpDownRefIdeal.Row.out_apply _ _ _ _ b n l).symm

/-- The output projection's plain mathematics runs, leaves its arguments as they were and every counter at zero. -/
theorem outProjRef_frame : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run m ρ)

/-- The output projection: the optimised call and the plain mathematics leave the same array. -/
theorem outProj : Cert.algebraic_OutProjIdeal_OutProjRefIdeal := by
  pair_intro
  · run_from Cert.OutProjIdeal.Value.run_blocks m g
  · run_from Cert.OutProjRefIdeal.Value.run m' g'
    rw [Cert.OutProjRefIdeal.Read.val_main_v24_eq, (hagree c).2.2.2.2.1, (hagree c).2.2.2.2.2.1, (hagree c).2.2.2.2.2.2.1, (hagree c).2.2.2.2.2.2.2.1, (hagree c).2.2.2.2.2.2.2.2,
      Cert.OutProjIdeal.Block.final m c]
    refine Eq.symm (funext fun i => ?_)
    obtain ⟨b, n, l, rfl⟩ : ∃ (b : Fin 8) (n : Fin 4352) (l : Fin 1024), i = ix3 b n l := ⟨i 0, i 1, i 2, by blk_ext⟩
    exact (Cert.OutProjRefIdeal.Row.out_apply _ _ _ _ _ _ _ _ _ b n l).symm

/-- The input projection's plain mathematics runs, leaves its arguments as they were and every counter at zero. -/
theorem inProjRef_frame : Cert.quiescent_InProjRefIdeal := fun m ρ _ =>
  (θ_run Cert.InProjRefIdeal.defs _ _).mono (fun r h => ⟨fun c => (h c).2.2.2.2.2.2, sem_eq_zero_of_no_sems (by decide) r.2⟩)
    (Cert.InProjRefIdeal.Value.run m ρ)

/-- The context attention's plain mathematics runs, leaves its arguments as they were and every counter at zero. -/
theorem attnCtxRef_frame : Cert.quiescent_AttnCtxRefIdeal := fun m ρ _ =>
  (θ_run Cert.AttnCtxRefIdeal.defs _ _).mono (fun r h => ⟨fun c => (h c).2, sem_eq_zero_of_no_sems (by decide) r.2⟩)
    (Cert.AttnCtxRefIdeal.Value.run m ρ)

/-- The context tokens' attention: the optimised call and the plain mathematics leave the same array. -/
theorem attnCtx : Cert.algebraic_AttnCtxIdeal_AttnCtxRefIdeal_pre_attn_ctx_pre := by
  pair_intro
  · run_from Cert.AttnCtxIdeal.Value.run_blocks m g
  · run_from Cert.AttnCtxRefIdeal.Value.run m' g'
    rw [Cert.AttnCtxRefIdeal.Read.val_main_v61_eq m' c, (hagree c).1, (hagree c).2.1, (hagree c).2.2.1, (hagree c).2.2.2.1,
      (hagree c).2.2.2.2, Cert.AttnCtxIdeal.Block.final m c]
    obtain ⟨h0, h1, h2, h3, h4⟩ := hpre c
    have hok := Cert.CtxEq.ok_of _ _ _ _ _ h0 h1 h2 h3 h4
    refine Eq.symm (funext fun i => ?_)
    obtain ⟨b, n, l, rfl⟩ : ∃ (b : Fin 8) (n : Fin 256) (l : Fin 256), i = ix3 b n l := ⟨i 0, i 1, i 2, by blk_ext⟩
    exact Cert.CtxEq.out_eq hok _ b n l

/-- The modulation table's plain mathematics runs, leaves its arguments as they were and every counter at zero. -/
theorem modulationRef_frame : Cert.quiescent_ModulationRefIdeal := fun m ρ _ =>
  (θ_run Cert.ModulationRefIdeal.defs _ _).mono (fun r h => ⟨fun c => (h c).2, sem_eq_zero_of_no_sems (by decide) r.2⟩)
    (Cert.ModulationRefIdeal.Value.run m ρ)

/-- The modulation table: the optimised call and the plain mathematics leave the same array. -/
theorem modulation : Cert.algebraic_ModulationIdeal_ModulationRefIdeal := by
  pair_intro
  · run_from Cert.ModulationIdeal.Value.run_blocks m g
  · run_from Cert.ModulationRefIdeal.Value.run m' g'
    rw [Cert.ModulationRefIdeal.Read.val_main_v5_eq,
      Cert.ModulationIdeal.Block.final m c]
    refine Eq.symm (funext fun i => ?_)
    obtain ⟨l, r, n, rfl⟩ : ∃ (l : Fin 4) (r : Fin 16) (n : Fin 6144), i = ix3 l r n := ⟨i 0, i 1, i 2, by blk_ext⟩
    exact (Cert.ModulationRefIdeal.Row.out_apply _ _ _ l r n).symm

/-- The certificate's claim: the frames, the unchanged kernels and the equalities of the seven calls. -/
theorem claim : Cert.Claim := ⟨Cert.Attn.Gen.facts, Cert.AttnIdeal.Gen.facts, Cert.AttnRefIdeal.Gen.facts,
  Cert.MlpUp.Gen.facts, Cert.MlpUpIdeal.Gen.facts, Cert.MlpUpRefIdeal.Gen.facts,
  Cert.MlpDown.Gen.facts, Cert.MlpDownIdeal.Gen.facts, Cert.MlpDownRefIdeal.Gen.facts,
  Cert.OutProj.Gen.facts, Cert.OutProjIdeal.Gen.facts, Cert.OutProjRefIdeal.Gen.facts,
  Cert.InProj.Gen.facts, Cert.InProjIdeal.Gen.facts, Cert.InProjRefIdeal.Gen.facts,
  Cert.AttnCtx.Gen.facts, Cert.AttnCtxIdeal.Gen.facts, Cert.AttnCtxRefIdeal.Gen.facts,
  Cert.Modulation.Gen.facts, Cert.ModulationIdeal.Gen.facts, Cert.ModulationRefIdeal.Gen.facts,
  Cert.Pre_attn_pre.Gen.facts, Cert.Pre_attn_ctx_pre.Gen.facts,
  fun m ρ _ => Cert.Attn.Gen.frame m ρ,
  fun m ρ _ => Cert.AttnIdeal.Gen.frame m ρ,
  fun m ρ _ => Cert.AttnIdeal.Gen.frame m ρ,
  attnRef_frame,
  fun m ρ _ => attnRef_frame m ρ trivial,
  fun m ρ _ => Cert.MlpUp.Gen.frame m ρ,
  fun m ρ _ => Cert.MlpUpIdeal.Gen.frame m ρ,
  mlpUpRef_frame,
  fun m ρ _ => Cert.MlpDown.Gen.frame m ρ,
  fun m ρ _ => Cert.MlpDownIdeal.Gen.frame m ρ,
  mlpDownRef_frame,
  fun m ρ _ => Cert.OutProj.Gen.frame m ρ,
  fun m ρ _ => Cert.OutProjIdeal.Gen.frame m ρ,
  outProjRef_frame,
  fun m ρ _ => Cert.InProj.Gen.frame m ρ,
  fun m ρ _ => Cert.InProjIdeal.Gen.frame m ρ,
  inProjRef_frame,
  fun m ρ _ => Cert.AttnCtx.Gen.frame m ρ,
  fun m ρ _ => Cert.AttnCtxIdeal.Gen.frame m ρ,
  fun m ρ _ => Cert.AttnCtxIdeal.Gen.frame m ρ,
  attnCtxRef_frame,
  fun m ρ _ => attnCtxRef_frame m ρ trivial,
  fun m ρ _ => Cert.Modulation.Gen.frame m ρ,
  fun m ρ _ => Cert.ModulationIdeal.Gen.frame m ρ,
  modulationRef_frame,
  trivial,
  attn,
  trivial,
  mlpUp,
  trivial,
  mlpDown,
  trivial,
  outProj,
  trivial,
  Cert.InEq.inProj,
  trivial,
  attnCtx,
  trivial,
  modulation⟩

end Cert.Proof

end
